-- ==== Defs.lean ====
def Pre_Gm (m : (ℓ : Loc Cert.Gm.nD Cert.Gm.τ Cert.Gm.sig) → Buf (Elt Bits) ℓ) : Prop :=
  True

def Pre_GmIdeal (m : (ℓ : Loc Cert.GmIdeal.nD Cert.GmIdeal.τ Cert.GmIdeal.sig) → Buf (Elt Ideal) ℓ) : Prop :=
  True

def Pre_GmRefIdeal (m : (ℓ : Loc Cert.GmRefIdeal.nD Cert.GmRefIdeal.τ Cert.GmRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnMid (m : (ℓ : Loc Cert.FfnMid.nD Cert.FfnMid.τ Cert.FfnMid.sig) → Buf (Elt Bits) ℓ) : Prop :=
  True

def Pre_FfnMidIdeal (m : (ℓ : Loc Cert.FfnMidIdeal.nD Cert.FfnMidIdeal.τ Cert.FfnMidIdeal.sig) → Buf (Elt Ideal) ℓ) : Prop :=
  True

def Pre_FfnMidRefIdeal (m : (ℓ : Loc Cert.FfnMidRefIdeal.nD Cert.FfnMidRefIdeal.τ Cert.FfnMidRefIdeal.sig) → Buf (Elt Ideal) ℓ) : Prop :=
  True

def Pre_DnProj (m : (ℓ : Loc Cert.DnProj.nD Cert.DnProj.τ Cert.DnProj.sig) → Buf (Elt Bits) ℓ) : Prop :=
  True

def Pre_DnProjIdeal (m : (ℓ : Loc Cert.DnProjIdeal.nD Cert.DnProjIdeal.τ Cert.DnProjIdeal.sig) → Buf (Elt Ideal) ℓ) : Prop :=
  True

def Pre_DnProjRefIdeal (m : (ℓ : Loc Cert.DnProjRefIdeal.nD Cert.DnProjRefIdeal.τ Cert.DnProjRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_pre [hPre_attn_pre : Cert.Pre_attn_pre.Facts] (m : (ℓ : Loc Cert.AttnIdeal.nD Cert.AttnIdeal.τ Cert.AttnIdeal.sig) → Buf (Elt Ideal) ℓ) : Prop :=
  ∀ c : Dev Cert.AttnIdeal.nD,
    (Cert.Pre_attn_pre.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_pre [hPre_attn_pre : Cert.Pre_attn_pre.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_pre.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1))) = (fun _ => 1#1)

def Pre_AttnDn (m : (ℓ : Loc Cert.AttnDn.nD Cert.AttnDn.τ Cert.AttnDn.sig) → Buf (Elt Bits) ℓ) : Prop :=
  True

def Pre_AttnDnIdeal (m : (ℓ : Loc Cert.AttnDnIdeal.nD Cert.AttnDnIdeal.τ Cert.AttnDnIdeal.sig) → Buf (Elt Ideal) ℓ) : Prop :=
  True

def Pre_AttnDnIdeal_attndn_pre [hPre_attndn_pre : Cert.Pre_attndn_pre.Facts] (m : (ℓ : Loc Cert.AttnDnIdeal.nD Cert.AttnDnIdeal.τ Cert.AttnDnIdeal.sig) → Buf (Elt Ideal) ℓ) : Prop :=
  ∀ c : Dev Cert.AttnDnIdeal.nD,
    (Cert.Pre_attndn_pre.fn (F := Ideal) (m ((c.tc : Thread Cert.AttnDnIdeal.nD Cert.AttnDnIdeal.τ).loc Cert.AttnDnIdeal.main_arg0)) (m ((c.tc : Thread Cert.AttnDnIdeal.nD Cert.AttnDnIdeal.τ).loc Cert.AttnDnIdeal.main_arg1))) = (fun _ => 1#1)

def Pre_AttnDnRefIdeal (m : (ℓ : Loc Cert.AttnDnRefIdeal.nD Cert.AttnDnRefIdeal.τ Cert.AttnDnRefIdeal.sig) → Buf (Elt Ideal) ℓ) : Prop :=
  True

def Pre_AttnDnRefIdeal_attndn_pre [hPre_attndn_pre : Cert.Pre_attndn_pre.Facts] (m : (ℓ : Loc Cert.AttnDnRefIdeal.nD Cert.AttnDnRefIdeal.τ Cert.AttnDnRefIdeal.sig) → Buf (Elt Ideal) ℓ) : Prop :=
  ∀ c : Dev Cert.AttnDnRefIdeal.nD,
    (Cert.Pre_attndn_pre.fn (F := Ideal) (m ((c.tc : Thread Cert.AttnDnRefIdeal.nD Cert.AttnDnRefIdeal.τ).loc Cert.AttnDnRefIdeal.main_arg0)) (m ((c.tc : Thread Cert.AttnDnRefIdeal.nD Cert.AttnDnRefIdeal.τ).loc Cert.AttnDnRefIdeal.main_arg1))) = (fun _ => 1#1)

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_Dn (m : (ℓ : Loc Cert.Dn.nD Cert.Dn.τ Cert.Dn.sig) → Buf (Elt Bits) ℓ) : Prop :=
  True

def Pre_DnIdeal (m : (ℓ : Loc Cert.DnIdeal.nD Cert.DnIdeal.τ Cert.DnIdeal.sig) → Buf (Elt Ideal) ℓ) : Prop :=
  True

def quiescent_Gm [hGm : Cert.Gm.Facts] : Prop :=
  ∀ (m : (ℓ : Loc Cert.Gm.nD Cert.Gm.τ Cert.Gm.sig) → Buf (Elt Bits) ℓ) (g : Dev Cert.Gm.nD → PrngReg), Pre_Gm m →
    θ_run (Cert.Gm.defs (F := Bits)) (onTc (τ := Cert.Gm.τ) (Cert.Gm.main (F := Bits))) ⟨m, fun _ => 0, g⟩ (fun r => (∀ c : Dev Cert.Gm.nD,
      r.2.mem ((c.tc : Thread Cert.Gm.nD Cert.Gm.τ).loc Cert.Gm.main_arg0) = m ((c.tc : Thread Cert.Gm.nD Cert.Gm.τ).loc Cert.Gm.main_arg0)
      ∧ r.2.mem ((c.tc : Thread Cert.Gm.nD Cert.Gm.τ).loc Cert.Gm.main_arg1) = m ((c.tc : Thread Cert.Gm.nD Cert.Gm.τ).loc Cert.Gm.main_arg1)
      ∧ r.2.mem ((c.tc : Thread Cert.Gm.nD Cert.Gm.τ).loc Cert.Gm.main_arg2) = m ((c.tc : Thread Cert.Gm.nD Cert.Gm.τ).loc Cert.Gm.main_arg2)
      ∧ r.2.mem ((c.tc : Thread Cert.Gm.nD Cert.Gm.τ).loc Cert.Gm.main_arg3) = m ((c.tc : Thread Cert.Gm.nD Cert.Gm.τ).loc Cert.Gm.main_arg3))
      ∧ r.2.sem = fun _ => 0)

def quiescent_GmIdeal [hGmIdeal : Cert.GmIdeal.Facts] : Prop :=
  ∀ (m : (ℓ : Loc Cert.GmIdeal.nD Cert.GmIdeal.τ Cert.GmIdeal.sig) → Buf (Elt Ideal) ℓ) (g : Dev Cert.GmIdeal.nD → PrngReg), Pre_GmIdeal m →
    θ_run (Cert.GmIdeal.defs (F := Ideal)) (onTc (τ := Cert.GmIdeal.τ) (Cert.GmIdeal.main (F := Ideal))) ⟨m, fun _ => 0, g⟩ (fun r => (∀ c : Dev Cert.GmIdeal.nD,
      r.2.mem ((c.tc : Thread Cert.GmIdeal.nD Cert.GmIdeal.τ).loc Cert.GmIdeal.main_arg0) = m ((c.tc : Thread Cert.GmIdeal.nD Cert.GmIdeal.τ).loc Cert.GmIdeal.main_arg0)
      ∧ r.2.mem ((c.tc : Thread Cert.GmIdeal.nD Cert.GmIdeal.τ).loc Cert.GmIdeal.main_arg1) = m ((c.tc : Thread Cert.GmIdeal.nD Cert.GmIdeal.τ).loc Cert.GmIdeal.main_arg1)
      ∧ r.2.mem ((c.tc : Thread Cert.GmIdeal.nD Cert.GmIdeal.τ).loc Cert.GmIdeal.main_arg2) = m ((c.tc : Thread Cert.GmIdeal.nD Cert.GmIdeal.τ).loc Cert.GmIdeal.main_arg2)
      ∧ r.2.mem ((c.tc : Thread Cert.GmIdeal.nD Cert.GmIdeal.τ).loc Cert.GmIdeal.main_arg3) = m ((c.tc : Thread Cert.GmIdeal.nD Cert.GmIdeal.τ).loc Cert.GmIdeal.main_arg3))
      ∧ r.2.sem = fun _ => 0)

def quiescent_GmRefIdeal [hGmRefIdeal : Cert.GmRefIdeal.Facts] : Prop :=
  ∀ (m : (ℓ : Loc Cert.GmRefIdeal.nD Cert.GmRefIdeal.τ Cert.GmRefIdeal.sig) → Buf (Elt Ideal) ℓ) (g : Dev Cert.GmRefIdeal.nD → PrngReg), Pre_GmRefIdeal m →
    θ_run (Cert.GmRefIdeal.defs (F := Ideal)) (onTc (τ := Cert.GmRefIdeal.τ) (Cert.GmRefIdeal.main (F := Ideal))) ⟨m, fun _ => 0, g⟩ (fun r => (∀ c : Dev Cert.GmRefIdeal.nD,
      r.2.mem ((c.tc : Thread Cert.GmRefIdeal.nD Cert.GmRefIdeal.τ).loc Cert.GmRefIdeal.main_arg0) = m ((c.tc : Thread Cert.GmRefIdeal.nD Cert.GmRefIdeal.τ).loc Cert.GmRefIdeal.main_arg0)
      ∧ r.2.mem ((c.tc : Thread Cert.GmRefIdeal.nD Cert.GmRefIdeal.τ).loc Cert.GmRefIdeal.main_arg1) = m ((c.tc : Thread Cert.GmRefIdeal.nD Cert.GmRefIdeal.τ).loc Cert.GmRefIdeal.main_arg1)
      ∧ r.2.mem ((c.tc : Thread Cert.GmRefIdeal.nD Cert.GmRefIdeal.τ).loc Cert.GmRefIdeal.main_arg2) = m ((c.tc : Thread Cert.GmRefIdeal.nD Cert.GmRefIdeal.τ).loc Cert.GmRefIdeal.main_arg2)
      ∧ r.2.mem ((c.tc : Thread Cert.GmRefIdeal.nD Cert.GmRefIdeal.τ).loc Cert.GmRefIdeal.main_arg3) = m ((c.tc : Thread Cert.GmRefIdeal.nD Cert.GmRefIdeal.τ).loc Cert.GmRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1)
      ∧ r.2.mem ((c.tc : Thread Cert.KvRefIdeal.nD Cert.KvRefIdeal.τ).loc Cert.KvRefIdeal.main_arg2) = m ((c.tc : Thread Cert.KvRefIdeal.nD Cert.KvRefIdeal.τ).loc Cert.KvRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnMid [hFfnMid : Cert.FfnMid.Facts] : Prop :=
  ∀ (m : (ℓ : Loc Cert.FfnMid.nD Cert.FfnMid.τ Cert.FfnMid.sig) → Buf (Elt Bits) ℓ) (g : Dev Cert.FfnMid.nD → PrngReg), Pre_FfnMid m →
    θ_run (Cert.FfnMid.defs (F := Bits)) (onTc (τ := Cert.FfnMid.τ) (Cert.FfnMid.main (F := Bits))) ⟨m, fun _ => 0, g⟩ (fun r => (∀ c : Dev Cert.FfnMid.nD,
      r.2.mem ((c.tc : Thread Cert.FfnMid.nD Cert.FfnMid.τ).loc Cert.FfnMid.main_arg0) = m ((c.tc : Thread Cert.FfnMid.nD Cert.FfnMid.τ).loc Cert.FfnMid.main_arg0)
      ∧ r.2.mem ((c.tc : Thread Cert.FfnMid.nD Cert.FfnMid.τ).loc Cert.FfnMid.main_arg1) = m ((c.tc : Thread Cert.FfnMid.nD Cert.FfnMid.τ).loc Cert.FfnMid.main_arg1)
      ∧ r.2.mem ((c.tc : Thread Cert.FfnMid.nD Cert.FfnMid.τ).loc Cert.FfnMid.main_arg2) = m ((c.tc : Thread Cert.FfnMid.nD Cert.FfnMid.τ).loc Cert.FfnMid.main_arg2)
      ∧ r.2.mem ((c.tc : Thread Cert.FfnMid.nD Cert.FfnMid.τ).loc Cert.FfnMid.main_arg3) = m ((c.tc : Thread Cert.FfnMid.nD Cert.FfnMid.τ).loc Cert.FfnMid.main_arg3)
      ∧ r.2.mem ((c.tc : Thread Cert.FfnMid.nD Cert.FfnMid.τ).loc Cert.FfnMid.main_arg4) = m ((c.tc : Thread Cert.FfnMid.nD Cert.FfnMid.τ).loc Cert.FfnMid.main_arg4))
      ∧ r.2.sem = fun _ => 0)

def quiescent_FfnMidIdeal [hFfnMidIdeal : Cert.FfnMidIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg), Pre_FfnMidIdeal m →
    θ_run (Cert.FfnMidIdeal.defs (F := Ideal)) (onTc (τ := Cert.FfnMidIdeal.τ) (Cert.FfnMidIdeal.main (F := Ideal))) ⟨m, fun _ => 0, g⟩ (fun r => (∀ c : Dev Cert.FfnMidIdeal.nD,
      r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
      ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
      ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
      ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
      ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4))
      ∧ r.2.sem = fun _ => 0)

def quiescent_FfnMidRefIdeal [hFfnMidRefIdeal : Cert.FfnMidRefIdeal.Facts] : Prop :=
  ∀ (m : (ℓ : Loc Cert.FfnMidRefIdeal.nD Cert.FfnMidRefIdeal.τ Cert.FfnMidRefIdeal.sig) → Buf (Elt Ideal) ℓ) (g : Dev Cert.FfnMidRefIdeal.nD → PrngReg), Pre_FfnMidRefIdeal m →
    θ_run (Cert.FfnMidRefIdeal.defs (F := Ideal)) (onTc (τ := Cert.FfnMidRefIdeal.τ) (Cert.FfnMidRefIdeal.main (F := Ideal))) ⟨m, fun _ => 0, g⟩ (fun r => (∀ c : Dev Cert.FfnMidRefIdeal.nD,
      r.2.mem ((c.tc : Thread Cert.FfnMidRefIdeal.nD Cert.FfnMidRefIdeal.τ).loc Cert.FfnMidRefIdeal.main_arg0) = m ((c.tc : Thread Cert.FfnMidRefIdeal.nD Cert.FfnMidRefIdeal.τ).loc Cert.FfnMidRefIdeal.main_arg0)
      ∧ r.2.mem ((c.tc : Thread Cert.FfnMidRefIdeal.nD Cert.FfnMidRefIdeal.τ).loc Cert.FfnMidRefIdeal.main_arg1) = m ((c.tc : Thread Cert.FfnMidRefIdeal.nD Cert.FfnMidRefIdeal.τ).loc Cert.FfnMidRefIdeal.main_arg1)
      ∧ r.2.mem ((c.tc : Thread Cert.FfnMidRefIdeal.nD Cert.FfnMidRefIdeal.τ).loc Cert.FfnMidRefIdeal.main_arg2) = m ((c.tc : Thread Cert.FfnMidRefIdeal.nD Cert.FfnMidRefIdeal.τ).loc Cert.FfnMidRefIdeal.main_arg2)
      ∧ r.2.mem ((c.tc : Thread Cert.FfnMidRefIdeal.nD Cert.FfnMidRefIdeal.τ).loc Cert.FfnMidRefIdeal.main_arg3) = m ((c.tc : Thread Cert.FfnMidRefIdeal.nD Cert.FfnMidRefIdeal.τ).loc Cert.FfnMidRefIdeal.main_arg3)
      ∧ r.2.mem ((c.tc : Thread Cert.FfnMidRefIdeal.nD Cert.FfnMidRefIdeal.τ).loc Cert.FfnMidRefIdeal.main_arg4) = m ((c.tc : Thread Cert.FfnMidRefIdeal.nD Cert.FfnMidRefIdeal.τ).loc Cert.FfnMidRefIdeal.main_arg4))
      ∧ r.2.sem = fun _ => 0)

def quiescent_DnProj [hDnProj : Cert.DnProj.Facts] : Prop :=
  ∀ (m : (ℓ : Loc Cert.DnProj.nD Cert.DnProj.τ Cert.DnProj.sig) → Buf (Elt Bits) ℓ) (g : Dev Cert.DnProj.nD → PrngReg), Pre_DnProj m →
    θ_run (Cert.DnProj.defs (F := Bits)) (onTc (τ := Cert.DnProj.τ) (Cert.DnProj.main (F := Bits))) ⟨m, fun _ => 0, g⟩ (fun r => (∀ c : Dev Cert.DnProj.nD,
      r.2.mem ((c.tc : Thread Cert.DnProj.nD Cert.DnProj.τ).loc Cert.DnProj.main_arg0) = m ((c.tc : Thread Cert.DnProj.nD Cert.DnProj.τ).loc Cert.DnProj.main_arg0)
      ∧ r.2.mem ((c.tc : Thread Cert.DnProj.nD Cert.DnProj.τ).loc Cert.DnProj.main_arg1) = m ((c.tc : Thread Cert.DnProj.nD Cert.DnProj.τ).loc Cert.DnProj.main_arg1)
      ∧ r.2.mem ((c.tc : Thread Cert.DnProj.nD Cert.DnProj.τ).loc Cert.DnProj.main_arg2) = m ((c.tc : Thread Cert.DnProj.nD Cert.DnProj.τ).loc Cert.DnProj.main_arg2))
      ∧ r.2.sem = fun _ => 0)

def quiescent_DnProjIdeal [hDnProjIdeal : Cert.DnProjIdeal.Facts] : Prop :=
  ∀ (m : (ℓ : Loc Cert.DnProjIdeal.nD Cert.DnProjIdeal.τ Cert.DnProjIdeal.sig) → Buf (Elt Ideal) ℓ) (g : Dev Cert.DnProjIdeal.nD → PrngReg), Pre_DnProjIdeal m →
    θ_run (Cert.DnProjIdeal.defs (F := Ideal)) (onTc (τ := Cert.DnProjIdeal.τ) (Cert.DnProjIdeal.main (F := Ideal))) ⟨m, fun _ => 0, g⟩ (fun r => (∀ c : Dev Cert.DnProjIdeal.nD,
      r.2.mem ((c.tc : Thread Cert.DnProjIdeal.nD Cert.DnProjIdeal.τ).loc Cert.DnProjIdeal.main_arg0) = m ((c.tc : Thread Cert.DnProjIdeal.nD Cert.DnProjIdeal.τ).loc Cert.DnProjIdeal.main_arg0)
      ∧ r.2.mem ((c.tc : Thread Cert.DnProjIdeal.nD Cert.DnProjIdeal.τ).loc Cert.DnProjIdeal.main_arg1) = m ((c.tc : Thread Cert.DnProjIdeal.nD Cert.DnProjIdeal.τ).loc Cert.DnProjIdeal.main_arg1)
      ∧ r.2.mem ((c.tc : Thread Cert.DnProjIdeal.nD Cert.DnProjIdeal.τ).loc Cert.DnProjIdeal.main_arg2) = m ((c.tc : Thread Cert.DnProjIdeal.nD Cert.DnProjIdeal.τ).loc Cert.DnProjIdeal.main_arg2))
      ∧ r.2.sem = fun _ => 0)

def quiescent_DnProjRefIdeal [hDnProjRefIdeal : Cert.DnProjRefIdeal.Facts] : Prop :=
  ∀ (m : (ℓ : Loc Cert.DnProjRefIdeal.nD Cert.DnProjRefIdeal.τ Cert.DnProjRefIdeal.sig) → Buf (Elt Ideal) ℓ) (g : Dev Cert.DnProjRefIdeal.nD → PrngReg), Pre_DnProjRefIdeal m →
    θ_run (Cert.DnProjRefIdeal.defs (F := Ideal)) (onTc (τ := Cert.DnProjRefIdeal.τ) (Cert.DnProjRefIdeal.main (F := Ideal))) ⟨m, fun _ => 0, g⟩ (fun r => (∀ c : Dev Cert.DnProjRefIdeal.nD,
      r.2.mem ((c.tc : Thread Cert.DnProjRefIdeal.nD Cert.DnProjRefIdeal.τ).loc Cert.DnProjRefIdeal.main_arg0) = m ((c.tc : Thread Cert.DnProjRefIdeal.nD Cert.DnProjRefIdeal.τ).loc Cert.DnProjRefIdeal.main_arg0)
      ∧ r.2.mem ((c.tc : Thread Cert.DnProjRefIdeal.nD Cert.DnProjRefIdeal.τ).loc Cert.DnProjRefIdeal.main_arg1) = m ((c.tc : Thread Cert.DnProjRefIdeal.nD Cert.DnProjRefIdeal.τ).loc Cert.DnProjRefIdeal.main_arg1)
      ∧ r.2.mem ((c.tc : Thread Cert.DnProjRefIdeal.nD Cert.DnProjRefIdeal.τ).loc Cert.DnProjRefIdeal.main_arg2) = m ((c.tc : Thread Cert.DnProjRefIdeal.nD Cert.DnProjRefIdeal.τ).loc Cert.DnProjRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnIdeal_pre_attn_pre [hAttnIdeal : Cert.AttnIdeal.Facts] [hPre_attn_pre : Cert.Pre_attn_pre.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_pre m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_AttnRefIdeal_pre_attn_pre [hAttnRefIdeal : Cert.AttnRefIdeal.Facts] [hPre_attn_pre : Cert.Pre_attn_pre.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_pre m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1))
      ∧ r.2.sem = fun _ => 0)

def quiescent_AttnDn [hAttnDn : Cert.AttnDn.Facts] : Prop :=
  ∀ (m : (ℓ : Loc Cert.AttnDn.nD Cert.AttnDn.τ Cert.AttnDn.sig) → Buf (Elt Bits) ℓ) (g : Dev Cert.AttnDn.nD → PrngReg), Pre_AttnDn m →
    θ_run (Cert.AttnDn.defs (F := Bits)) (onTc (τ := Cert.AttnDn.τ) (Cert.AttnDn.main (F := Bits))) ⟨m, fun _ => 0, g⟩ (fun r => (∀ c : Dev Cert.AttnDn.nD,
      r.2.mem ((c.tc : Thread Cert.AttnDn.nD Cert.AttnDn.τ).loc Cert.AttnDn.main_arg0) = m ((c.tc : Thread Cert.AttnDn.nD Cert.AttnDn.τ).loc Cert.AttnDn.main_arg0)
      ∧ r.2.mem ((c.tc : Thread Cert.AttnDn.nD Cert.AttnDn.τ).loc Cert.AttnDn.main_arg1) = m ((c.tc : Thread Cert.AttnDn.nD Cert.AttnDn.τ).loc Cert.AttnDn.main_arg1))
      ∧ r.2.sem = fun _ => 0)

def quiescent_AttnDnIdeal [hAttnDnIdeal : Cert.AttnDnIdeal.Facts] : Prop :=
  ∀ (m : (ℓ : Loc Cert.AttnDnIdeal.nD Cert.AttnDnIdeal.τ Cert.AttnDnIdeal.sig) → Buf (Elt Ideal) ℓ) (g : Dev Cert.AttnDnIdeal.nD → PrngReg), Pre_AttnDnIdeal m →
    θ_run (Cert.AttnDnIdeal.defs (F := Ideal)) (onTc (τ := Cert.AttnDnIdeal.τ) (Cert.AttnDnIdeal.main (F := Ideal))) ⟨m, fun _ => 0, g⟩ (fun r => (∀ c : Dev Cert.AttnDnIdeal.nD,
      r.2.mem ((c.tc : Thread Cert.AttnDnIdeal.nD Cert.AttnDnIdeal.τ).loc Cert.AttnDnIdeal.main_arg0) = m ((c.tc : Thread Cert.AttnDnIdeal.nD Cert.AttnDnIdeal.τ).loc Cert.AttnDnIdeal.main_arg0)
      ∧ r.2.mem ((c.tc : Thread Cert.AttnDnIdeal.nD Cert.AttnDnIdeal.τ).loc Cert.AttnDnIdeal.main_arg1) = m ((c.tc : Thread Cert.AttnDnIdeal.nD Cert.AttnDnIdeal.τ).loc Cert.AttnDnIdeal.main_arg1))
      ∧ r.2.sem = fun _ => 0)

def quiescent_AttnDnIdeal_pre_attndn_pre [hAttnDnIdeal : Cert.AttnDnIdeal.Facts] [hPre_attndn_pre : Cert.Pre_attndn_pre.Facts] : Prop :=
  ∀ (m : (ℓ : Loc Cert.AttnDnIdeal.nD Cert.AttnDnIdeal.τ Cert.AttnDnIdeal.sig) → Buf (Elt Ideal) ℓ) (g : Dev Cert.AttnDnIdeal.nD → PrngReg), Pre_AttnDnIdeal_attndn_pre m →
    θ_run (Cert.AttnDnIdeal.defs (F := Ideal)) (onTc (τ := Cert.AttnDnIdeal.τ) (Cert.AttnDnIdeal.main (F := Ideal))) ⟨m, fun _ => 0, g⟩ (fun r => (∀ c : Dev Cert.AttnDnIdeal.nD,
      r.2.mem ((c.tc : Thread Cert.AttnDnIdeal.nD Cert.AttnDnIdeal.τ).loc Cert.AttnDnIdeal.main_arg0) = m ((c.tc : Thread Cert.AttnDnIdeal.nD Cert.AttnDnIdeal.τ).loc Cert.AttnDnIdeal.main_arg0)
      ∧ r.2.mem ((c.tc : Thread Cert.AttnDnIdeal.nD Cert.AttnDnIdeal.τ).loc Cert.AttnDnIdeal.main_arg1) = m ((c.tc : Thread Cert.AttnDnIdeal.nD Cert.AttnDnIdeal.τ).loc Cert.AttnDnIdeal.main_arg1))
      ∧ r.2.sem = fun _ => 0)

def quiescent_AttnDnRefIdeal [hAttnDnRefIdeal : Cert.AttnDnRefIdeal.Facts] : Prop :=
  ∀ (m : (ℓ : Loc Cert.AttnDnRefIdeal.nD Cert.AttnDnRefIdeal.τ Cert.AttnDnRefIdeal.sig) → Buf (Elt Ideal) ℓ) (g : Dev Cert.AttnDnRefIdeal.nD → PrngReg), Pre_AttnDnRefIdeal m →
    θ_run (Cert.AttnDnRefIdeal.defs (F := Ideal)) (onTc (τ := Cert.AttnDnRefIdeal.τ) (Cert.AttnDnRefIdeal.main (F := Ideal))) ⟨m, fun _ => 0, g⟩ (fun r => (∀ c : Dev Cert.AttnDnRefIdeal.nD,
      r.2.mem ((c.tc : Thread Cert.AttnDnRefIdeal.nD Cert.AttnDnRefIdeal.τ).loc Cert.AttnDnRefIdeal.main_arg0) = m ((c.tc : Thread Cert.AttnDnRefIdeal.nD Cert.AttnDnRefIdeal.τ).loc Cert.AttnDnRefIdeal.main_arg0)
      ∧ r.2.mem ((c.tc : Thread Cert.AttnDnRefIdeal.nD Cert.AttnDnRefIdeal.τ).loc Cert.AttnDnRefIdeal.main_arg1) = m ((c.tc : Thread Cert.AttnDnRefIdeal.nD Cert.AttnDnRefIdeal.τ).loc Cert.AttnDnRefIdeal.main_arg1))
      ∧ r.2.sem = fun _ => 0)

def quiescent_AttnDnRefIdeal_pre_attndn_pre [hAttnDnRefIdeal : Cert.AttnDnRefIdeal.Facts] [hPre_attndn_pre : Cert.Pre_attndn_pre.Facts] : Prop :=
  ∀ (m : (ℓ : Loc Cert.AttnDnRefIdeal.nD Cert.AttnDnRefIdeal.τ Cert.AttnDnRefIdeal.sig) → Buf (Elt Ideal) ℓ) (g : Dev Cert.AttnDnRefIdeal.nD → PrngReg), Pre_AttnDnRefIdeal_attndn_pre m →
    θ_run (Cert.AttnDnRefIdeal.defs (F := Ideal)) (onTc (τ := Cert.AttnDnRefIdeal.τ) (Cert.AttnDnRefIdeal.main (F := Ideal))) ⟨m, fun _ => 0, g⟩ (fun r => (∀ c : Dev Cert.AttnDnRefIdeal.nD,
      r.2.mem ((c.tc : Thread Cert.AttnDnRefIdeal.nD Cert.AttnDnRefIdeal.τ).loc Cert.AttnDnRefIdeal.main_arg0) = m ((c.tc : Thread Cert.AttnDnRefIdeal.nD Cert.AttnDnRefIdeal.τ).loc Cert.AttnDnRefIdeal.main_arg0)
      ∧ r.2.mem ((c.tc : Thread Cert.AttnDnRefIdeal.nD Cert.AttnDnRefIdeal.τ).loc Cert.AttnDnRefIdeal.main_arg1) = m ((c.tc : Thread Cert.AttnDnRefIdeal.nD Cert.AttnDnRefIdeal.τ).loc Cert.AttnDnRefIdeal.main_arg1))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1))
      ∧ r.2.sem = fun _ => 0)

def quiescent_Dn [hDn : Cert.Dn.Facts] : Prop :=
  ∀ (m : (ℓ : Loc Cert.Dn.nD Cert.Dn.τ Cert.Dn.sig) → Buf (Elt Bits) ℓ) (g : Dev Cert.Dn.nD → PrngReg), Pre_Dn m →
    θ_run (Cert.Dn.defs (F := Bits)) (onTc (τ := Cert.Dn.τ) (Cert.Dn.main (F := Bits))) ⟨m, fun _ => 0, g⟩ (fun r => (∀ c : Dev Cert.Dn.nD,
      r.2.mem ((c.tc : Thread Cert.Dn.nD Cert.Dn.τ).loc Cert.Dn.main_arg0) = m ((c.tc : Thread Cert.Dn.nD Cert.Dn.τ).loc Cert.Dn.main_arg0)
      ∧ r.2.mem ((c.tc : Thread Cert.Dn.nD Cert.Dn.τ).loc Cert.Dn.main_arg1) = m ((c.tc : Thread Cert.Dn.nD Cert.Dn.τ).loc Cert.Dn.main_arg1)
      ∧ r.2.mem ((c.tc : Thread Cert.Dn.nD Cert.Dn.τ).loc Cert.Dn.main_arg2) = m ((c.tc : Thread Cert.Dn.nD Cert.Dn.τ).loc Cert.Dn.main_arg2)
      ∧ r.2.mem ((c.tc : Thread Cert.Dn.nD Cert.Dn.τ).loc Cert.Dn.main_arg3) = m ((c.tc : Thread Cert.Dn.nD Cert.Dn.τ).loc Cert.Dn.main_arg3)
      ∧ r.2.mem ((c.tc : Thread Cert.Dn.nD Cert.Dn.τ).loc Cert.Dn.main_arg4) = m ((c.tc : Thread Cert.Dn.nD Cert.Dn.τ).loc Cert.Dn.main_arg4)
      ∧ r.2.mem ((c.tc : Thread Cert.Dn.nD Cert.Dn.τ).loc Cert.Dn.main_arg5) = m ((c.tc : Thread Cert.Dn.nD Cert.Dn.τ).loc Cert.Dn.main_arg5)
      ∧ r.2.mem ((c.tc : Thread Cert.Dn.nD Cert.Dn.τ).loc Cert.Dn.main_arg6) = m ((c.tc : Thread Cert.Dn.nD Cert.Dn.τ).loc Cert.Dn.main_arg6)
      ∧ r.2.mem ((c.tc : Thread Cert.Dn.nD Cert.Dn.τ).loc Cert.Dn.main_arg7) = m ((c.tc : Thread Cert.Dn.nD Cert.Dn.τ).loc Cert.Dn.main_arg7))
      ∧ r.2.sem = fun _ => 0)

def quiescent_DnIdeal [hDnIdeal : Cert.DnIdeal.Facts] : Prop :=
  ∀ (m : (ℓ : Loc Cert.DnIdeal.nD Cert.DnIdeal.τ Cert.DnIdeal.sig) → Buf (Elt Ideal) ℓ) (g : Dev Cert.DnIdeal.nD → PrngReg), Pre_DnIdeal m →
    θ_run (Cert.DnIdeal.defs (F := Ideal)) (onTc (τ := Cert.DnIdeal.τ) (Cert.DnIdeal.main (F := Ideal))) ⟨m, fun _ => 0, g⟩ (fun r => (∀ c : Dev Cert.DnIdeal.nD,
      r.2.mem ((c.tc : Thread Cert.DnIdeal.nD Cert.DnIdeal.τ).loc Cert.DnIdeal.main_arg0) = m ((c.tc : Thread Cert.DnIdeal.nD Cert.DnIdeal.τ).loc Cert.DnIdeal.main_arg0)
      ∧ r.2.mem ((c.tc : Thread Cert.DnIdeal.nD Cert.DnIdeal.τ).loc Cert.DnIdeal.main_arg1) = m ((c.tc : Thread Cert.DnIdeal.nD Cert.DnIdeal.τ).loc Cert.DnIdeal.main_arg1)
      ∧ r.2.mem ((c.tc : Thread Cert.DnIdeal.nD Cert.DnIdeal.τ).loc Cert.DnIdeal.main_arg2) = m ((c.tc : Thread Cert.DnIdeal.nD Cert.DnIdeal.τ).loc Cert.DnIdeal.main_arg2)
      ∧ r.2.mem ((c.tc : Thread Cert.DnIdeal.nD Cert.DnIdeal.τ).loc Cert.DnIdeal.main_arg3) = m ((c.tc : Thread Cert.DnIdeal.nD Cert.DnIdeal.τ).loc Cert.DnIdeal.main_arg3)
      ∧ r.2.mem ((c.tc : Thread Cert.DnIdeal.nD Cert.DnIdeal.τ).loc Cert.DnIdeal.main_arg4) = m ((c.tc : Thread Cert.DnIdeal.nD Cert.DnIdeal.τ).loc Cert.DnIdeal.main_arg4)
      ∧ r.2.mem ((c.tc : Thread Cert.DnIdeal.nD Cert.DnIdeal.τ).loc Cert.DnIdeal.main_arg5) = m ((c.tc : Thread Cert.DnIdeal.nD Cert.DnIdeal.τ).loc Cert.DnIdeal.main_arg5)
      ∧ r.2.mem ((c.tc : Thread Cert.DnIdeal.nD Cert.DnIdeal.τ).loc Cert.DnIdeal.main_arg6) = m ((c.tc : Thread Cert.DnIdeal.nD Cert.DnIdeal.τ).loc Cert.DnIdeal.main_arg6)
      ∧ r.2.mem ((c.tc : Thread Cert.DnIdeal.nD Cert.DnIdeal.τ).loc Cert.DnIdeal.main_arg7) = m ((c.tc : Thread Cert.DnIdeal.nD Cert.DnIdeal.τ).loc Cert.DnIdeal.main_arg7))
      ∧ r.2.sem = fun _ => 0)

def preserves_Gm_GmIdeal : Prop :=
  True

def algebraic_GmIdeal_GmRefIdeal [hGmIdeal : Cert.GmIdeal.Facts] [hGmRefIdeal : Cert.GmRefIdeal.Facts] : Prop :=
  ∀ (m : (ℓ : Loc Cert.GmIdeal.nD Cert.GmIdeal.τ Cert.GmIdeal.sig) → Buf (Elt Ideal) ℓ) (g : Dev Cert.GmIdeal.nD → PrngReg)
    (m' : (ℓ : Loc Cert.GmRefIdeal.nD Cert.GmRefIdeal.τ Cert.GmRefIdeal.sig) → Buf (Elt Ideal) ℓ) (g' : Dev Cert.GmRefIdeal.nD → PrngReg), Pre_GmIdeal m →
    (∀ c : Dev Cert.GmIdeal.nD,
      m' ((c.tc : Thread Cert.GmRefIdeal.nD Cert.GmRefIdeal.τ).loc Cert.GmRefIdeal.main_arg0) = m ((c.tc : Thread Cert.GmIdeal.nD Cert.GmIdeal.τ).loc Cert.GmIdeal.main_arg0)
      ∧ m' ((c.tc : Thread Cert.GmRefIdeal.nD Cert.GmRefIdeal.τ).loc Cert.GmRefIdeal.main_arg1) = m ((c.tc : Thread Cert.GmIdeal.nD Cert.GmIdeal.τ).loc Cert.GmIdeal.main_arg1)
      ∧ m' ((c.tc : Thread Cert.GmRefIdeal.nD Cert.GmRefIdeal.τ).loc Cert.GmRefIdeal.main_arg2) = m ((c.tc : Thread Cert.GmIdeal.nD Cert.GmIdeal.τ).loc Cert.GmIdeal.main_arg2)
      ∧ m' ((c.tc : Thread Cert.GmRefIdeal.nD Cert.GmRefIdeal.τ).loc Cert.GmRefIdeal.main_arg3) = m ((c.tc : Thread Cert.GmIdeal.nD Cert.GmIdeal.τ).loc Cert.GmIdeal.main_arg3)) →
    ∃ (v0 : (c : Dev Cert.GmIdeal.nD) → Buf (Elt Ideal) ((c.tc : Thread Cert.GmIdeal.nD Cert.GmIdeal.τ).loc Cert.GmIdeal.main_v6)),
      θ_run (Cert.GmIdeal.defs (F := Ideal)) (onTc (τ := Cert.GmIdeal.τ) (Cert.GmIdeal.main (F := Ideal))) ⟨m, fun _ => 0, g⟩ (fun r => ∀ c : Dev Cert.GmIdeal.nD,
          r.2.mem ((c.tc : Thread Cert.GmIdeal.nD Cert.GmIdeal.τ).loc Cert.GmIdeal.main_v6) = v0 c
          ∧ r.2.mem ((c.tc : Thread Cert.GmIdeal.nD Cert.GmIdeal.τ).loc Cert.GmIdeal.main_arg0) = m ((c.tc : Thread Cert.GmIdeal.nD Cert.GmIdeal.τ).loc Cert.GmIdeal.main_arg0)
          ∧ r.2.mem ((c.tc : Thread Cert.GmIdeal.nD Cert.GmIdeal.τ).loc Cert.GmIdeal.main_arg1) = m ((c.tc : Thread Cert.GmIdeal.nD Cert.GmIdeal.τ).loc Cert.GmIdeal.main_arg1)
          ∧ r.2.mem ((c.tc : Thread Cert.GmIdeal.nD Cert.GmIdeal.τ).loc Cert.GmIdeal.main_arg2) = m ((c.tc : Thread Cert.GmIdeal.nD Cert.GmIdeal.τ).loc Cert.GmIdeal.main_arg2)
          ∧ r.2.mem ((c.tc : Thread Cert.GmIdeal.nD Cert.GmIdeal.τ).loc Cert.GmIdeal.main_arg3) = m ((c.tc : Thread Cert.GmIdeal.nD Cert.GmIdeal.τ).loc Cert.GmIdeal.main_arg3))
      ∧ θ_run (Cert.GmRefIdeal.defs (F := Ideal)) (onTc (τ := Cert.GmRefIdeal.τ) (Cert.GmRefIdeal.main (F := Ideal))) ⟨m', fun _ => 0, g'⟩ (fun r => ∀ c : Dev Cert.GmRefIdeal.nD,
          r.2.mem ((c.tc : Thread Cert.GmRefIdeal.nD Cert.GmRefIdeal.τ).loc Cert.GmRefIdeal.main_v60) = v0 c
          ∧ r.2.mem ((c.tc : Thread Cert.GmRefIdeal.nD Cert.GmRefIdeal.τ).loc Cert.GmRefIdeal.main_arg0) = m' ((c.tc : Thread Cert.GmRefIdeal.nD Cert.GmRefIdeal.τ).loc Cert.GmRefIdeal.main_arg0)
          ∧ r.2.mem ((c.tc : Thread Cert.GmRefIdeal.nD Cert.GmRefIdeal.τ).loc Cert.GmRefIdeal.main_arg1) = m' ((c.tc : Thread Cert.GmRefIdeal.nD Cert.GmRefIdeal.τ).loc Cert.GmRefIdeal.main_arg1)
          ∧ r.2.mem ((c.tc : Thread Cert.GmRefIdeal.nD Cert.GmRefIdeal.τ).loc Cert.GmRefIdeal.main_arg2) = m' ((c.tc : Thread Cert.GmRefIdeal.nD Cert.GmRefIdeal.τ).loc Cert.GmRefIdeal.main_arg2)
          ∧ r.2.mem ((c.tc : Thread Cert.GmRefIdeal.nD Cert.GmRefIdeal.τ).loc Cert.GmRefIdeal.main_arg3) = m' ((c.tc : Thread Cert.GmRefIdeal.nD Cert.GmRefIdeal.τ).loc Cert.GmRefIdeal.main_arg3))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v4) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v19) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)
      ∧ m' ((c.tc : Thread Cert.KvRefIdeal.nD Cert.KvRefIdeal.τ).loc Cert.KvRefIdeal.main_arg2) = m ((c.tc : Thread Cert.KvIdeal.nD Cert.KvIdeal.τ).loc Cert.KvIdeal.main_arg2)) →
    ∃ (v0 : (c : Dev Cert.KvIdeal.nD) → Buf (Elt Ideal) ((c.tc : Thread Cert.KvIdeal.nD Cert.KvIdeal.τ).loc Cert.KvIdeal.main_v2)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v2) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v17) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1)
          ∧ r.2.mem ((c.tc : Thread Cert.KvRefIdeal.nD Cert.KvRefIdeal.τ).loc Cert.KvRefIdeal.main_arg2) = m' ((c.tc : Thread Cert.KvRefIdeal.nD Cert.KvRefIdeal.τ).loc Cert.KvRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v8) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v37) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FfnMid_FfnMidIdeal : Prop :=
  True

def algebraic_FfnMidIdeal_FfnMidRefIdeal [hFfnMidIdeal : Cert.FfnMidIdeal.Facts] [hFfnMidRefIdeal : Cert.FfnMidRefIdeal.Facts] : Prop :=
  ∀ (m : (ℓ : Loc Cert.FfnMidIdeal.nD Cert.FfnMidIdeal.τ Cert.FfnMidIdeal.sig) → Buf (Elt Ideal) ℓ) (g : Dev Cert.FfnMidIdeal.nD → PrngReg)
    (m' : (ℓ : Loc Cert.FfnMidRefIdeal.nD Cert.FfnMidRefIdeal.τ Cert.FfnMidRefIdeal.sig) → Buf (Elt Ideal) ℓ) (g' : Dev Cert.FfnMidRefIdeal.nD → PrngReg), Pre_FfnMidIdeal m →
    (∀ c : Dev Cert.FfnMidIdeal.nD,
      m' ((c.tc : Thread Cert.FfnMidRefIdeal.nD Cert.FfnMidRefIdeal.τ).loc Cert.FfnMidRefIdeal.main_arg0) = m ((c.tc : Thread Cert.FfnMidIdeal.nD Cert.FfnMidIdeal.τ).loc Cert.FfnMidIdeal.main_arg0)
      ∧ m' ((c.tc : Thread Cert.FfnMidRefIdeal.nD Cert.FfnMidRefIdeal.τ).loc Cert.FfnMidRefIdeal.main_arg1) = m ((c.tc : Thread Cert.FfnMidIdeal.nD Cert.FfnMidIdeal.τ).loc Cert.FfnMidIdeal.main_arg1)
      ∧ m' ((c.tc : Thread Cert.FfnMidRefIdeal.nD Cert.FfnMidRefIdeal.τ).loc Cert.FfnMidRefIdeal.main_arg2) = m ((c.tc : Thread Cert.FfnMidIdeal.nD Cert.FfnMidIdeal.τ).loc Cert.FfnMidIdeal.main_arg2)
      ∧ m' ((c.tc : Thread Cert.FfnMidRefIdeal.nD Cert.FfnMidRefIdeal.τ).loc Cert.FfnMidRefIdeal.main_arg3) = m ((c.tc : Thread Cert.FfnMidIdeal.nD Cert.FfnMidIdeal.τ).loc Cert.FfnMidIdeal.main_arg3)
      ∧ m' ((c.tc : Thread Cert.FfnMidRefIdeal.nD Cert.FfnMidRefIdeal.τ).loc Cert.FfnMidRefIdeal.main_arg4) = m ((c.tc : Thread Cert.FfnMidIdeal.nD Cert.FfnMidIdeal.τ).loc Cert.FfnMidIdeal.main_arg4)) →
    ∃ (v0 : (c : Dev Cert.FfnMidIdeal.nD) → Buf (Elt Ideal) ((c.tc : Thread Cert.FfnMidIdeal.nD Cert.FfnMidIdeal.τ).loc Cert.FfnMidIdeal.main_v4)),
      θ_run (Cert.FfnMidIdeal.defs (F := Ideal)) (onTc (τ := Cert.FfnMidIdeal.τ) (Cert.FfnMidIdeal.main (F := Ideal))) ⟨m, fun _ => 0, g⟩ (fun r => ∀ c : Dev Cert.FfnMidIdeal.nD,
          r.2.mem ((c.tc : Thread Cert.FfnMidIdeal.nD Cert.FfnMidIdeal.τ).loc Cert.FfnMidIdeal.main_v4) = v0 c
          ∧ r.2.mem ((c.tc : Thread Cert.FfnMidIdeal.nD Cert.FfnMidIdeal.τ).loc Cert.FfnMidIdeal.main_arg0) = m ((c.tc : Thread Cert.FfnMidIdeal.nD Cert.FfnMidIdeal.τ).loc Cert.FfnMidIdeal.main_arg0)
          ∧ r.2.mem ((c.tc : Thread Cert.FfnMidIdeal.nD Cert.FfnMidIdeal.τ).loc Cert.FfnMidIdeal.main_arg1) = m ((c.tc : Thread Cert.FfnMidIdeal.nD Cert.FfnMidIdeal.τ).loc Cert.FfnMidIdeal.main_arg1)
          ∧ r.2.mem ((c.tc : Thread Cert.FfnMidIdeal.nD Cert.FfnMidIdeal.τ).loc Cert.FfnMidIdeal.main_arg2) = m ((c.tc : Thread Cert.FfnMidIdeal.nD Cert.FfnMidIdeal.τ).loc Cert.FfnMidIdeal.main_arg2)
          ∧ r.2.mem ((c.tc : Thread Cert.FfnMidIdeal.nD Cert.FfnMidIdeal.τ).loc Cert.FfnMidIdeal.main_arg3) = m ((c.tc : Thread Cert.FfnMidIdeal.nD Cert.FfnMidIdeal.τ).loc Cert.FfnMidIdeal.main_arg3)
          ∧ r.2.mem ((c.tc : Thread Cert.FfnMidIdeal.nD Cert.FfnMidIdeal.τ).loc Cert.FfnMidIdeal.main_arg4) = m ((c.tc : Thread Cert.FfnMidIdeal.nD Cert.FfnMidIdeal.τ).loc Cert.FfnMidIdeal.main_arg4))
      ∧ θ_run (Cert.FfnMidRefIdeal.defs (F := Ideal)) (onTc (τ := Cert.FfnMidRefIdeal.τ) (Cert.FfnMidRefIdeal.main (F := Ideal))) ⟨m', fun _ => 0, g'⟩ (fun r => ∀ c : Dev Cert.FfnMidRefIdeal.nD,
          r.2.mem ((c.tc : Thread Cert.FfnMidRefIdeal.nD Cert.FfnMidRefIdeal.τ).loc Cert.FfnMidRefIdeal.main_v25) = v0 c
          ∧ r.2.mem ((c.tc : Thread Cert.FfnMidRefIdeal.nD Cert.FfnMidRefIdeal.τ).loc Cert.FfnMidRefIdeal.main_arg0) = m' ((c.tc : Thread Cert.FfnMidRefIdeal.nD Cert.FfnMidRefIdeal.τ).loc Cert.FfnMidRefIdeal.main_arg0)
          ∧ r.2.mem ((c.tc : Thread Cert.FfnMidRefIdeal.nD Cert.FfnMidRefIdeal.τ).loc Cert.FfnMidRefIdeal.main_arg1) = m' ((c.tc : Thread Cert.FfnMidRefIdeal.nD Cert.FfnMidRefIdeal.τ).loc Cert.FfnMidRefIdeal.main_arg1)
          ∧ r.2.mem ((c.tc : Thread Cert.FfnMidRefIdeal.nD Cert.FfnMidRefIdeal.τ).loc Cert.FfnMidRefIdeal.main_arg2) = m' ((c.tc : Thread Cert.FfnMidRefIdeal.nD Cert.FfnMidRefIdeal.τ).loc Cert.FfnMidRefIdeal.main_arg2)
          ∧ r.2.mem ((c.tc : Thread Cert.FfnMidRefIdeal.nD Cert.FfnMidRefIdeal.τ).loc Cert.FfnMidRefIdeal.main_arg3) = m' ((c.tc : Thread Cert.FfnMidRefIdeal.nD Cert.FfnMidRefIdeal.τ).loc Cert.FfnMidRefIdeal.main_arg3)
          ∧ r.2.mem ((c.tc : Thread Cert.FfnMidRefIdeal.nD Cert.FfnMidRefIdeal.τ).loc Cert.FfnMidRefIdeal.main_arg4) = m' ((c.tc : Thread Cert.FfnMidRefIdeal.nD Cert.FfnMidRefIdeal.τ).loc Cert.FfnMidRefIdeal.main_arg4))

def preserves_DnProj_DnProjIdeal : Prop :=
  True

def algebraic_DnProjIdeal_DnProjRefIdeal [hDnProjIdeal : Cert.DnProjIdeal.Facts] [hDnProjRefIdeal : Cert.DnProjRefIdeal.Facts] : Prop :=
  ∀ (m : (ℓ : Loc Cert.DnProjIdeal.nD Cert.DnProjIdeal.τ Cert.DnProjIdeal.sig) → Buf (Elt Ideal) ℓ) (g : Dev Cert.DnProjIdeal.nD → PrngReg)
    (m' : (ℓ : Loc Cert.DnProjRefIdeal.nD Cert.DnProjRefIdeal.τ Cert.DnProjRefIdeal.sig) → Buf (Elt Ideal) ℓ) (g' : Dev Cert.DnProjRefIdeal.nD → PrngReg), Pre_DnProjIdeal m →
    (∀ c : Dev Cert.DnProjIdeal.nD,
      m' ((c.tc : Thread Cert.DnProjRefIdeal.nD Cert.DnProjRefIdeal.τ).loc Cert.DnProjRefIdeal.main_arg0) = m ((c.tc : Thread Cert.DnProjIdeal.nD Cert.DnProjIdeal.τ).loc Cert.DnProjIdeal.main_arg0)
      ∧ m' ((c.tc : Thread Cert.DnProjRefIdeal.nD Cert.DnProjRefIdeal.τ).loc Cert.DnProjRefIdeal.main_arg1) = m ((c.tc : Thread Cert.DnProjIdeal.nD Cert.DnProjIdeal.τ).loc Cert.DnProjIdeal.main_arg1)
      ∧ m' ((c.tc : Thread Cert.DnProjRefIdeal.nD Cert.DnProjRefIdeal.τ).loc Cert.DnProjRefIdeal.main_arg2) = m ((c.tc : Thread Cert.DnProjIdeal.nD Cert.DnProjIdeal.τ).loc Cert.DnProjIdeal.main_arg2)) →
    ∃ (v0 : (c : Dev Cert.DnProjIdeal.nD) → Buf (Elt Ideal) ((c.tc : Thread Cert.DnProjIdeal.nD Cert.DnProjIdeal.τ).loc Cert.DnProjIdeal.main_v9_0)) (v1 : (c : Dev Cert.DnProjIdeal.nD) → Buf (Elt Ideal) ((c.tc : Thread Cert.DnProjIdeal.nD Cert.DnProjIdeal.τ).loc Cert.DnProjIdeal.main_v9_1)),
      θ_run (Cert.DnProjIdeal.defs (F := Ideal)) (onTc (τ := Cert.DnProjIdeal.τ) (Cert.DnProjIdeal.main (F := Ideal))) ⟨m, fun _ => 0, g⟩ (fun r => ∀ c : Dev Cert.DnProjIdeal.nD,
          r.2.mem ((c.tc : Thread Cert.DnProjIdeal.nD Cert.DnProjIdeal.τ).loc Cert.DnProjIdeal.main_v9_0) = v0 c
          ∧ r.2.mem ((c.tc : Thread Cert.DnProjIdeal.nD Cert.DnProjIdeal.τ).loc Cert.DnProjIdeal.main_v9_1) = v1 c
          ∧ r.2.mem ((c.tc : Thread Cert.DnProjIdeal.nD Cert.DnProjIdeal.τ).loc Cert.DnProjIdeal.main_arg0) = m ((c.tc : Thread Cert.DnProjIdeal.nD Cert.DnProjIdeal.τ).loc Cert.DnProjIdeal.main_arg0)
          ∧ r.2.mem ((c.tc : Thread Cert.DnProjIdeal.nD Cert.DnProjIdeal.τ).loc Cert.DnProjIdeal.main_arg1) = m ((c.tc : Thread Cert.DnProjIdeal.nD Cert.DnProjIdeal.τ).loc Cert.DnProjIdeal.main_arg1)
          ∧ r.2.mem ((c.tc : Thread Cert.DnProjIdeal.nD Cert.DnProjIdeal.τ).loc Cert.DnProjIdeal.main_arg2) = m ((c.tc : Thread Cert.DnProjIdeal.nD Cert.DnProjIdeal.τ).loc Cert.DnProjIdeal.main_arg2))
      ∧ θ_run (Cert.DnProjRefIdeal.defs (F := Ideal)) (onTc (τ := Cert.DnProjRefIdeal.τ) (Cert.DnProjRefIdeal.main (F := Ideal))) ⟨m', fun _ => 0, g'⟩ (fun r => ∀ c : Dev Cert.DnProjRefIdeal.nD,
          r.2.mem ((c.tc : Thread Cert.DnProjRefIdeal.nD Cert.DnProjRefIdeal.τ).loc Cert.DnProjRefIdeal.main_v22) = v0 c
          ∧ r.2.mem ((c.tc : Thread Cert.DnProjRefIdeal.nD Cert.DnProjRefIdeal.τ).loc Cert.DnProjRefIdeal.main_v24) = v1 c
          ∧ r.2.mem ((c.tc : Thread Cert.DnProjRefIdeal.nD Cert.DnProjRefIdeal.τ).loc Cert.DnProjRefIdeal.main_arg0) = m' ((c.tc : Thread Cert.DnProjRefIdeal.nD Cert.DnProjRefIdeal.τ).loc Cert.DnProjRefIdeal.main_arg0)
          ∧ r.2.mem ((c.tc : Thread Cert.DnProjRefIdeal.nD Cert.DnProjRefIdeal.τ).loc Cert.DnProjRefIdeal.main_arg1) = m' ((c.tc : Thread Cert.DnProjRefIdeal.nD Cert.DnProjRefIdeal.τ).loc Cert.DnProjRefIdeal.main_arg1)
          ∧ r.2.mem ((c.tc : Thread Cert.DnProjRefIdeal.nD Cert.DnProjRefIdeal.τ).loc Cert.DnProjRefIdeal.main_arg2) = m' ((c.tc : Thread Cert.DnProjRefIdeal.nD Cert.DnProjRefIdeal.τ).loc Cert.DnProjRefIdeal.main_arg2))

def preserves_Attn_AttnIdeal : Prop :=
  IdealRules.named_const.Statement Cert.AttnIdeal.κ "scale" .f32 0x3DB504F3#32 (((Real.sqrt 128)⁻¹ : ℝ) : EReal)

def algebraic_AttnIdeal_AttnRefIdeal_pre_attn_pre [hAttnIdeal : Cert.AttnIdeal.Facts] [hAttnRefIdeal : Cert.AttnRefIdeal.Facts] [hPre_attn_pre : Cert.Pre_attn_pre.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_pre m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)) →
    ∃ (v0 : (c : Dev Cert.AttnIdeal.nD) → Buf (Elt Ideal) ((c.tc : Thread Cert.AttnIdeal.nD Cert.AttnIdeal.τ).loc Cert.AttnIdeal.main_v0)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v0) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v28) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1))

def preserves_AttnDn_AttnDnIdeal : Prop :=
  IdealRules.named_const.Statement Cert.AttnDnIdeal.κ "scale" .f32 0x3DB504F3#32 (((Real.sqrt 128)⁻¹ : ℝ) : EReal)

def algebraic_AttnDnIdeal_AttnDnRefIdeal_pre_attndn_pre [hAttnDnIdeal : Cert.AttnDnIdeal.Facts] [hAttnDnRefIdeal : Cert.AttnDnRefIdeal.Facts] [hPre_attndn_pre : Cert.Pre_attndn_pre.Facts] : Prop :=
  ∀ (m : (ℓ : Loc Cert.AttnDnIdeal.nD Cert.AttnDnIdeal.τ Cert.AttnDnIdeal.sig) → Buf (Elt Ideal) ℓ) (g : Dev Cert.AttnDnIdeal.nD → PrngReg)
    (m' : (ℓ : Loc Cert.AttnDnRefIdeal.nD Cert.AttnDnRefIdeal.τ Cert.AttnDnRefIdeal.sig) → Buf (Elt Ideal) ℓ) (g' : Dev Cert.AttnDnRefIdeal.nD → PrngReg), Pre_AttnDnIdeal_attndn_pre m →
    (∀ c : Dev Cert.AttnDnIdeal.nD,
      m' ((c.tc : Thread Cert.AttnDnRefIdeal.nD Cert.AttnDnRefIdeal.τ).loc Cert.AttnDnRefIdeal.main_arg0) = m ((c.tc : Thread Cert.AttnDnIdeal.nD Cert.AttnDnIdeal.τ).loc Cert.AttnDnIdeal.main_arg0)
      ∧ m' ((c.tc : Thread Cert.AttnDnRefIdeal.nD Cert.AttnDnRefIdeal.τ).loc Cert.AttnDnRefIdeal.main_arg1) = m ((c.tc : Thread Cert.AttnDnIdeal.nD Cert.AttnDnIdeal.τ).loc Cert.AttnDnIdeal.main_arg1)) →
    ∃ (v0 : (c : Dev Cert.AttnDnIdeal.nD) → Buf (Elt Ideal) ((c.tc : Thread Cert.AttnDnIdeal.nD Cert.AttnDnIdeal.τ).loc Cert.AttnDnIdeal.main_v0)),
      θ_run (Cert.AttnDnIdeal.defs (F := Ideal)) (onTc (τ := Cert.AttnDnIdeal.τ) (Cert.AttnDnIdeal.main (F := Ideal))) ⟨m, fun _ => 0, g⟩ (fun r => ∀ c : Dev Cert.AttnDnIdeal.nD,
          r.2.mem ((c.tc : Thread Cert.AttnDnIdeal.nD Cert.AttnDnIdeal.τ).loc Cert.AttnDnIdeal.main_v0) = v0 c
          ∧ r.2.mem ((c.tc : Thread Cert.AttnDnIdeal.nD Cert.AttnDnIdeal.τ).loc Cert.AttnDnIdeal.main_arg0) = m ((c.tc : Thread Cert.AttnDnIdeal.nD Cert.AttnDnIdeal.τ).loc Cert.AttnDnIdeal.main_arg0)
          ∧ r.2.mem ((c.tc : Thread Cert.AttnDnIdeal.nD Cert.AttnDnIdeal.τ).loc Cert.AttnDnIdeal.main_arg1) = m ((c.tc : Thread Cert.AttnDnIdeal.nD Cert.AttnDnIdeal.τ).loc Cert.AttnDnIdeal.main_arg1))
      ∧ θ_run (Cert.AttnDnRefIdeal.defs (F := Ideal)) (onTc (τ := Cert.AttnDnRefIdeal.τ) (Cert.AttnDnRefIdeal.main (F := Ideal))) ⟨m', fun _ => 0, g'⟩ (fun r => ∀ c : Dev Cert.AttnDnRefIdeal.nD,
          r.2.mem ((c.tc : Thread Cert.AttnDnRefIdeal.nD Cert.AttnDnRefIdeal.τ).loc Cert.AttnDnRefIdeal.main_v27) = v0 c
          ∧ r.2.mem ((c.tc : Thread Cert.AttnDnRefIdeal.nD Cert.AttnDnRefIdeal.τ).loc Cert.AttnDnRefIdeal.main_arg0) = m' ((c.tc : Thread Cert.AttnDnRefIdeal.nD Cert.AttnDnRefIdeal.τ).loc Cert.AttnDnRefIdeal.main_arg0)
          ∧ r.2.mem ((c.tc : Thread Cert.AttnDnRefIdeal.nD Cert.AttnDnRefIdeal.τ).loc Cert.AttnDnRefIdeal.main_arg1) = m' ((c.tc : Thread Cert.AttnDnRefIdeal.nD Cert.AttnDnRefIdeal.τ).loc Cert.AttnDnRefIdeal.main_arg1))

def preserves_Prep_PrepIdeal : Prop :=
  IdealRules.named_const.Statement Cert.PrepIdeal.κ "scale" .f32 0x3DB504F3#32 (((Real.sqrt 128)⁻¹ : ℝ) : EReal)

def preserves_Dn_DnIdeal : Prop :=
  True

def Claim : Prop :=
  ∃ (hGm : Cert.Gm.Facts) (hGmIdeal : Cert.GmIdeal.Facts) (hGmRefIdeal : Cert.GmRefIdeal.Facts) (hProj : Cert.Proj.Facts) (hProjIdeal : Cert.ProjIdeal.Facts) (hProjRefIdeal : Cert.ProjRefIdeal.Facts) (hKv : Cert.Kv.Facts) (hKvIdeal : Cert.KvIdeal.Facts) (hKvRefIdeal : Cert.KvRefIdeal.Facts) (hOut : Cert.Out.Facts) (hOutIdeal : Cert.OutIdeal.Facts) (hOutRefIdeal : Cert.OutRefIdeal.Facts) (hFfn : Cert.Ffn.Facts) (hFfnIdeal : Cert.FfnIdeal.Facts) (hFfnRefIdeal : Cert.FfnRefIdeal.Facts) (hFfnMid : Cert.FfnMid.Facts) (hFfnMidIdeal : Cert.FfnMidIdeal.Facts) (hFfnMidRefIdeal : Cert.FfnMidRefIdeal.Facts) (hDnProj : Cert.DnProj.Facts) (hDnProjIdeal : Cert.DnProjIdeal.Facts) (hDnProjRefIdeal : Cert.DnProjRefIdeal.Facts) (hAttn : Cert.Attn.Facts) (hAttnIdeal : Cert.AttnIdeal.Facts) (hAttnRefIdeal : Cert.AttnRefIdeal.Facts) (hAttnDn : Cert.AttnDn.Facts) (hAttnDnIdeal : Cert.AttnDnIdeal.Facts) (hAttnDnRefIdeal : Cert.AttnDnRefIdeal.Facts) (hPrep : Cert.Prep.Facts) (hPrepIdeal : Cert.PrepIdeal.Facts) (hDn : Cert.Dn.Facts) (hDnIdeal : Cert.DnIdeal.Facts) (hPre_attn_pre : Cert.Pre_attn_pre.Facts) (hPre_attndn_pre : Cert.Pre_attndn_pre.Facts),
    quiescent_Gm (hGm := hGm)
    ∧ quiescent_GmIdeal (hGmIdeal := hGmIdeal)
    ∧ quiescent_GmRefIdeal (hGmRefIdeal := hGmRefIdeal)
    ∧ quiescent_Proj (hProj := hProj)
    ∧ quiescent_ProjIdeal (hProjIdeal := hProjIdeal)
    ∧ quiescent_ProjRefIdeal (hProjRefIdeal := hProjRefIdeal)
    ∧ quiescent_Kv (hKv := hKv)
    ∧ quiescent_KvIdeal (hKvIdeal := hKvIdeal)
    ∧ quiescent_KvRefIdeal (hKvRefIdeal := hKvRefIdeal)
    ∧ quiescent_Out (hOut := hOut)
    ∧ quiescent_OutIdeal (hOutIdeal := hOutIdeal)
    ∧ quiescent_OutRefIdeal (hOutRefIdeal := hOutRefIdeal)
    ∧ quiescent_Ffn (hFfn := hFfn)
    ∧ quiescent_FfnIdeal (hFfnIdeal := hFfnIdeal)
    ∧ quiescent_FfnRefIdeal (hFfnRefIdeal := hFfnRefIdeal)
    ∧ quiescent_FfnMid (hFfnMid := hFfnMid)
    ∧ quiescent_FfnMidIdeal (hFfnMidIdeal := hFfnMidIdeal)
    ∧ quiescent_FfnMidRefIdeal (hFfnMidRefIdeal := hFfnMidRefIdeal)
    ∧ quiescent_DnProj (hDnProj := hDnProj)
    ∧ quiescent_DnProjIdeal (hDnProjIdeal := hDnProjIdeal)
    ∧ quiescent_DnProjRefIdeal (hDnProjRefIdeal := hDnProjRefIdeal)
    ∧ quiescent_Attn (hAttn := hAttn)
    ∧ quiescent_AttnIdeal (hAttnIdeal := hAttnIdeal)
    ∧ quiescent_AttnIdeal_pre_attn_pre (hAttnIdeal := hAttnIdeal) (hPre_attn_pre := hPre_attn_pre)
    ∧ quiescent_AttnRefIdeal (hAttnRefIdeal := hAttnRefIdeal)
    ∧ quiescent_AttnRefIdeal_pre_attn_pre (hAttnRefIdeal := hAttnRefIdeal) (hPre_attn_pre := hPre_attn_pre)
    ∧ quiescent_AttnDn (hAttnDn := hAttnDn)
    ∧ quiescent_AttnDnIdeal (hAttnDnIdeal := hAttnDnIdeal)
    ∧ quiescent_AttnDnIdeal_pre_attndn_pre (hAttnDnIdeal := hAttnDnIdeal) (hPre_attndn_pre := hPre_attndn_pre)
    ∧ quiescent_AttnDnRefIdeal (hAttnDnRefIdeal := hAttnDnRefIdeal)
    ∧ quiescent_AttnDnRefIdeal_pre_attndn_pre (hAttnDnRefIdeal := hAttnDnRefIdeal) (hPre_attndn_pre := hPre_attndn_pre)
    ∧ quiescent_Prep (hPrep := hPrep)
    ∧ quiescent_PrepIdeal (hPrepIdeal := hPrepIdeal)
    ∧ quiescent_Dn (hDn := hDn)
    ∧ quiescent_DnIdeal (hDnIdeal := hDnIdeal)
    ∧ preserves_Gm_GmIdeal
    ∧ algebraic_GmIdeal_GmRefIdeal (hGmIdeal := hGmIdeal) (hGmRefIdeal := hGmRefIdeal)
    ∧ preserves_Proj_ProjIdeal
    ∧ algebraic_ProjIdeal_ProjRefIdeal (hProjIdeal := hProjIdeal) (hProjRefIdeal := hProjRefIdeal)
    ∧ preserves_Kv_KvIdeal
    ∧ algebraic_KvIdeal_KvRefIdeal (hKvIdeal := hKvIdeal) (hKvRefIdeal := hKvRefIdeal)
    ∧ preserves_Out_OutIdeal
    ∧ algebraic_OutIdeal_OutRefIdeal (hOutIdeal := hOutIdeal) (hOutRefIdeal := hOutRefIdeal)
    ∧ preserves_Ffn_FfnIdeal
    ∧ algebraic_FfnIdeal_FfnRefIdeal (hFfnIdeal := hFfnIdeal) (hFfnRefIdeal := hFfnRefIdeal)
    ∧ preserves_FfnMid_FfnMidIdeal
    ∧ algebraic_FfnMidIdeal_FfnMidRefIdeal (hFfnMidIdeal := hFfnMidIdeal) (hFfnMidRefIdeal := hFfnMidRefIdeal)
    ∧ preserves_DnProj_DnProjIdeal
    ∧ algebraic_DnProjIdeal_DnProjRefIdeal (hDnProjIdeal := hDnProjIdeal) (hDnProjRefIdeal := hDnProjRefIdeal)
    ∧ preserves_Attn_AttnIdeal
    ∧ algebraic_AttnIdeal_AttnRefIdeal_pre_attn_pre (hAttnIdeal := hAttnIdeal) (hAttnRefIdeal := hAttnRefIdeal) (hPre_attn_pre := hPre_attn_pre)
    ∧ preserves_AttnDn_AttnDnIdeal
    ∧ algebraic_AttnDnIdeal_AttnDnRefIdeal_pre_attndn_pre (hAttnDnIdeal := hAttnDnIdeal) (hAttnDnRefIdeal := hAttnDnRefIdeal) (hPre_attndn_pre := hPre_attndn_pre)
    ∧ preserves_Prep_PrepIdeal
    ∧ preserves_Dn_DnIdeal
-- ==== Pre_attn_pre.lean ====
abbrev S8192x3584 : Shape := ⟨2, ![8192, 3584]⟩
abbrev S512x1024 : Shape := ⟨2, ![512, 1024]⟩
abbrev S8192x512 : Shape := ⟨2, ![8192, 512]⟩
abbrev S2x16x256x512 : Shape := ⟨4, ![2, 16, 256, 512]⟩
abbrev S512x512 : Shape := ⟨2, ![512, 512]⟩
abbrev S2x1x256x512 : Shape := ⟨4, ![2, 1, 256, 512]⟩
abbrev S_ : Shape := ⟨0, ![]⟩

class Facts : Prop where
  bitsLt_bf16_f32 : FTy.bits .bf16 < FTy.bits .f32
  slices_S8192x3584_S8192x512_0_3072 : S8192x3584.Slices ![0, 3072] S8192x512
  shapeCasts_S8192x512_S2x16x256x512 : S8192x512.ShapeCasts S2x16x256x512
  slices_S512x1024_S512x512_0_0 : S512x1024.Slices ![0, 0] S512x512
  shapeCasts_S512x512_S2x1x256x512 : S512x512.ShapeCasts S2x1x256x512
  bcast_S_S2x16x256x512 : S_.BroadcastsInDim S2x16x256x512 (![] : Fin 0 → Fin S2x16x256x512.rank)
  bcast_S_S2x1x256x512 : S_.BroadcastsInDim S2x1x256x512 (![] : Fin 0 → Fin S2x1x256x512.rank)
  bcast_S2x1x256x512_S2x16x256x512_0_1_2_3 : S2x1x256x512.BroadcastsInDim S2x16x256x512 (![0, 1, 2, 3] : Fin 4 → Fin S2x16x256x512.rank)

variable [Facts]

def fn {F : FTy → Type} [FloatOps F] (main_arg0 : FVec F S8192x3584 .bf16) (main_arg1 : FVec F S512x1024 .bf16) : IVec S2x16x256x512 1 :=
  let main_v0 : FVec F S8192x3584 .f32 := (extf .f32 · bitsLt_bf16_f32) main_arg0
  let main_v1 : FVec F S8192x512 .f32 := (extractStridedSlice S8192x512 ![0, 3072] · slices_S8192x3584_S8192x512_0_3072) main_v0
  let main_v2 : FVec F S2x16x256x512 .f32 := shapeCast S2x16x256x512 main_v1 shapeCasts_S8192x512_S2x16x256x512
  let main_v3 : FVec F S512x1024 .f32 := (extf .f32 · bitsLt_bf16_f32) main_arg1
  let main_v4 : FVec F S512x512 .f32 := (extractStridedSlice S512x512 ![0, 0] · slices_S512x1024_S512x512_0_0) main_v3
  let main_v5 : FVec F S2x1x256x512 .f32 := shapeCast S2x1x256x512 main_v4 shapeCasts_S512x512_S2x1x256x512
  let main_v6 : FVec F S2x16x256x512 .f32 := Host.absf main_v2
  let main_cst : FVec F S_ .f32 := constant S_ .f32 0x7F800000#32
  let main_v7 : FVec F S2x16x256x512 .f32 := broadcastInDim S2x16x256x512 ![] bcast_S_S2x16x256x512 main_cst
  let main_v8 : IVec S2x16x256x512 1 := cmpf .olt main_v6 main_v7
  let main_v9 : FVec F S2x1x256x512 .f32 := Host.absf main_v5
  let main_cst_0 : FVec F S_ .f32 := constant S_ .f32 0x7F800000#32
  let main_v10 : FVec F S2x1x256x512 .f32 := broadcastInDim S2x1x256x512 ![] bcast_S_S2x1x256x512 main_cst_0
  let main_v11 : IVec S2x1x256x512 1 := cmpf .olt main_v9 main_v10
  let main_v12 : IVec S2x16x256x512 1 := broadcastInDim S2x16x256x512 ![0, 1, 2, 3] bcast_S2x1x256x512_S2x16x256x512_0_1_2_3 main_v11
  let main_v13 : IVec S2x16x256x512 1 := andi main_v8 main_v12
  main_v13
-- ==== Pre_attndn_pre.lean ====
abbrev S8192x640 : Shape := ⟨2, ![8192, 640]⟩
abbrev S512x1024 : Shape := ⟨2, ![512, 1024]⟩
abbrev S8192x512 : Shape := ⟨2, ![8192, 512]⟩
abbrev S2x16x256x512 : Shape := ⟨4, ![2, 16, 256, 512]⟩
abbrev S512x512 : Shape := ⟨2, ![512, 512]⟩
abbrev S2x1x256x512 : Shape := ⟨4, ![2, 1, 256, 512]⟩
abbrev S_ : Shape := ⟨0, ![]⟩

class Facts : Prop where
  slices_S8192x640_S8192x512_0_0 : S8192x640.Slices ![0, 0] S8192x512
  shapeCasts_S8192x512_S2x16x256x512 : S8192x512.ShapeCasts S2x16x256x512
  bitsLt_bf16_f32 : FTy.bits .bf16 < FTy.bits .f32
  slices_S512x1024_S512x512_0_0 : S512x1024.Slices ![0, 0] S512x512
  shapeCasts_S512x512_S2x1x256x512 : S512x512.ShapeCasts S2x1x256x512
  bcast_S_S2x16x256x512 : S_.BroadcastsInDim S2x16x256x512 (![] : Fin 0 → Fin S2x16x256x512.rank)
  bcast_S_S2x1x256x512 : S_.BroadcastsInDim S2x1x256x512 (![] : Fin 0 → Fin S2x1x256x512.rank)
  bcast_S2x1x256x512_S2x16x256x512_0_1_2_3 : S2x1x256x512.BroadcastsInDim S2x16x256x512 (![0, 1, 2, 3] : Fin 4 → Fin S2x16x256x512.rank)

variable [Facts]

def fn {F : FTy → Type} [FloatOps F] (main_arg0 : FVec F S8192x640 .f32) (main_arg1 : FVec F S512x1024 .bf16) : IVec S2x16x256x512 1 :=
  let main_v0 : FVec F S8192x512 .f32 := (extractStridedSlice S8192x512 ![0, 0] · slices_S8192x640_S8192x512_0_0) main_arg0
  let main_v1 : FVec F S2x16x256x512 .f32 := shapeCast S2x16x256x512 main_v0 shapeCasts_S8192x512_S2x16x256x512
  let main_v2 : FVec F S512x1024 .f32 := (extf .f32 · bitsLt_bf16_f32) main_arg1
  let main_v3 : FVec F S512x512 .f32 := (extractStridedSlice S512x512 ![0, 0] · slices_S512x1024_S512x512_0_0) main_v2
  let main_v4 : FVec F S2x1x256x512 .f32 := shapeCast S2x1x256x512 main_v3 shapeCasts_S512x512_S2x1x256x512
  let main_v5 : FVec F S2x16x256x512 .f32 := Host.absf main_v1
  let main_cst : FVec F S_ .f32 := constant S_ .f32 0x7F800000#32
  let main_v6 : FVec F S2x16x256x512 .f32 := broadcastInDim S2x16x256x512 ![] bcast_S_S2x16x256x512 main_cst
  let main_v7 : IVec S2x16x256x512 1 := cmpf .olt main_v5 main_v6
  let main_v8 : FVec F S2x1x256x512 .f32 := Host.absf main_v4
  let main_cst_0 : FVec F S_ .f32 := constant S_ .f32 0x7F800000#32
  let main_v9 : FVec F S2x1x256x512 .f32 := broadcastInDim S2x1x256x512 ![] bcast_S_S2x1x256x512 main_cst_0
  let main_v10 : IVec S2x1x256x512 1 := cmpf .olt main_v8 main_v9
  let main_v11 : IVec S2x16x256x512 1 := broadcastInDim S2x16x256x512 ![0, 1, 2, 3] bcast_S2x1x256x512_S2x16x256x512_0_1_2_3 main_v10
  let main_v12 : IVec S2x16x256x512 1 := andi main_v7 main_v11
  main_v12
-- ==== Gm.lean ====
abbrev S8192x3584 : Shape := ⟨2, ![8192, 3584]⟩
abbrev S2x1536 : Shape := ⟨2, ![2, 1536]⟩
abbrev S2x12x128x128 : Shape := ⟨4, ![2, 12, 128, 128]⟩
abbrev S2x12x128 : Shape := ⟨3, ![2, 12, 128]⟩
abbrev S1x1536 : Shape := ⟨2, ![1, 1536]⟩
abbrev S1536 : Shape := ⟨1, ![1536]⟩
abbrev S1x12x128 : Shape := ⟨3, ![1, 12, 128]⟩
abbrev S12x128 : Shape := ⟨2, ![12, 128]⟩
abbrev S128x12 : Shape := ⟨2, ![128, 12]⟩
abbrev S8192x1536 : Shape := ⟨2, ![8192, 1536]⟩
abbrev S512x1536 : Shape := ⟨2, ![512, 1536]⟩
abbrev S1x12x128x128 : Shape := ⟨4, ![1, 12, 128, 128]⟩
abbrev S512 : Shape := ⟨1, ![512]⟩
abbrev S512x1 : Shape := ⟨2, ![512, 1]⟩
abbrev S128x128 : Shape := ⟨2, ![128, 128]⟩
abbrev S128x512 : Shape := ⟨2, ![128, 512]⟩
abbrev S1x1x128x128 : Shape := ⟨4, ![1, 1, 128, 128]⟩
abbrev S128x1 : Shape := ⟨2, ![128, 1]⟩

abbrev nBuf : Space → Nat
  | .hbm => 11
  | .vmem => 9
  | .smem => 0
  | _ => 0

abbrev bufTy : (tb : Table) → Fin (tcTables nBuf tb) → BufTy
  | .hbm, ⟨0, _⟩ => ⟨S8192x3584, .bf16⟩
  | .hbm, ⟨1, _⟩ => ⟨S2x1536, .f32⟩
  | .hbm, ⟨2, _⟩ => ⟨S2x12x128x128, .f32⟩
  | .hbm, ⟨3, _⟩ => ⟨S2x12x128, .f32⟩
  | .hbm, ⟨4, _⟩ => ⟨S1x1536, .f32⟩
  | .hbm, ⟨5, _⟩ => ⟨S1536, .f32⟩
  | .hbm, ⟨6, _⟩ => ⟨S1x12x128, .f32⟩
  | .hbm, ⟨7, _⟩ => ⟨S12x128, .f32⟩
  | .hbm, ⟨8, _⟩ => ⟨S128x12, .f32⟩
  | .hbm, ⟨9, _⟩ => ⟨S1x1536, .f32⟩
  | .hbm, ⟨10, _⟩ => ⟨S8192x1536, .bf16⟩
  | .local _ .vmem, ⟨0, _⟩ => ⟨S512x1536, .bf16⟩
  | .local _ .vmem, ⟨1, _⟩ => ⟨S512x1536, .bf16⟩
  | .local _ .vmem, ⟨2, _⟩ => ⟨S512x1536, .bf16⟩
  | .local _ .vmem, ⟨3, _⟩ => ⟨S512x1536, .bf16⟩
  | .local _ .vmem, ⟨4, _⟩ => ⟨S1x1536, .f32⟩
  | .local _ .vmem, ⟨5, _⟩ => ⟨S1x12x128x128, .f32⟩
  | .local _ .vmem, ⟨6, _⟩ => ⟨S128x12, .f32⟩
  | .local _ .vmem, ⟨7, _⟩ => ⟨S512x1536, .bf16⟩
  | .local _ .vmem, ⟨8, _⟩ => ⟨S512x1536, .bf16⟩
  | _, _ => ⟨S8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x12x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GmRefIdeal.lean ====
abbrev S8192x3584 : Shape := ⟨2, ![8192, 3584]⟩
abbrev S2x1536 : Shape := ⟨2, ![2, 1536]⟩
abbrev S2x12x128x128 : Shape := ⟨4, ![2, 12, 128, 128]⟩
abbrev S2x12x128 : Shape := ⟨3, ![2, 12, 128]⟩
abbrev S2x4096x3584 : Shape := ⟨3, ![2, 4096, 3584]⟩
abbrev S2x4096x1536 : Shape := ⟨3, ![2, 4096, 1536]⟩
abbrev S2x4096x512 : Shape := ⟨3, ![2, 4096, 512]⟩
abbrev S_ : Shape := ⟨0, ![]⟩
abbrev S1x1536 : Shape := ⟨2, ![1, 1536]⟩
abbrev S1536 : Shape := ⟨1, ![1536]⟩
abbrev S2x4096 : Shape := ⟨2, ![2, 4096]⟩
abbrev S2x4096x1 : Shape := ⟨3, ![2, 4096, 1]⟩
abbrev S1x1x1536 : Shape := ⟨3, ![1, 1, 1536]⟩
abbrev S2x32x128x12x128 : Shape := ⟨5, ![2, 32, 128, 12, 128]⟩
abbrev S1x12x128x128 : Shape := ⟨4, ![1, 12, 128, 128]⟩
abbrev S12x128x128 : Shape := ⟨3, ![12, 128, 128]⟩
abbrev S12x2x32x128x128 : Shape := ⟨5, ![12, 2, 32, 128, 128]⟩
abbrev S1x12x128 : Shape := ⟨3, ![1, 12, 128]⟩
abbrev S12x128 : Shape := ⟨2, ![12, 128]⟩
abbrev S128x12 : Shape := ⟨2, ![128, 12]⟩
abbrev S1x1x128x12x1 : Shape := ⟨5, ![1, 1, 128, 12, 1]⟩
abbrev S8192x1536 : Shape := ⟨2, ![8192, 1536]⟩

abbrev nBuf : Space → Nat
  | .hbm => 76
  | .vmem => 0
  | .smem => 0
  | _ => 0

abbrev bufTy : (tb : Table) → Fin (tcTables nBuf tb) → BufTy
  | .hbm, ⟨0, _⟩ => ⟨S8192x3584, .bf16⟩
  | .hbm, ⟨1, _⟩ => ⟨S2x1536, .f32⟩
  | .hbm, ⟨2, _⟩ => ⟨S2x12x128x128, .f32⟩
  | .hbm, ⟨3, _⟩ => ⟨S2x12x128, .f32⟩
  | .hbm, ⟨4, _⟩ => ⟨S8192x3584, .f32⟩
  | .hbm, ⟨5, _⟩ => ⟨S2x4096x3584, .f32⟩
  | .hbm, ⟨6, _⟩ => ⟨S2x4096x1536, .f32⟩
  | .hbm, ⟨7, _⟩ => ⟨S2x4096x1536, .f32⟩
  | .hbm, ⟨8, _⟩ => ⟨S2x4096x512, .f32⟩
  | .hbm, ⟨9, _⟩ => ⟨S2x4096x1536, .f32⟩
  | .hbm, ⟨10, _⟩ => ⟨S2x4096x1536, .f32⟩
  | .hbm, ⟨11, _⟩ => ⟨S_, .f32⟩
  | .hbm, ⟨12, _⟩ => ⟨S2x4096x1536, .f32⟩
  | .hbm, ⟨13, _⟩ => ⟨S2x4096x1536, .f32⟩
  | .hbm, ⟨14, _⟩ => ⟨S2x4096x1536, .f32⟩
  | .hbm, ⟨15, _⟩ => ⟨S_, .f32⟩
  | .hbm, ⟨16, _⟩ => ⟨S2x4096x1536, .f32⟩
  | .hbm, ⟨17, _⟩ => ⟨S2x4096x1536, .f32⟩
  | .hbm, ⟨18, _⟩ => ⟨S2x4096x1536, .f32⟩
  | .hbm, ⟨19, _⟩ => ⟨S_, .f32⟩
  | .hbm, ⟨20, _⟩ => ⟨S2x4096x1536, .f32⟩
  | .hbm, ⟨21, _⟩ => ⟨S2x4096x1536, .f32⟩
  | .hbm, ⟨22, _⟩ => ⟨S_, .f32⟩
  | .hbm, ⟨23, _⟩ => ⟨S2x4096x1536, .f32⟩
  | .hbm, ⟨24, _⟩ => ⟨S2x4096x1536, .f32⟩
  | .hbm, ⟨25, _⟩ => ⟨S2x4096x1536, .f32⟩
  | .hbm, ⟨26, _⟩ => ⟨S2x4096x1536, .f32⟩
  | .hbm, ⟨27, _⟩ => ⟨S2x4096x1536, .f32⟩
  | .hbm, ⟨28, _⟩ => ⟨S_, .f32⟩
  | .hbm, ⟨29, _⟩ => ⟨S2x4096x1536, .f32⟩
  | .hbm, ⟨30, _⟩ => ⟨S2x4096x1536, .f32⟩
  | .hbm, ⟨31, _⟩ => ⟨S2x4096x1536, .f32⟩
  | .hbm, ⟨32, _⟩ => ⟨S_, .f32⟩
  | .hbm, ⟨33, _⟩ => ⟨S2x4096x1536, .f32⟩
  | .hbm, ⟨34, _⟩ => ⟨S2x4096x1536, .f32⟩
  | .hbm, ⟨35, _⟩ => ⟨S2x4096x1536, .f32⟩
  | .hbm, ⟨36, _⟩ => ⟨S_, .f32⟩
  | .hbm, ⟨37, _⟩ => ⟨S2x4096x1536, .f32⟩
  | .hbm, ⟨38, _⟩ => ⟨S2x4096x1536, .f32⟩
  | .hbm, ⟨39, _⟩ => ⟨S_, .f32⟩
  | .hbm, ⟨40, _⟩ => ⟨S2x4096x1536, .f32⟩
  | .hbm, ⟨41, _⟩ => ⟨S2x4096x1536, .f32⟩
  | .hbm, ⟨42, _⟩ => ⟨S2x4096x1536, .f32⟩
  | .hbm, ⟨43, _⟩ => ⟨S1x1536, .f32⟩
  | .hbm, ⟨44, _⟩ => ⟨S1536, .f32⟩
  | .hbm, ⟨45, _⟩ => ⟨S2x4096x1536, .f32⟩
  | .hbm, ⟨46, _⟩ => ⟨S_, .f32⟩
  | .hbm, ⟨47, _⟩ => ⟨S2x4096, .f32⟩
  | .hbm, ⟨48, _⟩ => ⟨S2x4096x1, .f32⟩
  | .hbm, ⟨49, _⟩ => ⟨S_, .f32⟩
  | .hbm, ⟨50, _⟩ => ⟨S2x4096x1, .f32⟩
  | .hbm, ⟨51, _⟩ => ⟨S2x4096x1, .f32⟩
  | .hbm, ⟨52, _⟩ => ⟨S_, .f32⟩
  | .hbm, ⟨53, _⟩ => ⟨S2x4096x1, .f32⟩
  | .hbm, ⟨54, _⟩ => ⟨S2x4096x1, .f32⟩
  | .hbm, ⟨55, _⟩ => ⟨S2x4096x1, .f32⟩
  | .hbm, ⟨56, _⟩ => ⟨S2x4096x1536, .f32⟩
  | .hbm, ⟨57, _⟩ => ⟨S2x4096x1536, .f32⟩
  | .hbm, ⟨58, _⟩ => ⟨S1x1x1536, .f32⟩
  | .hbm, ⟨59, _⟩ => ⟨S2x4096x1536, .f32⟩
  | .hbm, ⟨60, _⟩ => ⟨S2x4096x1536, .f32⟩
  | .hbm, ⟨61, _⟩ => ⟨S2x32x128x12x128, .f32⟩
  | .hbm, ⟨62, _⟩ => ⟨S1x12x128x128, .f32⟩
  | .hbm, ⟨63, _⟩ => ⟨S12x128x128, .f32⟩
  | .hbm, ⟨64, _⟩ => ⟨S12x2x32x128x128, .f32⟩
  | .hbm, ⟨65, _⟩ => ⟨S2x32x128x12x128, .f32⟩
  | .hbm, ⟨66, _⟩ => ⟨S1x12x128, .f32⟩
  | .hbm, ⟨67, _⟩ => ⟨S12x128, .f32⟩
  | .hbm, ⟨68, _⟩ => ⟨S128x12, .f32⟩
  | .hbm, ⟨69, _⟩ => ⟨S1x1x128x12x1, .f32⟩
  | .hbm, ⟨70, _⟩ => ⟨S2x32x128x12x128, .f32⟩
  | .hbm, ⟨71, _⟩ => ⟨S2x32x128x12x128, .f32⟩
  | .hbm, ⟨72, _⟩ => ⟨S2x4096x1536, .f32⟩
  | .hbm, ⟨73, _⟩ => ⟨S2x4096x1536, .f32⟩
  | .hbm, ⟨74, _⟩ => ⟨S8192x1536, .f32⟩
  | .hbm, ⟨75, _⟩ => ⟨S8192x1536, .bf16⟩
  | _, _ => ⟨S8192x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_cst_8 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩

abbrev nD : Nat := 1
abbrev τ : Topo := Topo.v7x

variable {F : FTy → Type} [FloatOps F]
-- ==== Proj.lean ====
abbrev S2x4096x2048 : Shape := ⟨3, ![2, 4096, 2048]⟩
abbrev S4x2048 : Shape := ⟨2, ![4, 2048]⟩
abbrev S2x2048x3584 : Shape := ⟨3, ![2, 2048, 3584]⟩
abbrev S8192x2048 : Shape := ⟨2, ![8192, 2048]⟩
abbrev S1x2048 : Shape := ⟨2, ![1, 2048]⟩
abbrev S2048 : Shape := ⟨1, ![2048]⟩
abbrev S8192x3584 : Shape := ⟨2, ![8192, 3584]⟩
abbrev S1024x2048 : Shape := ⟨2, ![1024, 2048]⟩
abbrev S1x2048x896 : Shape := ⟨3, ![1, 2048, 896]⟩
abbrev S1024x896 : Shape := ⟨2, ![1024, 896]⟩
abbrev S256x2048 : Shape := ⟨2, ![256, 2048]⟩
abbrev S256 : Shape := ⟨1, ![256]⟩
abbrev S256x1 : Shape := ⟨2, ![256, 1]⟩
abbrev S2048x896 : Shape := ⟨2, ![2048, 896]⟩

abbrev nBuf : Space → Nat
  | .hbm => 8
  | .vmem => 8
  | .smem => 0
  | _ => 0

abbrev bufTy : (tb : Table) → Fin (tcTables nBuf tb) → BufTy
  | .hbm, ⟨0, _⟩ => ⟨S2x4096x2048, .f32⟩
  | .hbm, ⟨1, _⟩ => ⟨S4x2048, .f32⟩
  | .hbm, ⟨2, _⟩ => ⟨S2x2048x3584, .f32⟩
  | .hbm, ⟨3, _⟩ => ⟨S8192x2048, .f32⟩
  | .hbm, ⟨4, _⟩ => ⟨S1x2048, .f32⟩
  | .hbm, ⟨5, _⟩ => ⟨S2048, .f32⟩
  | .hbm, ⟨6, _⟩ => ⟨S1x2048, .f32⟩
  | .hbm, ⟨7, _⟩ => ⟨S8192x3584, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x896, .f32⟩
  | .local _ .vmem, ⟨4, _⟩ => ⟨S1x2048x896, .f32⟩
  | .local _ .vmem, ⟨5, _⟩ => ⟨S1024x896, .bf16⟩
  | .local _ .vmem, ⟨6, _⟩ => ⟨S1024x896, .bf16⟩
  | .local _ .vmem, ⟨7, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_2 : BitVec 32 := 0#32
  let c4_i32_3 : BitVec 32 := 4#32
  let v6 : BitVec 32 := Scalar.addi c0_i32_2 c4_i32_3
  let c1_i32 : BitVec 32 := 1#32
  ⟨c0_i32_2, v6, c1_i32⟩
def k0_mult1 (k0_t1 : Fin k0_t1_loop.trips) : BitVec 32 :=
  let c0_i32_2 : BitVec 32 := 0#32
  let c1_i32 : BitVec 32 := 1#32
  let arg7 : BitVec 32 := Scf.iv c0_i32_2 c1_i32 k0_t1
  let c256_i32 : BitVec 32 := 256#32
  let v7 : BitVec 32 := Scalar.muli arg7 c256_i32
  v7
def k0_off1 (k0_t1 : Fin k0_t1_loop.trips) : Fin 2 → Nat :=
  let c0_i32_2 : BitVec 32 := 0#32
  let c1_i32 : BitVec 32 := 1#32
  let arg7 : BitVec 32 := Scf.iv c0_i32_2 c1_i32 k0_t1
  let c256_i32 : BitVec 32 := 256#32
  let v7 : BitVec 32 := Scalar.muli arg7 c256_i32
  let v8 : BitVec 32 := v7
  let v9 : Index := Scalar.indexCast v8
  let c0 : Index := 0#32
  ![v9.toNat, 0]
def k0_cond2 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  ![arg0.toNat, v0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x896 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S2x4096x2048 : Shape := ⟨3, ![2, 4096, 2048]⟩
abbrev S4x2048 : Shape := ⟨2, ![4, 2048]⟩
abbrev S2x2048x3584 : Shape := ⟨3, ![2, 2048, 3584]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S1x2048x3584 : Shape := ⟨3, ![1, 2048, 3584]⟩
abbrev S2048x3584 : Shape := ⟨2, ![2048, 3584]⟩
abbrev S2x4096x3584 : Shape := ⟨3, ![2, 4096, 3584]⟩
abbrev S8192x3584 : Shape := ⟨2, ![8192, 3584]⟩

abbrev nBuf : Space → Nat
  | .hbm => 26
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S4x2048, .f32⟩
  | .hbm, ⟨2, _⟩ => ⟨S2x2048x3584, .f32⟩
  | .hbm, ⟨3, _⟩ => ⟨S1x2048, .f32⟩
  | .hbm, ⟨4, _⟩ => ⟨S2048, .f32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S1x1x2048, .f32⟩
  | .hbm, ⟨19, _⟩ => ⟨S2x4096x2048, .f32⟩
  | .hbm, ⟨20, _⟩ => ⟨S2x4096x2048, .f32⟩
  | .hbm, ⟨21, _⟩ => ⟨S1x2048x3584, .f32⟩
  | .hbm, ⟨22, _⟩ => ⟨S2048x3584, .f32⟩
  | .hbm, ⟨23, _⟩ => ⟨S2x4096x3584, .f32⟩
  | .hbm, ⟨24, _⟩ => ⟨S8192x3584, .f32⟩
  | .hbm, ⟨25, _⟩ => ⟨S8192x3584, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kv.lean ====
abbrev S2x256x2048 : Shape := ⟨3, ![2, 256, 2048]⟩
abbrev S2048 : Shape := ⟨1, ![2048]⟩
abbrev S4x2048x1024 : Shape := ⟨3, ![4, 2048, 1024]⟩
abbrev S512x2048 : Shape := ⟨2, ![512, 2048]⟩
abbrev S1x2048 : Shape := ⟨2, ![1, 2048]⟩
abbrev S512x1024 : Shape := ⟨2, ![512, 1024]⟩
abbrev S1x2048x512 : Shape := ⟨3, ![1, 2048, 512]⟩
abbrev S512x512 : Shape := ⟨2, ![512, 512]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩

abbrev nBuf : Space → Nat
  | .hbm => 6
  | .vmem => 7
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S4x2048x1024, .f32⟩
  | .hbm, ⟨3, _⟩ => ⟨S512x2048, .f32⟩
  | .hbm, ⟨4, _⟩ => ⟨S1x2048, .f32⟩
  | .hbm, ⟨5, _⟩ => ⟨S512x1024, .bf16⟩
  | .local _ .vmem, ⟨0, _⟩ => ⟨S512x2048, .f32⟩
  | .local _ .vmem, ⟨1, _⟩ => ⟨S1x2048, .f32⟩
  | .local _ .vmem, ⟨2, _⟩ => ⟨S1x2048x512, .f32⟩
  | .local _ .vmem, ⟨3, _⟩ => ⟨S1x2048x512, .f32⟩
  | .local _ .vmem, ⟨4, _⟩ => ⟨S512x512, .bf16⟩
  | .local _ .vmem, ⟨5, _⟩ => ⟨S512x512, .bf16⟩
  | .local _ .vmem, ⟨6, _⟩ => ⟨S512x2048, .bf16⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 2], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_2 : BitVec 32 := 0#32
  let c2_i32_3 : BitVec 32 := 2#32
  let v6 : BitVec 32 := Scalar.addi c0_i32_2 c2_i32_3
  let c1_i32 : BitVec 32 := 1#32
  ⟨c0_i32_2, v6, c1_i32⟩
def k0_mult1 (k0_t1 : Fin k0_t1_loop.trips) : BitVec 32 :=
  let c0_i32_2 : BitVec 32 := 0#32
  let c1_i32 : BitVec 32 := 1#32
  let arg7 : BitVec 32 := Scf.iv c0_i32_2 c1_i32 k0_t1
  let c256_i32 : BitVec 32 := 256#32
  let v7 : BitVec 32 := Scalar.muli arg7 c256_i32
  v7
def k0_off1 (k0_t1 : Fin k0_t1_loop.trips) : Fin 2 → Nat :=
  let c0_i32_2 : BitVec 32 := 0#32
  let c1_i32 : BitVec 32 := 1#32
  let arg7 : BitVec 32 := Scf.iv c0_i32_2 c1_i32 k0_t1
  let c256_i32 : BitVec 32 := 256#32
  let v7 : BitVec 32 := Scalar.muli arg7 c256_i32
  let v8 : BitVec 32 := v7
  let v9 : Index := Scalar.indexCast v8
  let c0 : Index := 0#32
  ![v9.toNat, 0]
def k0_cond2 (i : grid0.Coords) : BitVec 1 :=
  let arg1 : BitVec 32 := BitVec.ofNat 32 (i 1).val
  let c2_i32 : BitVec 32 := 2#32
  let v3 : BitVec 1 := Scalar.cmpi .slt arg1 c2_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c3_i32 : BitVec 32 := 3#32
  let c0_i32 : BitVec 32 := 0#32
  let c0_i32_0 : BitVec 32 := 0#32
  ![c3_i32.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  ![arg0.toNat, v0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KvRefIdeal.lean ====
abbrev S2x256x2048 : Shape := ⟨3, ![2, 256, 2048]⟩
abbrev S2048 : Shape := ⟨1, ![2048]⟩
abbrev S4x2048x1024 : Shape := ⟨3, ![4, 2048, 1024]⟩
abbrev S_ : Shape := ⟨0, ![]⟩
abbrev S2x256 : Shape := ⟨2, ![2, 256]⟩
abbrev S2x256x1 : Shape := ⟨3, ![2, 256, 1]⟩
abbrev S1x1x2048 : Shape := ⟨3, ![1, 1, 2048]⟩
abbrev S1x2048x1024 : Shape := ⟨3, ![1, 2048, 1024]⟩
abbrev S2048x1024 : Shape := ⟨2, ![2048, 1024]⟩
abbrev S2x256x1024 : Shape := ⟨3, ![2, 256, 1024]⟩
abbrev S512x1024 : Shape := ⟨2, ![512, 1024]⟩

abbrev nBuf : Space → Nat
  | .hbm => 24
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2048, .f32⟩
  | .hbm, ⟨2, _⟩ => ⟨S4x2048x1024, .f32⟩
  | .hbm, ⟨3, _⟩ => ⟨S2x256x2048, .f32⟩
  | .hbm, ⟨4, _⟩ => ⟨S_, .f32⟩
  | .hbm, ⟨5, _⟩ => ⟨S2x256, .f32⟩
  | .hbm, ⟨6, _⟩ => ⟨S2x256x1, .f32⟩
  | .hbm, ⟨7, _⟩ => ⟨S_, .f32⟩
  | .hbm, ⟨8, _⟩ => ⟨S2x256x1, .f32⟩
  | .hbm, ⟨9, _⟩ => ⟨S2x256x1, .f32⟩
  | .hbm, ⟨10, _⟩ => ⟨S_, .f32⟩
  | .hbm, ⟨11, _⟩ => ⟨S2x256x1, .f32⟩
  | .hbm, ⟨12, _⟩ => ⟨S2x256x1, .f32⟩
  | .hbm, ⟨13, _⟩ => ⟨S2x256x1, .f32⟩
  | .hbm, ⟨14, _⟩ => ⟨S2x256x2048, .f32⟩
  | .hbm, ⟨15, _⟩ => ⟨S2x256x2048, .f32⟩
  | .hbm, ⟨16, _⟩ => ⟨S1x1x2048, .f32⟩
  | .hbm, ⟨17, _⟩ => ⟨S2x256x2048, .f32⟩
  | .hbm, ⟨18, _⟩ => ⟨S2x256x2048, .f32⟩
  | .hbm, ⟨19, _⟩ => ⟨S1x2048x1024, .f32⟩
  | .hbm, ⟨20, _⟩ => ⟨S2048x1024, .f32⟩
  | .hbm, ⟨21, _⟩ => ⟨S2x256x1024, .f32⟩
  | .hbm, ⟨22, _⟩ => ⟨S512x1024, .f32⟩
  | .hbm, ⟨23, _⟩ => ⟨S512x1024, .bf16⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Out.lean ====
abbrev S2x4096x2048 : Shape := ⟨3, ![2, 4096, 2048]⟩
abbrev S8192x1536 : Shape := ⟨2, ![8192, 1536]⟩
abbrev S8192x512 : Shape := ⟨2, ![8192, 512]⟩
abbrev S4x2048x2048 : Shape := ⟨3, ![4, 2048, 2048]⟩
abbrev S8192x2048 : Shape := ⟨2, ![8192, 2048]⟩
abbrev S512x2048 : Shape := ⟨2, ![512, 2048]⟩
abbrev S512x1536 : Shape := ⟨2, ![512, 1536]⟩
abbrev S512x512 : Shape := ⟨2, ![512, 512]⟩
abbrev S1x1536x2048 : Shape := ⟨3, ![1, 1536, 2048]⟩
abbrev S1x512x2048 : Shape := ⟨3, ![1, 512, 2048]⟩
abbrev S1536x2048 : Shape := ⟨2, ![1536, 2048]⟩

abbrev nBuf : Space → Nat
  | .hbm => 6
  | .vmem => 12
  | .smem => 0
  | _ => 0

abbrev bufTy : (tb : Table) → Fin (tcTables nBuf tb) → BufTy
  | .hbm, ⟨0, _⟩ => ⟨S2x4096x2048, .f32⟩
  | .hbm, ⟨1, _⟩ => ⟨S8192x1536, .bf16⟩
  | .hbm, ⟨2, _⟩ => ⟨S8192x512, .bf16⟩
  | .hbm, ⟨3, _⟩ => ⟨S4x2048x2048, .f32⟩
  | .hbm, ⟨4, _⟩ => ⟨S8192x2048, .f32⟩
  | .hbm, ⟨5, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x1536, .bf16⟩
  | .local _ .vmem, ⟨3, _⟩ => ⟨S512x1536, .bf16⟩
  | .local _ .vmem, ⟨4, _⟩ => ⟨S512x512, .bf16⟩
  | .local _ .vmem, ⟨5, _⟩ => ⟨S512x512, .bf16⟩
  | .local _ .vmem, ⟨6, _⟩ => ⟨S1x1536x2048, .f32⟩
  | .local _ .vmem, ⟨7, _⟩ => ⟨S1x512x2048, .f32⟩
  | .local _ .vmem, ⟨8, _⟩ => ⟨S512x2048, .f32⟩
  | .local _ .vmem, ⟨9, _⟩ => ⟨S512x2048, .f32⟩
  | .local _ .vmem, ⟨10, _⟩ => ⟨S1536x2048, .bf16⟩
  | .local _ .vmem, ⟨11, _⟩ => ⟨S512x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c3_i32_0 : BitVec 32 := 3#32
  let c0_i32 : BitVec 32 := 0#32
  let c0_i32_1 : BitVec 32 := 0#32
  ![c3_i32.toNat, c3_i32_0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1536x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S2x4096x2048 : Shape := ⟨3, ![2, 4096, 2048]⟩
abbrev S8192x1536 : Shape := ⟨2, ![8192, 1536]⟩
abbrev S8192x512 : Shape := ⟨2, ![8192, 512]⟩
abbrev S4x2048x2048 : Shape := ⟨3, ![4, 2048, 2048]⟩
abbrev S8192x2048 : Shape := ⟨2, ![8192, 2048]⟩
abbrev S1x2048x2048 : Shape := ⟨3, ![1, 2048, 2048]⟩
abbrev S2048x2048 : Shape := ⟨2, ![2048, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S8192x1536, .bf16⟩
  | .hbm, ⟨2, _⟩ => ⟨S8192x512, .bf16⟩
  | .hbm, ⟨3, _⟩ => ⟨S4x2048x2048, .f32⟩
  | .hbm, ⟨4, _⟩ => ⟨S8192x1536, .f32⟩
  | .hbm, ⟨5, _⟩ => ⟨S8192x512, .f32⟩
  | .hbm, ⟨6, _⟩ => ⟨S8192x2048, .f32⟩
  | .hbm, ⟨7, _⟩ => ⟨S2x4096x2048, .f32⟩
  | .hbm, ⟨8, _⟩ => ⟨S1x2048x2048, .f32⟩
  | .hbm, ⟨9, _⟩ => ⟨S2048x2048, .f32⟩
  | .hbm, ⟨10, _⟩ => ⟨S2x4096x2048, .f32⟩
  | .hbm, ⟨11, _⟩ => ⟨S2x4096x2048, .f32⟩
  | .hbm, ⟨12, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Ffn.lean ====
abbrev S2x4096x2048 : Shape := ⟨3, ![2, 4096, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S2048 : Shape := ⟨1, ![2048]⟩
abbrev S8192x2048 : Shape := ⟨2, ![8192, 2048]⟩
abbrev S1x2048 : Shape := ⟨2, ![1, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 11
  | .vmem => 11
  | .smem => 0
  | _ => 0

abbrev bufTy : (tb : Table) → Fin (tcTables nBuf tb) → BufTy
  | .hbm, ⟨0, _⟩ => ⟨S2x4096x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S8192x2048, .f32⟩
  | .hbm, ⟨6, _⟩ => ⟨S1x2048, .f32⟩
  | .hbm, ⟨7, _⟩ => ⟨S2048, .f32⟩
  | .hbm, ⟨8, _⟩ => ⟨S1x2048, .f32⟩
  | .hbm, ⟨9, _⟩ => ⟨S1x2048, .f32⟩
  | .hbm, ⟨10, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1x512x2048, .f32⟩
  | .local _ .vmem, ⟨6, _⟩ => ⟨S1x512x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_15 : BitVec 32 := 0#32
  let c4_i32 : BitVec 32 := 4#32
  let v23 : BitVec 32 := Scalar.addi c0_i32_15 c4_i32
  let c1_i32 : BitVec 32 := 1#32
  ⟨c0_i32_15, v23, c1_i32⟩
def k0_mult1 (k0_t1 : Fin k0_t1_loop.trips) : BitVec 32 :=
  let c0_i32_15 : BitVec 32 := 0#32
  let c1_i32 : BitVec 32 := 1#32
  let arg9 : BitVec 32 := Scf.iv c0_i32_15 c1_i32 k0_t1
  let c256_i32 : BitVec 32 := 256#32
  let v24 : BitVec 32 := Scalar.muli arg9 c256_i32
  v24
def k0_off1 (k0_t1 : Fin k0_t1_loop.trips) : Fin 2 → Nat :=
  let c0_i32_15 : BitVec 32 := 0#32
  let c1_i32 : BitVec 32 := 1#32
  let arg9 : BitVec 32 := Scf.iv c0_i32_15 c1_i32 k0_t1
  let c256_i32 : BitVec 32 := 256#32
  let v24 : BitVec 32 := Scalar.muli arg9 c256_i32
  let v25 : BitVec 32 := v24
  let v26 : Index := Scalar.indexCast v25
  let c0_17 : Index := 0#32
  ![v26.toNat, 0]
def k0_cond2 (i : grid0.Coords) : BitVec 1 :=
  let arg1 : BitVec 32 := BitVec.ofNat 32 (i 1).val
  let c15_i32 : BitVec 32 := 15#32
  let v20 : BitVec 1 := Scalar.cmpi .eq arg1 c15_i32
  let v21 : BitVec 32 := Scalar.extui v20
  let c0_i32_14 : BitVec 32 := 0#32
  let v22 : BitVec 1 := Scalar.cmpi .ne v21 c0_i32_14
  v22

@[reducible] def k0_t2_loop : Scf.Loop 32 :=
  let c0_i32_15 : BitVec 32 := 0#32
  let c4_i32 : BitVec 32 := 4#32
  let v23 : BitVec 32 := Scalar.addi c0_i32_15 c4_i32
  let c1_i32 : BitVec 32 := 1#32
  ⟨c0_i32_15, v23, c1_i32⟩
def k0_mult2 (k0_t2 : Fin k0_t2_loop.trips) : BitVec 32 :=
  let c0_i32_15 : BitVec 32 := 0#32
  let c1_i32 : BitVec 32 := 1#32
  let arg9 : BitVec 32 := Scf.iv c0_i32_15 c1_i32 k0_t2
  let c256_i32 : BitVec 32 := 256#32
  let v24 : BitVec 32 := Scalar.muli arg9 c256_i32
  v24
def k0_off2 (k0_t2 : Fin k0_t2_loop.trips) : Fin 2 → Nat :=
  let c0_i32_15 : BitVec 32 := 0#32
  let c1_i32 : BitVec 32 := 1#32
  let arg9 : BitVec 32 := Scf.iv c0_i32_15 c1_i32 k0_t2
  let c256_i32 : BitVec 32 := 256#32
  let v24 : BitVec 32 := Scalar.muli arg9 c256_i32
  let v25 : BitVec 32 := v24
  let v26 : Index := Scalar.indexCast v25
  let c0_17 : Index := 0#32
  ![v26.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnRefIdeal.lean ====
abbrev S2x4096x2048 : Shape := ⟨3, ![2, 4096, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S2048 : Shape := ⟨1, ![2048]⟩
abbrev S1x2048 : Shape := ⟨2, ![1, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S1x2048x8192 : Shape := ⟨3, ![1, 2048, 8192]⟩
abbrev S2048x8192 : Shape := ⟨2, ![2048, 8192]⟩
abbrev S2x4096x8192 : Shape := ⟨3, ![2, 4096, 8192]⟩
abbrev S1x8192x2048 : Shape := ⟨3, ![1, 8192, 2048]⟩
abbrev S8192x2048 : Shape := ⟨2, ![8192, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S2x4096x2048, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x2048, .f32⟩
  | .hbm, ⟨19, _⟩ => ⟨S2x4096x2048, .f32⟩
  | .hbm, ⟨20, _⟩ => ⟨S1x1x2048, .f32⟩
  | .hbm, ⟨21, _⟩ => ⟨S2x4096x2048, .f32⟩
  | .hbm, ⟨22, _⟩ => ⟨S2x4096x2048, .f32⟩
  | .hbm, ⟨23, _⟩ => ⟨S1x2048x8192, .f32⟩
  | .hbm, ⟨24, _⟩ => ⟨S2048x8192, .f32⟩
  | .hbm, ⟨25, _⟩ => ⟨S2x4096x8192, .f32⟩
  | .hbm, ⟨26, _⟩ => ⟨S_, .f32⟩
  | .hbm, ⟨27, _⟩ => ⟨S2x4096x8192, .f32⟩
  | .hbm, ⟨28, _⟩ => ⟨S2x4096x8192, .f32⟩
  | .hbm, ⟨29, _⟩ => ⟨S2x4096x8192, .f32⟩
  | .hbm, ⟨30, _⟩ => ⟨S1x8192x2048, .f32⟩
  | .hbm, ⟨31, _⟩ => ⟨S8192x2048, .f32⟩
  | .hbm, ⟨32, _⟩ => ⟨S2x4096x2048, .f32⟩
  | .hbm, ⟨33, _⟩ => ⟨S2x4096x2048, .f32⟩
  | .hbm, ⟨34, _⟩ => ⟨S2x4096x2048, .f32⟩
  | .hbm, ⟨35, _⟩ => ⟨S_, .f32⟩
  | .hbm, ⟨36, _⟩ => ⟨S2x4096, .f32⟩
  | .hbm, ⟨37, _⟩ => ⟨S2x4096x1, .f32⟩
  | .hbm, ⟨38, _⟩ => ⟨S_, .f32⟩
  | .hbm, ⟨39, _⟩ => ⟨S2x4096x1, .f32⟩
  | .hbm, ⟨40, _⟩ => ⟨S2x4096x1, .f32⟩
  | .hbm, ⟨41, _⟩ => ⟨S_, .f32⟩
  | .hbm, ⟨42, _⟩ => ⟨S2x4096x1, .f32⟩
  | .hbm, ⟨43, _⟩ => ⟨S2x4096x1, .f32⟩
  | .hbm, ⟨44, _⟩ => ⟨S2x4096x1, .f32⟩
  | .hbm, ⟨45, _⟩ => ⟨S2x4096x2048, .f32⟩
  | .hbm, ⟨46, _⟩ => ⟨S2x4096x2048, .f32⟩
  | .hbm, ⟨47, _⟩ => ⟨S1x1x2048, .f32⟩
  | .hbm, ⟨48, _⟩ => ⟨S2x4096x2048, .f32⟩
  | .hbm, ⟨49, _⟩ => ⟨S2x4096x2048, .f32⟩
  | .hbm, ⟨50, _⟩ => ⟨S8192x2048, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_cst : Ref sig .tc := ⟨.hbm, 26, rfl⟩
abbrev main_call0_v0 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]
-- ==== FfnMid.lean ====
abbrev S8192x2048 : Shape := ⟨2, ![8192, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S2048 : Shape := ⟨1, ![2048]⟩
abbrev S1x2048 : Shape := ⟨2, ![1, 2048]⟩
abbrev S1024x2048 : Shape := ⟨2, ![1024, 2048]⟩
abbrev S1x2048x512 : Shape := ⟨3, ![1, 2048, 512]⟩
abbrev S1x512x2048 : Shape := ⟨3, ![1, 512, 2048]⟩
abbrev S256x2048 : Shape := ⟨2, ![256, 2048]⟩
abbrev S256 : Shape := ⟨1, ![256]⟩
abbrev S256x1 : Shape := ⟨2, ![256, 1]⟩
abbrev S2048x512 : Shape := ⟨2, ![2048, 512]⟩
abbrev S1024x512 : Shape := ⟨2, ![1024, 512]⟩
abbrev S512x2048 : Shape := ⟨2, ![512, 2048]⟩

abbrev nBuf : Space → Nat
  | .hbm => 10
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048x512, .f32⟩
  | .local _ .vmem, ⟨4, _⟩ => ⟨S1x2048x512, .f32⟩
  | .local _ .vmem, ⟨5, _⟩ => ⟨S1x512x2048, .f32⟩
  | .local _ .vmem, ⟨6, _⟩ => ⟨S1x512x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_14 : BitVec 32 := 0#32
  let c4_i32 : BitVec 32 := 4#32
  let v20 : BitVec 32 := Scalar.addi c0_i32_14 c4_i32
  let c1_i32 : BitVec 32 := 1#32
  ⟨c0_i32_14, v20, c1_i32⟩
def k0_mult1 (k0_t1 : Fin k0_t1_loop.trips) : BitVec 32 :=
  let c0_i32_14 : BitVec 32 := 0#32
  let c1_i32 : BitVec 32 := 1#32
  let arg9 : BitVec 32 := Scf.iv c0_i32_14 c1_i32 k0_t1
  let c256_i32 : BitVec 32 := 256#32
  let v21 : BitVec 32 := Scalar.muli arg9 c256_i32
  v21
def k0_off1 (k0_t1 : Fin k0_t1_loop.trips) : Fin 2 → Nat :=
  let c0_i32_14 : BitVec 32 := 0#32
  let c1_i32 : BitVec 32 := 1#32
  let arg9 : BitVec 32 := Scf.iv c0_i32_14 c1_i32 k0_t1
  let c256_i32 : BitVec 32 := 256#32
  let v21 : BitVec 32 := Scalar.muli arg9 c256_i32
  let v22 : BitVec 32 := v21
  let v23 : Index := Scalar.indexCast v22
  let c0_16 : Index := 0#32
  ![v23.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnMidRefIdeal.lean ====
abbrev S8192x2048 : Shape := ⟨2, ![8192, 2048]⟩
abbrev S4x2048 : Shape := ⟨2, ![4, 2048]⟩
abbrev S4x2048x8192 : Shape := ⟨3, ![4, 2048, 8192]⟩
abbrev S4x8192x2048 : Shape := ⟨3, ![4, 8192, 2048]⟩
abbrev S2048 : Shape := ⟨1, ![2048]⟩
abbrev S2x4096x2048 : Shape := ⟨3, ![2, 4096, 2048]⟩
abbrev S1x2048 : Shape := ⟨2, ![1, 2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S1x2048x8192 : Shape := ⟨3, ![1, 2048, 8192]⟩
abbrev S2048x8192 : Shape := ⟨2, ![2048, 8192]⟩
abbrev S2x4096x8192 : Shape := ⟨3, ![2, 4096, 8192]⟩
abbrev S1x8192x2048 : Shape := ⟨3, ![1, 8192, 2048]⟩

abbrev nBuf : Space → Nat
  | .hbm => 36
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4x2048, .f32⟩
  | .hbm, ⟨2, _⟩ => ⟨S4x2048x8192, .f32⟩
  | .hbm, ⟨3, _⟩ => ⟨S4x8192x2048, .f32⟩
  | .hbm, ⟨4, _⟩ => ⟨S2048, .f32⟩
  | .hbm, ⟨5, _⟩ => ⟨S2x4096x2048, .f32⟩
  | .hbm, ⟨6, _⟩ => ⟨S1x2048, .f32⟩
  | .hbm, ⟨7, _⟩ => ⟨S2048, .f32⟩
  | .hbm, ⟨8, _⟩ => ⟨S2x4096x2048, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S2x4096x2048, .f32⟩
  | .hbm, ⟨20, _⟩ => ⟨S2x4096x2048, .f32⟩
  | .hbm, ⟨21, _⟩ => ⟨S1x1x2048, .f32⟩
  | .hbm, ⟨22, _⟩ => ⟨S2x4096x2048, .f32⟩
  | .hbm, ⟨23, _⟩ => ⟨S2x4096x2048, .f32⟩
  | .hbm, ⟨24, _⟩ => ⟨S1x2048x8192, .f32⟩
  | .hbm, ⟨25, _⟩ => ⟨S2048x8192, .f32⟩
  | .hbm, ⟨26, _⟩ => ⟨S2x4096x8192, .f32⟩
  | .hbm, ⟨27, _⟩ => ⟨S_, .f32⟩
  | .hbm, ⟨28, _⟩ => ⟨S2x4096x8192, .f32⟩
  | .hbm, ⟨29, _⟩ => ⟨S2x4096x8192, .f32⟩
  | .hbm, ⟨30, _⟩ => ⟨S2x4096x8192, .f32⟩
  | .hbm, ⟨31, _⟩ => ⟨S1x8192x2048, .f32⟩
  | .hbm, ⟨32, _⟩ => ⟨S8192x2048, .f32⟩
  | .hbm, ⟨33, _⟩ => ⟨S2x4096x2048, .f32⟩
  | .hbm, ⟨34, _⟩ => ⟨S2x4096x2048, .f32⟩
  | .hbm, ⟨35, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_call0_cst : Ref sig .tc := ⟨.hbm, 27, rfl⟩
abbrev main_call0_v0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== DnProj.lean ====
abbrev S2x4096x2048 : Shape := ⟨3, ![2, 4096, 2048]⟩
abbrev S4x2048 : Shape := ⟨2, ![4, 2048]⟩
abbrev S2x2048x6704 : Shape := ⟨3, ![2, 2048, 6704]⟩
abbrev S2x6704x2048 : Shape := ⟨3, ![2, 6704, 2048]⟩
abbrev S2x512x2048 : Shape := ⟨3, ![2, 512, 2048]⟩
abbrev S2x48x2048 : Shape := ⟨3, ![2, 48, 2048]⟩
abbrev S_ : Shape := ⟨0, ![]⟩
abbrev S2x80x2048 : Shape := ⟨3, ![2, 80, 2048]⟩
abbrev S2x640x2048 : Shape := ⟨3, ![2, 640, 2048]⟩
abbrev S8192x2048 : Shape := ⟨2, ![8192, 2048]⟩
abbrev S1x2048 : Shape := ⟨2, ![1, 2048]⟩
abbrev S2048 : Shape := ⟨1, ![2048]⟩
abbrev S8192x6144 : Shape := ⟨2, ![8192, 6144]⟩
abbrev S8192x640 : Shape := ⟨2, ![8192, 640]⟩
abbrev S1024x2048 : Shape := ⟨2, ![1024, 2048]⟩
abbrev S1x768x2048 : Shape := ⟨3, ![1, 768, 2048]⟩
abbrev S1x640x2048 : Shape := ⟨3, ![1, 640, 2048]⟩
abbrev S1024x768 : Shape := ⟨2, ![1024, 768]⟩
abbrev S1024x640 : Shape := ⟨2, ![1024, 640]⟩
abbrev S256x2048 : Shape := ⟨2, ![256, 2048]⟩
abbrev S256 : Shape := ⟨1, ![256]⟩
abbrev S256x1 : Shape := ⟨2, ![256, 1]⟩
abbrev S768x2048 : Shape := ⟨2, ![768, 2048]⟩
abbrev S640x2048 : Shape := ⟨2, ![640, 2048]⟩

abbrev nBuf : Space → Nat
  | .hbm => 15
  | .vmem => 11
  | .smem => 0
  | _ => 0

abbrev bufTy : (tb : Table) → Fin (tcTables nBuf tb) → BufTy
  | .hbm, ⟨0, _⟩ => ⟨S2x4096x2048, .f32⟩
  | .hbm, ⟨1, _⟩ => ⟨S4x2048, .f32⟩
  | .hbm, ⟨2, _⟩ => ⟨S2x2048x6704, .f32⟩
  | .hbm, ⟨3, _⟩ => ⟨S2x6704x2048, .f32⟩
  | .hbm, ⟨4, _⟩ => ⟨S2x512x2048, .f32⟩
  | .hbm, ⟨5, _⟩ => ⟨S2x48x2048, .f32⟩
  | .hbm, ⟨6, _⟩ => ⟨S_, .f32⟩
  | .hbm, ⟨7, _⟩ => ⟨S2x80x2048, .f32⟩
  | .hbm, ⟨8, _⟩ => ⟨S2x640x2048, .f32⟩
  | .hbm, ⟨9, _⟩ => ⟨S8192x2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S8192x6144, .bf16⟩
  | .hbm, ⟨14, _⟩ => ⟨S8192x640, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x768x2048, .f32⟩
  | .local _ .vmem, ⟨4, _⟩ => ⟨S1x768x2048, .f32⟩
  | .local _ .vmem, ⟨5, _⟩ => ⟨S1x640x2048, .f32⟩
  | .local _ .vmem, ⟨6, _⟩ => ⟨S1024x768, .bf16⟩
  | .local _ .vmem, ⟨7, _⟩ => ⟨S1024x768, .bf16⟩
  | .local _ .vmem, ⟨8, _⟩ => ⟨S1024x640, .f32⟩
  | .local _ .vmem, ⟨9, _⟩ => ⟨S1024x640, .f32⟩
  | .local _ .vmem, ⟨10, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9_0 : Ref sig .tc := ⟨.hbm, 13, rfl⟩
abbrev main_v9_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 9], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_4 : BitVec 32 := 0#32
  let c4_i32 : BitVec 32 := 4#32
  let v9 : BitVec 32 := Scalar.addi c0_i32_4 c4_i32
  let c1_i32 : BitVec 32 := 1#32
  ⟨c0_i32_4, v9, c1_i32⟩
def k0_mult1 (k0_t1 : Fin k0_t1_loop.trips) : BitVec 32 :=
  let c0_i32_4 : BitVec 32 := 0#32
  let c1_i32 : BitVec 32 := 1#32
  let arg9 : BitVec 32 := Scf.iv c0_i32_4 c1_i32 k0_t1
  let c256_i32 : BitVec 32 := 256#32
  let v10 : BitVec 32 := Scalar.muli arg9 c256_i32
  v10
def k0_off1 (k0_t1 : Fin k0_t1_loop.trips) : Fin 2 → Nat :=
  let c0_i32_4 : BitVec 32 := 0#32
  let c1_i32 : BitVec 32 := 1#32
  let arg9 : BitVec 32 := Scf.iv c0_i32_4 c1_i32 k0_t1
  let c256_i32 : BitVec 32 := 256#32
  let v10 : BitVec 32 := Scalar.muli arg9 c256_i32
  let v11 : BitVec 32 := v10
  let v12 : Index := Scalar.indexCast v11
  let c0 : Index := 0#32
  ![v12.toNat, 0]
def k0_cond2 (i : grid0.Coords) : BitVec 1 :=
  let arg1 : BitVec 32 := BitVec.ofNat 32 (i 1).val
  let c8_i32 : BitVec 32 := 8#32
  let v3 : BitVec 1 := Scalar.cmpi .slt arg1 c8_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c8_i32_2 : BitVec 32 := 8#32
  let v6 : BitVec 1 := Scalar.cmpi .eq arg1 c8_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.minsi arg1 c7_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x768x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x640x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== DnProjRefIdeal.lean ====
abbrev S2x4096x2048 : Shape := ⟨3, ![2, 4096, 2048]⟩
abbrev S4x2048 : Shape := ⟨2, ![4, 2048]⟩
abbrev S2x2048x6704 : Shape := ⟨3, ![2, 2048, 6704]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S1x2048x6704 : Shape := ⟨3, ![1, 2048, 6704]⟩
abbrev S2048x6704 : Shape := ⟨2, ![2048, 6704]⟩
abbrev S2x4096x6704 : Shape := ⟨3, ![2, 4096, 6704]⟩
abbrev S8192x6704 : Shape := ⟨2, ![8192, 6704]⟩
abbrev S8192x6144 : Shape := ⟨2, ![8192, 6144]⟩
abbrev S8192x48 : Shape := ⟨2, ![8192, 48]⟩
abbrev S8192x512 : Shape := ⟨2, ![8192, 512]⟩
abbrev S8192x80 : Shape := ⟨2, ![8192, 80]⟩
abbrev S8192x640 : Shape := ⟨2, ![8192, 640]⟩

abbrev nBuf : Space → Nat
  | .hbm => 32
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S4x2048, .f32⟩
  | .hbm, ⟨2, _⟩ => ⟨S2x2048x6704, .f32⟩
  | .hbm, ⟨3, _⟩ => ⟨S1x2048, .f32⟩
  | .hbm, ⟨4, _⟩ => ⟨S2048, .f32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S1x1x2048, .f32⟩
  | .hbm, ⟨19, _⟩ => ⟨S2x4096x2048, .f32⟩
  | .hbm, ⟨20, _⟩ => ⟨S2x4096x2048, .f32⟩
  | .hbm, ⟨21, _⟩ => ⟨S1x2048x6704, .f32⟩
  | .hbm, ⟨22, _⟩ => ⟨S2048x6704, .f32⟩
  | .hbm, ⟨23, _⟩ => ⟨S2x4096x6704, .f32⟩
  | .hbm, ⟨24, _⟩ => ⟨S8192x6704, .f32⟩
  | .hbm, ⟨25, _⟩ => ⟨S8192x6144, .f32⟩
  | .hbm, ⟨26, _⟩ => ⟨S8192x48, .f32⟩
  | .hbm, ⟨27, _⟩ => ⟨S8192x512, .f32⟩
  | .hbm, ⟨28, _⟩ => ⟨S8192x6144, .bf16⟩
  | .hbm, ⟨29, _⟩ => ⟨S_, .f32⟩
  | .hbm, ⟨30, _⟩ => ⟨S8192x80, .f32⟩
  | .hbm, ⟨31, _⟩ => ⟨S8192x640, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_2 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Attn.lean ====
abbrev S8192x3584 : Shape := ⟨2, ![8192, 3584]⟩
abbrev S512x1024 : Shape := ⟨2, ![512, 1024]⟩
abbrev S8192x512 : Shape := ⟨2, ![8192, 512]⟩
abbrev S1024x512 : Shape := ⟨2, ![1024, 512]⟩
abbrev S256x1024 : Shape := ⟨2, ![256, 1024]⟩
abbrev S1024x128 : Shape := ⟨2, ![1024, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x3584, .bf16⟩
  | .hbm, ⟨1, _⟩ => ⟨S512x1024, .bf16⟩
  | .hbm, ⟨2, _⟩ => ⟨S8192x512, .bf16⟩
  | .local _ .vmem, ⟨0, _⟩ => ⟨S1024x512, .bf16⟩
  | .local _ .vmem, ⟨1, _⟩ => ⟨S1024x512, .bf16⟩
  | .local _ .vmem, ⟨2, _⟩ => ⟨S256x1024, .bf16⟩
  | .local _ .vmem, ⟨3, _⟩ => ⟨S256x1024, .bf16⟩
  | .local _ .vmem, ⟨4, _⟩ => ⟨S1024x512, .bf16⟩
  | .local _ .vmem, ⟨5, _⟩ => ⟨S1024x512, .bf16⟩
  | _, _ => ⟨S8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c6_i32 : BitVec 32 := 6#32
  let c0_i32 : BitVec 32 := 0#32
  ![v1.toNat, c6_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttnIdeal.lean ====
variable {F : FTy → Type} [FloatOps F] [Named F]
def κ : String → Option EReal := fun
  | "scale" => some (((Real.sqrt 128)⁻¹ : ℝ) : EReal)
  | _ => none
-- ==== AttnRefIdeal.lean ====
abbrev S8192x3584 : Shape := ⟨2, ![8192, 3584]⟩
abbrev S512x1024 : Shape := ⟨2, ![512, 1024]⟩
abbrev S2x4096x3584 : Shape := ⟨3, ![2, 4096, 3584]⟩
abbrev S2x4096x512 : Shape := ⟨3, ![2, 4096, 512]⟩
abbrev S2x256x1024 : Shape := ⟨3, ![2, 256, 1024]⟩
abbrev S2x256x512 : Shape := ⟨3, ![2, 256, 512]⟩
abbrev S2x256x4x128 : Shape := ⟨4, ![2, 256, 4, 128]⟩
abbrev S2x4096x4x128 : Shape := ⟨4, ![2, 4096, 4, 128]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x128x4096 : Shape := ⟨4, ![2, 4, 128, 4096]⟩
abbrev S8192x512 : Shape := ⟨2, ![8192, 512]⟩

abbrev nBuf : Space → Nat
  | .hbm => 35
  | .vmem => 0
  | .smem => 0
  | _ => 0

abbrev bufTy : (tb : Table) → Fin (tcTables nBuf tb) → BufTy
  | .hbm, ⟨0, _⟩ => ⟨S8192x3584, .bf16⟩
  | .hbm, ⟨1, _⟩ => ⟨S512x1024, .bf16⟩
  | .hbm, ⟨2, _⟩ => ⟨S8192x3584, .f32⟩
  | .hbm, ⟨3, _⟩ => ⟨S2x4096x3584, .f32⟩
  | .hbm, ⟨4, _⟩ => ⟨S2x4096x512, .f32⟩
  | .hbm, ⟨5, _⟩ => ⟨S512x1024, .f32⟩
  | .hbm, ⟨6, _⟩ => ⟨S2x256x1024, .f32⟩
  | .hbm, ⟨7, _⟩ => ⟨S2x256x512, .f32⟩
  | .hbm, ⟨8, _⟩ => ⟨S2x256x512, .f32⟩
  | .hbm, ⟨9, _⟩ => ⟨S2x256x4x128, .f32⟩
  | .hbm, ⟨10, _⟩ => ⟨S2x256x4x128, .f32⟩
  | .hbm, ⟨11, _⟩ => ⟨S2x4096x4x128, .f32⟩
  | .hbm, ⟨12, _⟩ => ⟨S2x4x4096x256, .f32⟩
  | .hbm, ⟨13, _⟩ => ⟨S_, .f32⟩
  | .hbm, ⟨14, _⟩ => ⟨S_, .f32⟩
  | .hbm, ⟨15, _⟩ => ⟨S2x4x4096x256, .f32⟩
  | .hbm, ⟨16, _⟩ => ⟨S2x4x4096x256, .f32⟩
  | .hbm, ⟨17, _⟩ => ⟨S_, .f32⟩
  | .hbm, ⟨18, _⟩ => ⟨S2x4x4096, .f32⟩
  | .hbm, ⟨19, _⟩ => ⟨S_, .f32⟩
  | .hbm, ⟨20, _⟩ => ⟨S2x4x4096, .f32⟩
  | .hbm, ⟨21, _⟩ => ⟨S2x4x4096, .f32⟩
  | .hbm, ⟨22, _⟩ => ⟨S2x4x4096x1, .f32⟩
  | .hbm, ⟨23, _⟩ => ⟨S2x4x4096x256, .f32⟩
  | .hbm, ⟨24, _⟩ => ⟨S2x4x4096x256, .f32⟩
  | .hbm, ⟨25, _⟩ => ⟨S2x4x4096x256, .f32⟩
  | .hbm, ⟨26, _⟩ => ⟨S_, .f32⟩
  | .hbm, ⟨27, _⟩ => ⟨S2x4x4096, .f32⟩
  | .hbm, ⟨28, _⟩ => ⟨S2x4x4096x1, .f32⟩
  | .hbm, ⟨29, _⟩ => ⟨S2x4x4096x256, .f32⟩
  | .hbm, ⟨30, _⟩ => ⟨S2x4x4096x256, .f32⟩
  | .hbm, ⟨31, _⟩ => ⟨S2x4x128x4096, .f32⟩
  | .hbm, ⟨32, _⟩ => ⟨S2x4096x4x128, .f32⟩
  | .hbm, ⟨33, _⟩ => ⟨S8192x512, .f32⟩
  | .hbm, ⟨34, _⟩ => ⟨S8192x512, .bf16⟩
  | _, _ => ⟨S8192x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_2 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== AttnDn.lean ====
abbrev S8192x640 : Shape := ⟨2, ![8192, 640]⟩
abbrev S512x1024 : Shape := ⟨2, ![512, 1024]⟩
abbrev S8192x512 : Shape := ⟨2, ![8192, 512]⟩
abbrev S1024x512 : Shape := ⟨2, ![1024, 512]⟩
abbrev S256x1024 : Shape := ⟨2, ![256, 1024]⟩
abbrev S1024x128 : Shape := ⟨2, ![1024, 128]⟩
abbrev S256x128 : Shape := ⟨2, ![256, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 3
  | .vmem => 6
  | .smem => 0
  | _ => 0

abbrev bufTy : (tb : Table) → Fin (tcTables nBuf tb) → BufTy
  | .hbm, ⟨0, _⟩ => ⟨S8192x640, .f32⟩
  | .hbm, ⟨1, _⟩ => ⟨S512x1024, .bf16⟩
  | .hbm, ⟨2, _⟩ => ⟨S8192x512, .bf16⟩
  | .local _ .vmem, ⟨0, _⟩ => ⟨S1024x512, .f32⟩
  | .local _ .vmem, ⟨1, _⟩ => ⟨S1024x512, .f32⟩
  | .local _ .vmem, ⟨2, _⟩ => ⟨S256x1024, .bf16⟩
  | .local _ .vmem, ⟨3, _⟩ => ⟨S256x1024, .bf16⟩
  | .local _ .vmem, ⟨4, _⟩ => ⟨S1024x512, .bf16⟩
  | .local _ .vmem, ⟨5, _⟩ => ⟨S1024x512, .bf16⟩
  | _, _ => ⟨S8192x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AttnDnIdeal.lean ====
variable {F : FTy → Type} [FloatOps F] [Named F]
def κ : String → Option EReal := fun
  | "scale" => some (((Real.sqrt 128)⁻¹ : ℝ) : EReal)
  | _ => none
-- ==== AttnDnRefIdeal.lean ====
abbrev S8192x640 : Shape := ⟨2, ![8192, 640]⟩
abbrev S512x1024 : Shape := ⟨2, ![512, 1024]⟩
abbrev S2x4096x640 : Shape := ⟨3, ![2, 4096, 640]⟩
abbrev S2x4096x512 : Shape := ⟨3, ![2, 4096, 512]⟩
abbrev S2x256x1024 : Shape := ⟨3, ![2, 256, 1024]⟩
abbrev S2x256x512 : Shape := ⟨3, ![2, 256, 512]⟩
abbrev S2x256x4x128 : Shape := ⟨4, ![2, 256, 4, 128]⟩
abbrev S2x4096x4x128 : Shape := ⟨4, ![2, 4096, 4, 128]⟩
abbrev S2x4x4096x256 : Shape := ⟨4, ![2, 4, 4096, 256]⟩
abbrev S_ : Shape := ⟨0, ![]⟩
abbrev S2x4x4096 : Shape := ⟨3, ![2, 4, 4096]⟩
abbrev S2x4x4096x1 : Shape := ⟨4, ![2, 4, 4096, 1]⟩
abbrev S2x4x128x4096 : Shape := ⟨4, ![2, 4, 128, 4096]⟩
abbrev S8192x512 : Shape := ⟨2, ![8192, 512]⟩

abbrev nBuf : Space → Nat
  | .hbm => 34
  | .vmem => 0
  | .smem => 0
  | _ => 0

abbrev bufTy : (tb : Table) → Fin (tcTables nBuf tb) → BufTy
  | .hbm, ⟨0, _⟩ => ⟨S8192x640, .f32⟩
  | .hbm, ⟨1, _⟩ => ⟨S512x1024, .bf16⟩
  | .hbm, ⟨2, _⟩ => ⟨S2x4096x640, .f32⟩
  | .hbm, ⟨3, _⟩ => ⟨S2x4096x512, .f32⟩
  | .hbm, ⟨4, _⟩ => ⟨S512x1024, .f32⟩
  | .hbm, ⟨5, _⟩ => ⟨S2x256x1024, .f32⟩
  | .hbm, ⟨6, _⟩ => ⟨S2x256x512, .f32⟩
  | .hbm, ⟨7, _⟩ => ⟨S2x256x512, .f32⟩
  | .hbm, ⟨8, _⟩ => ⟨S2x256x4x128, .f32⟩
  | .hbm, ⟨9, _⟩ => ⟨S2x256x4x128, .f32⟩
  | .hbm, ⟨10, _⟩ => ⟨S2x4096x4x128, .f32⟩
  | .hbm, ⟨11, _⟩ => ⟨S2x4x4096x256, .f32⟩
  | .hbm, ⟨12, _⟩ => ⟨S_, .f32⟩
  | .hbm, ⟨13, _⟩ => ⟨S_, .f32⟩
  | .hbm, ⟨14, _⟩ => ⟨S2x4x4096x256, .f32⟩
  | .hbm, ⟨15, _⟩ => ⟨S2x4x4096x256, .f32⟩
  | .hbm, ⟨16, _⟩ => ⟨S_, .f32⟩
  | .hbm, ⟨17, _⟩ => ⟨S2x4x4096, .f32⟩
  | .hbm, ⟨18, _⟩ => ⟨S_, .f32⟩
  | .hbm, ⟨19, _⟩ => ⟨S2x4x4096, .f32⟩
  | .hbm, ⟨20, _⟩ => ⟨S2x4x4096, .f32⟩
  | .hbm, ⟨21, _⟩ => ⟨S2x4x4096x1, .f32⟩
  | .hbm, ⟨22, _⟩ => ⟨S2x4x4096x256, .f32⟩
  | .hbm, ⟨23, _⟩ => ⟨S2x4x4096x256, .f32⟩
  | .hbm, ⟨24, _⟩ => ⟨S2x4x4096x256, .f32⟩
  | .hbm, ⟨25, _⟩ => ⟨S_, .f32⟩
  | .hbm, ⟨26, _⟩ => ⟨S2x4x4096, .f32⟩
  | .hbm, ⟨27, _⟩ => ⟨S2x4x4096x1, .f32⟩
  | .hbm, ⟨28, _⟩ => ⟨S2x4x4096x256, .f32⟩
  | .hbm, ⟨29, _⟩ => ⟨S2x4x4096x256, .f32⟩
  | .hbm, ⟨30, _⟩ => ⟨S2x4x128x4096, .f32⟩
  | .hbm, ⟨31, _⟩ => ⟨S2x4096x4x128, .f32⟩
  | .hbm, ⟨32, _⟩ => ⟨S8192x512, .f32⟩
  | .hbm, ⟨33, _⟩ => ⟨S8192x512, .bf16⟩
  | _, _ => ⟨S8192x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_2 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩

abbrev nD : Nat := 1
abbrev τ : Topo := Topo.v7x

variable {F : FTy → Type} [FloatOps F]
-- ==== Prep.lean ====
abbrev S2x4096x6144 : Shape := ⟨3, ![2, 4096, 6144]⟩
abbrev S2x5x4608 : Shape := ⟨3, ![2, 5, 4608]⟩
abbrev S2x4096x1536 : Shape := ⟨3, ![2, 4096, 1536]⟩
abbrev S1x16x1536 : Shape := ⟨3, ![1, 16, 1536]⟩
abbrev S1x256x1536 : Shape := ⟨3, ![1, 256, 1536]⟩
abbrev S1x5x1536 : Shape := ⟨3, ![1, 5, 1536]⟩
abbrev S512x160 : Shape := ⟨2, ![512, 160]⟩
abbrev S16x512 : Shape := ⟨2, ![16, 512]⟩
abbrev S1x16x512 : Shape := ⟨3, ![1, 16, 512]⟩
abbrev S1x256x512 : Shape := ⟨3, ![1, 256, 512]⟩
abbrev S256x512 : Shape := ⟨2, ![256, 512]⟩
abbrev S288x512 : Shape := ⟨2, ![288, 512]⟩
abbrev S160x512 : Shape := ⟨2, ![160, 512]⟩
abbrev S512x512 : Shape := ⟨2, ![512, 512]⟩
abbrev S128x512 : Shape := ⟨2, ![128, 512]⟩
abbrev S1x5x512 : Shape := ⟨3, ![1, 5, 512]⟩
abbrev S5x512 : Shape := ⟨2, ![5, 512]⟩
abbrev S1x512 : Shape := ⟨2, ![1, 512]⟩
abbrev S256x128 : Shape := ⟨2, ![256, 128]⟩
abbrev S256 : Shape := ⟨1, ![256]⟩
abbrev S256x1 : Shape := ⟨2, ![256, 1]⟩
abbrev S1x256x128 : Shape := ⟨3, ![1, 256, 128]⟩

abbrev nBuf : Space → Nat
  | .hbm => 5
  | .vmem => 28
  | .smem => 0
  | _ => 0

abbrev bufTy : (tb : Table) → Fin (tcTables nBuf tb) → BufTy
  | .hbm, ⟨0, _⟩ => ⟨S2x4096x6144, .bf16⟩
  | .hbm, ⟨1, _⟩ => ⟨S2x5x4608, .f32⟩
  | .hbm, ⟨2, _⟩ => ⟨S2x4096x1536, .bf16⟩
  | .hbm, ⟨3, _⟩ => ⟨S2x4096x1536, .bf16⟩
  | .hbm, ⟨4, _⟩ => ⟨S2x4096x1536, .bf16⟩
  | .local _ .vmem, ⟨0, _⟩ => ⟨S1x16x1536, .bf16⟩
  | .local _ .vmem, ⟨1, _⟩ => ⟨S1x16x1536, .bf16⟩
  | .local _ .vmem, ⟨2, _⟩ => ⟨S1x256x1536, .bf16⟩
  | .local _ .vmem, ⟨3, _⟩ => ⟨S1x256x1536, .bf16⟩
  | .local _ .vmem, ⟨4, _⟩ => ⟨S1x16x1536, .bf16⟩
  | .local _ .vmem, ⟨5, _⟩ => ⟨S1x16x1536, .bf16⟩
  | .local _ .vmem, ⟨6, _⟩ => ⟨S1x16x1536, .bf16⟩
  | .local _ .vmem, ⟨7, _⟩ => ⟨S1x16x1536, .bf16⟩
  | .local _ .vmem, ⟨8, _⟩ => ⟨S1x256x1536, .bf16⟩
  | .local _ .vmem, ⟨9, _⟩ => ⟨S1x256x1536, .bf16⟩
  | .local _ .vmem, ⟨10, _⟩ => ⟨S1x16x1536, .bf16⟩
  | .local _ .vmem, ⟨11, _⟩ => ⟨S1x16x1536, .bf16⟩
  | .local _ .vmem, ⟨12, _⟩ => ⟨S1x16x1536, .bf16⟩
  | .local _ .vmem, ⟨13, _⟩ => ⟨S1x16x1536, .bf16⟩
  | .local _ .vmem, ⟨14, _⟩ => ⟨S1x256x1536, .bf16⟩
  | .local _ .vmem, ⟨15, _⟩ => ⟨S1x256x1536, .bf16⟩
  | .local _ .vmem, ⟨16, _⟩ => ⟨S1x16x1536, .bf16⟩
  | .local _ .vmem, ⟨17, _⟩ => ⟨S1x16x1536, .bf16⟩
  | .local _ .vmem, ⟨18, _⟩ => ⟨S1x5x1536, .f32⟩
  | .local _ .vmem, ⟨19, _⟩ => ⟨S1x5x1536, .f32⟩
  | .local _ .vmem, ⟨20, _⟩ => ⟨S1x5x1536, .f32⟩
  | .local _ .vmem, ⟨21, _⟩ => ⟨S1x256x1536, .bf16⟩
  | .local _ .vmem, ⟨22, _⟩ => ⟨S1x256x1536, .bf16⟩
  | .local _ .vmem, ⟨23, _⟩ => ⟨S1x256x1536, .bf16⟩
  | .local _ .vmem, ⟨24, _⟩ => ⟨S1x256x1536, .bf16⟩
  | .local _ .vmem, ⟨25, _⟩ => ⟨S1x256x1536, .bf16⟩
  | .local _ .vmem, ⟨26, _⟩ => ⟨S1x256x1536, .bf16⟩
  | .local _ .vmem, ⟨27, _⟩ => ⟨S512x160, .bf16⟩
  | _, _ => ⟨S2x4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_scratch0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, v2.toNat, c1_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c255_i32 : BitVec 32 := 255#32
  let v2 : BitVec 32 := Scalar.minsi v1 c255_i32
  let c1_i32_0 : BitVec 32 := 1#32
  let c0_i32 : BitVec 32 := 0#32
  ![arg0.toNat, v2.toNat, c1_i32_0.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, v2.toNat, c2_i32.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c255_i32 : BitVec 32 := 255#32
  let v2 : BitVec 32 := Scalar.minsi v1 c255_i32
  let c2_i32 : BitVec 32 := 2#32
  let c0_i32 : BitVec 32 := 0#32
  ![arg0.toNat, v2.toNat, c2_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c1_i32 : BitVec 32 := 1#32
  let c0_i32_1 : BitVec 32 := 0#32
  ![c0_i32.toNat, c0_i32_0.toNat, c1_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c2_i32 : BitVec 32 := 2#32
  let c0_i32_1 : BitVec 32 := 0#32
  ![c0_i32.toNat, c0_i32_0.toNat, c2_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x16x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x16x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x16x1536 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x16x1536 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x5x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x5x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x5x1536 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1536 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1536 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1536 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== PrepIdeal.lean ====
variable {F : FTy → Type} [FloatOps F] [Named F]
def κ : String → Option EReal := fun
  | "scale" => some (((Real.sqrt 128)⁻¹ : ℝ) : EReal)
  | _ => none
-- ==== Dn.lean ====
abbrev S2x4096x1536 : Shape := ⟨3, ![2, 4096, 1536]⟩
abbrev S2x4096x6144 : Shape := ⟨3, ![2, 4096, 6144]⟩
abbrev S2x4096x640 : Shape := ⟨3, ![2, 4096, 640]⟩
abbrev S2x12 : Shape := ⟨2, ![2, 12]⟩
abbrev S128 : Shape := ⟨1, ![128]⟩
abbrev S1x24 : Shape := ⟨2, ![1, 24]⟩
abbrev S_ : Shape := ⟨0, ![]⟩
abbrev S1x128 : Shape := ⟨2, ![1, 128]⟩
abbrev S1x4096x128 : Shape := ⟨3, ![1, 4096, 128]⟩
abbrev S1x4096x384 : Shape := ⟨3, ![1, 4096, 384]⟩
abbrev S4096x384 : Shape := ⟨2, ![4096, 384]⟩
abbrev S2x256x256 : Shape := ⟨3, ![2, 256, 256]⟩
abbrev S256x256 : Shape := ⟨2, ![256, 256]⟩
abbrev S4x128x128 : Shape := ⟨3, ![4, 128, 128]⟩
abbrev S3x128x128 : Shape := ⟨3, ![3, 128, 128]⟩
abbrev S1x256x256 : Shape := ⟨3, ![1, 256, 256]⟩
abbrev S128x128 : Shape := ⟨2, ![128, 128]⟩
abbrev S1x128x128 : Shape := ⟨3, ![1, 128, 128]⟩
abbrev S128x1 : Shape := ⟨2, ![128, 1]⟩
abbrev S1x256x128 : Shape := ⟨3, ![1, 256, 128]⟩
abbrev S256x128 : Shape := ⟨2, ![256, 128]⟩
abbrev S256x384 : Shape := ⟨2, ![256, 384]⟩
abbrev S128x256 : Shape := ⟨2, ![128, 256]⟩
abbrev S256 : Shape := ⟨1, ![256]⟩
abbrev S256x1 : Shape := ⟨2, ![256, 1]⟩
abbrev S1x256 : Shape := ⟨2, ![1, 256]⟩
abbrev S1x1 : Shape := ⟨2, ![1, 1]⟩
abbrev S512x128 : Shape := ⟨2, ![512, 128]⟩
abbrev S512x256 : Shape := ⟨2, ![512, 256]⟩
abbrev S8x128 : Shape := ⟨2, ![8, 128]⟩
abbrev S16x128 : Shape := ⟨2, ![16, 128]⟩
abbrev S1x16x128 : Shape := ⟨3, ![1, 16, 128]⟩
abbrev S32x128 : Shape := ⟨2, ![32, 128]⟩
abbrev S1x32x128 : Shape := ⟨3, ![1, 32, 128]⟩
abbrev S64x128 : Shape := ⟨2, ![64, 128]⟩
abbrev S1x64x128 : Shape := ⟨3, ![1, 64, 128]⟩
abbrev S384x256 : Shape := ⟨2, ![384, 256]⟩
abbrev S384x128 : Shape := ⟨2, ![384, 128]⟩

abbrev nBuf : Space → Nat
  | .hbm => 18
  | .vmem => 20
  | .smem => 0
  | _ => 0

abbrev bufTy : (tb : Table) → Fin (tcTables nBuf tb) → BufTy
  | .hbm, ⟨0, _⟩ => ⟨S2x4096x1536, .bf16⟩
  | .hbm, ⟨1, _⟩ => ⟨S2x4096x1536, .bf16⟩
  | .hbm, ⟨2, _⟩ => ⟨S2x4096x1536, .bf16⟩
  | .hbm, ⟨3, _⟩ => ⟨S2x4096x6144, .bf16⟩
  | .hbm, ⟨4, _⟩ => ⟨S2x4096x640, .f32⟩
  | .hbm, ⟨5, _⟩ => ⟨S2x12, .f32⟩
  | .hbm, ⟨6, _⟩ => ⟨S2x12, .f32⟩
  | .hbm, ⟨7, _⟩ => ⟨S128, .f32⟩
  | .hbm, ⟨8, _⟩ => ⟨S1x24, .f32⟩
  | .hbm, ⟨9, _⟩ => ⟨S_, .i32⟩
  | .hbm, ⟨10, _⟩ => ⟨S_, .f32⟩
  | .hbm, ⟨11, _⟩ => ⟨S1x128, .f32⟩
  | .hbm, ⟨12, _⟩ => ⟨S1x24, .f32⟩
  | .hbm, ⟨13, _⟩ => ⟨S_, .i32⟩
  | .hbm, ⟨14, _⟩ => ⟨S_, .f32⟩
  | .hbm, ⟨15, _⟩ => ⟨S1x128, .f32⟩
  | .hbm, ⟨16, _⟩ => ⟨S1x128, .f32⟩
  | .hbm, ⟨17, _⟩ => ⟨S2x4096x1536, .bf16⟩
  | .local _ .vmem, ⟨0, _⟩ => ⟨S1x4096x128, .f32⟩
  | .local _ .vmem, ⟨1, _⟩ => ⟨S1x4096x384, .bf16⟩
  | .local _ .vmem, ⟨2, _⟩ => ⟨S1x4096x384, .bf16⟩
  | .local _ .vmem, ⟨3, _⟩ => ⟨S1x4096x384, .bf16⟩
  | .local _ .vmem, ⟨4, _⟩ => ⟨S1x4096x384, .bf16⟩
  | .local _ .vmem, ⟨5, _⟩ => ⟨S1x4096x384, .bf16⟩
  | .local _ .vmem, ⟨6, _⟩ => ⟨S1x4096x384, .bf16⟩
  | .local _ .vmem, ⟨7, _⟩ => ⟨S1x4096x384, .bf16⟩
  | .local _ .vmem, ⟨8, _⟩ => ⟨S1x4096x384, .bf16⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x4096x384, .bf16⟩
  | .local _ .vmem, ⟨13, _⟩ => ⟨S1x4096x384, .bf16⟩
  | .local _ .vmem, ⟨14, _⟩ => ⟨S4096x384, .f32⟩
  | .local _ .vmem, ⟨15, _⟩ => ⟨S2x256x256, .f32⟩
  | .local _ .vmem, ⟨16, _⟩ => ⟨S256x256, .bf16⟩
  | .local _ .vmem, ⟨17, _⟩ => ⟨S4x128x128, .bf16⟩
  | .local _ .vmem, ⟨18, _⟩ => ⟨S3x128x128, .bf16⟩
  | .local _ .vmem, ⟨19, _⟩ => ⟨S4x128x128, .f32⟩
  | _, _ => ⟨S2x4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 4], ![false, false]⟩

@[reducible] def k0_t1_loop : Scf.Loop 32 :=
  let c0_i32_289 : BitVec 32 := 0#32
  let c8_i32 : BitVec 32 := 8#32
  let v866 : BitVec 32 := Scalar.addi c0_i32_289 c8_i32
  let c1_i32_290 : BitVec 32 := 1#32
  ⟨c0_i32_289, v866, c1_i32_290⟩
def k0_mult1 (k0_t1 : Fin k0_t1_loop.trips) : BitVec 32 :=
  let c15_i32 : BitVec 32 := 15#32
  let c0_i32_300 : BitVec 32 := 0#32
  let c0_i32_289 : BitVec 32 := 0#32
  let c1_i32_290 : BitVec 32 := 1#32
  let arg17 : BitVec 32 := Scf.iv c0_i32_289 c1_i32_290 k0_t1
  let c2_i32_296 : BitVec 32 := 2#32
  let v869 : BitVec 32 := Scalar.muli arg17 c2_i32_296
  let c0_i32_297 : BitVec 32 := 0#32
  let v870 : BitVec 32 := Scalar.addi v869 c0_i32_297
  let v873 : BitVec 32 := Scalar.maxsi c0_i32_300 v870
  let v874 : BitVec 32 := Scalar.minsi c15_i32 v873
  let c256_i32 : BitVec 32 := 256#32
  let v876 : BitVec 32 := Scalar.muli v874 c256_i32
  v876
def k0_mult2 (k0_t1 : Fin k0_t1_loop.trips) : BitVec 32 :=
  let c15_i32_301 : BitVec 32 := 15#32
  let c15_i32 : BitVec 32 := 15#32
  let c0_i32_300 : BitVec 32 := 0#32
  let c0_i32_289 : BitVec 32 := 0#32
  let c1_i32_290 : BitVec 32 := 1#32
  let arg17 : BitVec 32 := Scf.iv c0_i32_289 c1_i32_290 k0_t1
  let c2_i32_296 : BitVec 32 := 2#32
  let v869 : BitVec 32 := Scalar.muli arg17 c2_i32_296
  let c0_i32_297 : BitVec 32 := 0#32
  let v870 : BitVec 32 := Scalar.addi v869 c0_i32_297
  let v873 : BitVec 32 := Scalar.maxsi c0_i32_300 v870
  let v874 : BitVec 32 := Scalar.minsi c15_i32 v873
  let v875 : BitVec 32 := Scalar.subi c15_i32_301 v874
  let c256_i32_302 : BitVec 32 := 256#32
  let v878 : BitVec 32 := Scalar.muli v875 c256_i32_302
  v878
def k0_mult3 (k0_t1 : Fin k0_t1_loop.trips) : BitVec 32 :=
  let c15_i32 : BitVec 32 := 15#32
  let c0_i32_300 : BitVec 32 := 0#32
  let c0_i32_289 : BitVec 32 := 0#32
  let c1_i32_290 : BitVec 32 := 1#32
  let arg17 : BitVec 32 := Scf.iv c0_i32_289 c1_i32_290 k0_t1
  let c2_i32_296 : BitVec 32 := 2#32
  let v869 : BitVec 32 := Scalar.muli arg17 c2_i32_296
  let c0_i32_297 : BitVec 32 := 0#32
  let v870 : BitVec 32 := Scalar.addi v869 c0_i32_297
  let v873 : BitVec 32 := Scalar.maxsi c0_i32_300 v870
  let v874 : BitVec 32 := Scalar.minsi c15_i32 v873
  let c256_i32_303 : BitVec 32 := 256#32
  let v880 : BitVec 32 := Scalar.muli v874 c256_i32_303
  v880
def k0_mult4 (k0_t1 : Fin k0_t1_loop.trips) : BitVec 32 :=
  let c15_i32_301 : BitVec 32 := 15#32
  let c15_i32 : BitVec 32 := 15#32
  let c0_i32_300 : BitVec 32 := 0#32
  let c0_i32_289 : BitVec 32 := 0#32
  let c1_i32_290 : BitVec 32 := 1#32
  let arg17 : BitVec 32 := Scf.iv c0_i32_289 c1_i32_290 k0_t1
  let c2_i32_296 : BitVec 32 := 2#32
  let v869 : BitVec 32 := Scalar.muli arg17 c2_i32_296
  let c0_i32_297 : BitVec 32 := 0#32
  let v870 : BitVec 32 := Scalar.addi v869 c0_i32_297
  let v873 : BitVec 32 := Scalar.maxsi c0_i32_300 v870
  let v874 : BitVec 32 := Scalar.minsi c15_i32 v873
  let v875 : BitVec 32 := Scalar.subi c15_i32_301 v874
  let c256_i32_304 : BitVec 32 := 256#32
  let v882 : BitVec 32 := Scalar.muli v875 c256_i32_304
  v882
def k0_mult5 (k0_t1 : Fin k0_t1_loop.trips) : BitVec 32 :=
  let c15_i32 : BitVec 32 := 15#32
  let c0_i32_300 : BitVec 32 := 0#32
  let c0_i32_289 : BitVec 32 := 0#32
  let c1_i32_290 : BitVec 32 := 1#32
  let arg17 : BitVec 32 := Scf.iv c0_i32_289 c1_i32_290 k0_t1
  let c2_i32_296 : BitVec 32 := 2#32
  let v869 : BitVec 32 := Scalar.muli arg17 c2_i32_296
  let c0_i32_297 : BitVec 32 := 0#32
  let v870 : BitVec 32 := Scalar.addi v869 c0_i32_297
  let v873 : BitVec 32 := Scalar.maxsi c0_i32_300 v870
  let v874 : BitVec 32 := Scalar.minsi c15_i32 v873
  let c256_i32_305 : BitVec 32 := 256#32
  let v884 : BitVec 32 := Scalar.muli v874 c256_i32_305
  v884
def k0_mult6 (k0_t1 : Fin k0_t1_loop.trips) : BitVec 32 :=
  let c15_i32_301 : BitVec 32 := 15#32
  let c15_i32 : BitVec 32 := 15#32
  let c0_i32_300 : BitVec 32 := 0#32
  let c0_i32_289 : BitVec 32 := 0#32
  let c1_i32_290 : BitVec 32 := 1#32
  let arg17 : BitVec 32 := Scf.iv c0_i32_289 c1_i32_290 k0_t1
  let c2_i32_296 : BitVec 32 := 2#32
  let v869 : BitVec 32 := Scalar.muli arg17 c2_i32_296
  let c0_i32_297 : BitVec 32 := 0#32
  let v870 : BitVec 32 := Scalar.addi v869 c0_i32_297
  let v873 : BitVec 32 := Scalar.maxsi c0_i32_300 v870
  let v874 : BitVec 32 := Scalar.minsi c15_i32 v873
  let v875 : BitVec 32 := Scalar.subi c15_i32_301 v874
  let c256_i32_306 : BitVec 32 := 256#32
  let v886 : BitVec 32 := Scalar.muli v875 c256_i32_306
  v886
def k0_mult7 (k0_t1 : Fin k0_t1_loop.trips) : BitVec 32 :=
  let c15_i32 : BitVec 32 := 15#32
  let c0_i32_300 : BitVec 32 := 0#32
  let c0_i32_289 : BitVec 32 := 0#32
  let c1_i32_290 : BitVec 32 := 1#32
  let arg17 : BitVec 32 := Scf.iv c0_i32_289 c1_i32_290 k0_t1
  let c2_i32_296 : BitVec 32 := 2#32
  let v869 : BitVec 32 := Scalar.muli arg17 c2_i32_296
  let c0_i32_297 : BitVec 32 := 0#32
  let v870 : BitVec 32 := Scalar.addi v869 c0_i32_297
  let v873 : BitVec 32 := Scalar.maxsi c0_i32_300 v870
  let v874 : BitVec 32 := Scalar.minsi c15_i32 v873
  let c256_i32_307 : BitVec 32 := 256#32
  let v888 : BitVec 32 := Scalar.muli v874 c256_i32_307
  v888
def k0_off1 (k0_t1 : Fin k0_t1_loop.trips) (c0_i32_297 : BitVec 32) : Fin 3 → Nat :=
  let c0_308 : Index := 0#32
  let c15_i32 : BitVec 32 := 15#32
  let c0_i32_300 : BitVec 32 := 0#32
  let c0_i32_289 : BitVec 32 := 0#32
  let c1_i32_290 : BitVec 32 := 1#32
  let arg17 : BitVec 32 := Scf.iv c0_i32_289 c1_i32_290 k0_t1
  let c2_i32_296 : BitVec 32 := 2#32
  let v869 : BitVec 32 := Scalar.muli arg17 c2_i32_296
  let v870 : BitVec 32 := Scalar.addi v869 c0_i32_297
  let v873 : BitVec 32 := Scalar.maxsi c0_i32_300 v870
  let v874 : BitVec 32 := Scalar.minsi c15_i32 v873
  let c256_i32_307 : BitVec 32 := 256#32
  let v888 : BitVec 32 := Scalar.muli v874 c256_i32_307
  let v889 : BitVec 32 := v888
  let v890 : Index := Scalar.indexCast v889
  let c0_309 : Index := 0#32
  ![0, v890.toNat, 0]
def k0_mult8 (k0_t1 : Fin k0_t1_loop.trips) : BitVec 32 :=
  let c15_i32_301 : BitVec 32 := 15#32
  let c15_i32 : BitVec 32 := 15#32
  let c0_i32_300 : BitVec 32 := 0#32
  let c0_i32_289 : BitVec 32 := 0#32
  let c1_i32_290 : BitVec 32 := 1#32
  let arg17 : BitVec 32 := Scf.iv c0_i32_289 c1_i32_290 k0_t1
  let c2_i32_296 : BitVec 32 := 2#32
  let v869 : BitVec 32 := Scalar.muli arg17 c2_i32_296
  let c0_i32_297 : BitVec 32 := 0#32
  let v870 : BitVec 32 := Scalar.addi v869 c0_i32_297
  let v873 : BitVec 32 := Scalar.maxsi c0_i32_300 v870
  let v874 : BitVec 32 := Scalar.minsi c15_i32 v873
  let v875 : BitVec 32 := Scalar.subi c15_i32_301 v874
  let c256_i32_320 : BitVec 32 := 256#32
  let v928 : BitVec 32 := Scalar.muli v875 c256_i32_320
  v928
def k0_off2 (k0_t1 : Fin k0_t1_loop.trips) (c0_i32_297 : BitVec 32) : Fin 3 → Nat :=
  let c0_321 : Index := 0#32
  let c15_i32_301 : BitVec 32 := 15#32
  let c15_i32 : BitVec 32 := 15#32
  let c0_i32_300 : BitVec 32 := 0#32
  let c0_i32_289 : BitVec 32 := 0#32
  let c1_i32_290 : BitVec 32 := 1#32
  let arg17 : BitVec 32 := Scf.iv c0_i32_289 c1_i32_290 k0_t1
  let c2_i32_296 : BitVec 32 := 2#32
  let v869 : BitVec 32 := Scalar.muli arg17 c2_i32_296
  let v870 : BitVec 32 := Scalar.addi v869 c0_i32_297
  let v873 : BitVec 32 := Scalar.maxsi c0_i32_300 v870
  let v874 : BitVec 32 := Scalar.minsi c15_i32 v873
  let v875 : BitVec 32 := Scalar.subi c15_i32_301 v874
  let c256_i32_320 : BitVec 32 := 256#32
  let v928 : BitVec 32 := Scalar.muli v875 c256_i32_320
  let v929 : BitVec 32 := v928
  let v930 : Index := Scalar.indexCast v929
  let c0_322 : Index := 0#32
  ![0, v930.toNat, 0]
def k0_mult9 (k0_t1 : Fin k0_t1_loop.trips) : BitVec 32 :=
  let c15_i32_334 : BitVec 32 := 15#32
  let c0_i32_333 : BitVec 32 := 0#32
  let c0_i32_289 : BitVec 32 := 0#32
  let c1_i32_290 : BitVec 32 := 1#32
  let arg17 : BitVec 32 := Scf.iv c0_i32_289 c1_i32_290 k0_t1
  let c2_i32_298 : BitVec 32 := 2#32
  let v871 : BitVec 32 := Scalar.muli arg17 c2_i32_298
  let c1_i32_299 : BitVec 32 := 1#32
  let v872 : BitVec 32 := Scalar.addi v871 c1_i32_299
  let v968 : BitVec 32 := Scalar.maxsi c0_i32_333 v872
  let v969 : BitVec 32 := Scalar.minsi c15_i32_334 v968
  let c256_i32_336 : BitVec 32 := 256#32
  let v971 : BitVec 32 := Scalar.muli v969 c256_i32_336
  v971
def k0_mult10 (k0_t1 : Fin k0_t1_loop.trips) : BitVec 32 :=
  let c15_i32_335 : BitVec 32 := 15#32
  let c15_i32_334 : BitVec 32 := 15#32
  let c0_i32_333 : BitVec 32 := 0#32
  let c0_i32_289 : BitVec 32 := 0#32
  let c1_i32_290 : BitVec 32 := 1#32
  let arg17 : BitVec 32 := Scf.iv c0_i32_289 c1_i32_290 k0_t1
  let c2_i32_298 : BitVec 32 := 2#32
  let v871 : BitVec 32 := Scalar.muli arg17 c2_i32_298
  let c1_i32_299 : BitVec 32 := 1#32
  let v872 : BitVec 32 := Scalar.addi v871 c1_i32_299
  let v968 : BitVec 32 := Scalar.maxsi c0_i32_333 v872
  let v969 : BitVec 32 := Scalar.minsi c15_i32_334 v968
  let v970 : BitVec 32 := Scalar.subi c15_i32_335 v969
  let c256_i32_337 : BitVec 32 := 256#32
  let v973 : BitVec 32 := Scalar.muli v970 c256_i32_337
  v973
def k0_mult11 (k0_t1 : Fin k0_t1_loop.trips) : BitVec 32 :=
  let c15_i32_334 : BitVec 32 := 15#32
  let c0_i32_333 : BitVec 32 := 0#32
  let c0_i32_289 : BitVec 32 := 0#32
  let c1_i32_290 : BitVec 32 := 1#32
  let arg17 : BitVec 32 := Scf.iv c0_i32_289 c1_i32_290 k0_t1
  let c2_i32_298 : BitVec 32 := 2#32
  let v871 : BitVec 32 := Scalar.muli arg17 c2_i32_298
  let c1_i32_299 : BitVec 32 := 1#32
  let v872 : BitVec 32 := Scalar.addi v871 c1_i32_299
  let v968 : BitVec 32 := Scalar.maxsi c0_i32_333 v872
  let v969 : BitVec 32 := Scalar.minsi c15_i32_334 v968
  let c256_i32_338 : BitVec 32 := 256#32
  let v975 : BitVec 32 := Scalar.muli v969 c256_i32_338
  v975
def k0_mult12 (k0_t1 : Fin k0_t1_loop.trips) : BitVec 32 :=
  let c15_i32_335 : BitVec 32 := 15#32
  let c15_i32_334 : BitVec 32 := 15#32
  let c0_i32_333 : BitVec 32 := 0#32
  let c0_i32_289 : BitVec 32 := 0#32
  let c1_i32_290 : BitVec 32 := 1#32
  let arg17 : BitVec 32 := Scf.iv c0_i32_289 c1_i32_290 k0_t1
  let c2_i32_298 : BitVec 32 := 2#32
  let v871 : BitVec 32 := Scalar.muli arg17 c2_i32_298
  let c1_i32_299 : BitVec 32 := 1#32
  let v872 : BitVec 32 := Scalar.addi v871 c1_i32_299
  let v968 : BitVec 32 := Scalar.maxsi c0_i32_333 v872
  let v969 : BitVec 32 := Scalar.minsi c15_i32_334 v968
  let v970 : BitVec 32 := Scalar.subi c15_i32_335 v969
  let c256_i32_339 : BitVec 32 := 256#32
  let v977 : BitVec 32 := Scalar.muli v970 c256_i32_339
  v977
def k0_mult13 (k0_t1 : Fin k0_t1_loop.trips) : BitVec 32 :=
  let c15_i32_334 : BitVec 32 := 15#32
  let c0_i32_333 : BitVec 32 := 0#32
  let c0_i32_289 : BitVec 32 := 0#32
  let c1_i32_290 : BitVec 32 := 1#32
  let arg17 : BitVec 32 := Scf.iv c0_i32_289 c1_i32_290 k0_t1
  let c2_i32_298 : BitVec 32 := 2#32
  let v871 : BitVec 32 := Scalar.muli arg17 c2_i32_298
  let c1_i32_299 : BitVec 32 := 1#32
  let v872 : BitVec 32 := Scalar.addi v871 c1_i32_299
  let v968 : BitVec 32 := Scalar.maxsi c0_i32_333 v872
  let v969 : BitVec 32 := Scalar.minsi c15_i32_334 v968
  let c256_i32_340 : BitVec 32 := 256#32
  let v979 : BitVec 32 := Scalar.muli v969 c256_i32_340
  v979
def k0_mult14 (k0_t1 : Fin k0_t1_loop.trips) : BitVec 32 :=
  let c15_i32_335 : BitVec 32 := 15#32
  let c15_i32_334 : BitVec 32 := 15#32
  let c0_i32_333 : BitVec 32 := 0#32
  let c0_i32_289 : BitVec 32 := 0#32
  let c1_i32_290 : BitVec 32 := 1#32
  let arg17 : BitVec 32 := Scf.iv c0_i32_289 c1_i32_290 k0_t1
  let c2_i32_298 : BitVec 32 := 2#32
  let v871 : BitVec 32 := Scalar.muli arg17 c2_i32_298
  let c1_i32_299 : BitVec 32 := 1#32
  let v872 : BitVec 32 := Scalar.addi v871 c1_i32_299
  let v968 : BitVec 32 := Scalar.maxsi c0_i32_333 v872
  let v969 : BitVec 32 := Scalar.minsi c15_i32_334 v968
  let v970 : BitVec 32 := Scalar.subi c15_i32_335 v969
  let c256_i32_341 : BitVec 32 := 256#32
  let v981 : BitVec 32 := Scalar.muli v970 c256_i32_341
  v981
def k0_mult15 (k0_t1 : Fin k0_t1_loop.trips) : BitVec 32 :=
  let c15_i32_334 : BitVec 32 := 15#32
  let c0_i32_333 : BitVec 32 := 0#32
  let c0_i32_289 : BitVec 32 := 0#32
  let c1_i32_290 : BitVec 32 := 1#32
  let arg17 : BitVec 32 := Scf.iv c0_i32_289 c1_i32_290 k0_t1
  let c2_i32_298 : BitVec 32 := 2#32
  let v871 : BitVec 32 := Scalar.muli arg17 c2_i32_298
  let c1_i32_299 : BitVec 32 := 1#32
  let v872 : BitVec 32 := Scalar.addi v871 c1_i32_299
  let v968 : BitVec 32 := Scalar.maxsi c0_i32_333 v872
  let v969 : BitVec 32 := Scalar.minsi c15_i32_334 v968
  let c256_i32_342 : BitVec 32 := 256#32
  let v983 : BitVec 32 := Scalar.muli v969 c256_i32_342
  v983
def k0_mult16 (k0_t1 : Fin k0_t1_loop.trips) : BitVec 32 :=
  let c15_i32_335 : BitVec 32 := 15#32
  let c15_i32_334 : BitVec 32 := 15#32
  let c0_i32_333 : BitVec 32 := 0#32
  let c0_i32_289 : BitVec 32 := 0#32
  let c1_i32_290 : BitVec 32 := 1#32
  let arg17 : BitVec 32 := Scf.iv c0_i32_289 c1_i32_290 k0_t1
  let c2_i32_298 : BitVec 32 := 2#32
  let v871 : BitVec 32 := Scalar.muli arg17 c2_i32_298
  let c1_i32_299 : BitVec 32 := 1#32
  let v872 : BitVec 32 := Scalar.addi v871 c1_i32_299
  let v968 : BitVec 32 := Scalar.maxsi c0_i32_333 v872
  let v969 : BitVec 32 := Scalar.minsi c15_i32_334 v968
  let v970 : BitVec 32 := Scalar.subi c15_i32_335 v969
  let c256_i32_355 : BitVec 32 := 256#32
  let v1023 : BitVec 32 := Scalar.muli v970 c256_i32_355
  v1023
def k0_off3 (k0_t1 : Fin k0_t1_loop.trips) (c0_i32_297 : BitVec 32) : Fin 3 → Nat :=
  let c0_376 : Index := 0#32
  let c15_i32 : BitVec 32 := 15#32
  let c0_i32_300 : BitVec 32 := 0#32
  let c0_i32_289 : BitVec 32 := 0#32
  let c1_i32_290 : BitVec 32 := 1#32
  let arg17 : BitVec 32 := Scf.iv c0_i32_289 c1_i32_290 k0_t1
  let c2_i32_296 : BitVec 32 := 2#32
  let v869 : BitVec 32 := Scalar.muli arg17 c2_i32_296
  let v870 : BitVec 32 := Scalar.addi v869 c0_i32_297
  let v873 : BitVec 32 := Scalar.maxsi c0_i32_300 v870
  let v874 : BitVec 32 := Scalar.minsi c15_i32 v873
  let c256_i32 : BitVec 32 := 256#32
  let v876 : BitVec 32 := Scalar.muli v874 c256_i32
  let v877 : BitVec 32 := v876
  let v1097 : Index := Scalar.indexCast v877
  let c0_377 : Index := 0#32
  ![0, v1097.toNat, 0]
def k0_off4 (k0_t1 : Fin k0_t1_loop.trips) (c0_i32_297 : BitVec 32) : Fin 3 → Nat :=
  let c0_390 : Index := 0#32
  let c15_i32_301 : BitVec 32 := 15#32
  let c15_i32 : BitVec 32 := 15#32
  let c0_i32_300 : BitVec 32 := 0#32
  let c0_i32_289 : BitVec 32 := 0#32
  let c1_i32_290 : BitVec 32 := 1#32
  let arg17 : BitVec 32 := Scf.iv c0_i32_289 c1_i32_290 k0_t1
  let c2_i32_296 : BitVec 32 := 2#32
  let v869 : BitVec 32 := Scalar.muli arg17 c2_i32_296
  let v870 : BitVec 32 := Scalar.addi v869 c0_i32_297
  let v873 : BitVec 32 := Scalar.maxsi c0_i32_300 v870
  let v874 : BitVec 32 := Scalar.minsi c15_i32 v873
  let v875 : BitVec 32 := Scalar.subi c15_i32_301 v874
  let c256_i32_302 : BitVec 32 := 256#32
  let v878 : BitVec 32 := Scalar.muli v875 c256_i32_302
  let v879 : BitVec 32 := v878
  let v1139 : Index := Scalar.indexCast v879
  let c0_391 : Index := 0#32
  ![0, v1139.toNat, 0]
def k0_off5 (k0_t1 : Fin k0_t1_loop.trips) (c0_i32_297 : BitVec 32) : Fin 3 → Nat :=
  let c0_405 : Index := 0#32
  let c15_i32 : BitVec 32 := 15#32
  let c0_i32_300 : BitVec 32 := 0#32
  let c0_i32_289 : BitVec 32 := 0#32
  let c1_i32_290 : BitVec 32 := 1#32
  let arg17 : BitVec 32 := Scf.iv c0_i32_289 c1_i32_290 k0_t1
  let c2_i32_296 : BitVec 32 := 2#32
  let v869 : BitVec 32 := Scalar.muli arg17 c2_i32_296
  let v870 : BitVec 32 := Scalar.addi v869 c0_i32_297
  let v873 : BitVec 32 := Scalar.maxsi c0_i32_300 v870
  let v874 : BitVec 32 := Scalar.minsi c15_i32 v873
  let c256_i32_303 : BitVec 32 := 256#32
  let v880 : BitVec 32 := Scalar.muli v874 c256_i32_303
  let v881 : BitVec 32 := v880
  let v1181 : Index := Scalar.indexCast v881
  let c128 : Index := 128#32
  ![0, v1181.toNat, 128]
def k0_off6 (k0_t1 : Fin k0_t1_loop.trips) (c0_i32_297 : BitVec 32) : Fin 3 → Nat :=
  let c0_419 : Index := 0#32
  let c15_i32_301 : BitVec 32 := 15#32
  let c15_i32 : BitVec 32 := 15#32
  let c0_i32_300 : BitVec 32 := 0#32
  let c0_i32_289 : BitVec 32 := 0#32
  let c1_i32_290 : BitVec 32 := 1#32
  let arg17 : BitVec 32 := Scf.iv c0_i32_289 c1_i32_290 k0_t1
  let c2_i32_296 : BitVec 32 := 2#32
  let v869 : BitVec 32 := Scalar.muli arg17 c2_i32_296
  let v870 : BitVec 32 := Scalar.addi v869 c0_i32_297
  let v873 : BitVec 32 := Scalar.maxsi c0_i32_300 v870
  let v874 : BitVec 32 := Scalar.minsi c15_i32 v873
  let v875 : BitVec 32 := Scalar.subi c15_i32_301 v874
  let c256_i32_304 : BitVec 32 := 256#32
  let v882 : BitVec 32 := Scalar.muli v875 c256_i32_304
  let v883 : BitVec 32 := v882
  let v1223 : Index := Scalar.indexCast v883
  let c128_420 : Index := 128#32
  ![0, v1223.toNat, 128]
def k0_off7 (k0_t1 : Fin k0_t1_loop.trips) (c0_i32_297 : BitVec 32) : Fin 3 → Nat :=
  let c0_434 : Index := 0#32
  let c15_i32 : BitVec 32 := 15#32
  let c0_i32_300 : BitVec 32 := 0#32
  let c0_i32_289 : BitVec 32 := 0#32
  let c1_i32_290 : BitVec 32 := 1#32
  let arg17 : BitVec 32 := Scf.iv c0_i32_289 c1_i32_290 k0_t1
  let c2_i32_296 : BitVec 32 := 2#32
  let v869 : BitVec 32 := Scalar.muli arg17 c2_i32_296
  let v870 : BitVec 32 := Scalar.addi v869 c0_i32_297
  let v873 : BitVec 32 := Scalar.maxsi c0_i32_300 v870
  let v874 : BitVec 32 := Scalar.minsi c15_i32 v873
  let c256_i32_305 : BitVec 32 := 256#32
  let v884 : BitVec 32 := Scalar.muli v874 c256_i32_305
  let v885 : BitVec 32 := v884
  let v1265 : Index := Scalar.indexCast v885
  let c256 : Index := 256#32
  ![0, v1265.toNat, 256]
def k0_off8 (k0_t1 : Fin k0_t1_loop.trips) (c0_i32_297 : BitVec 32) : Fin 3 → Nat :=
  let c0_448 : Index := 0#32
  let c15_i32_301 : BitVec 32 := 15#32
  let c15_i32 : BitVec 32 := 15#32
  let c0_i32_300 : BitVec 32 := 0#32
  let c0_i32_289 : BitVec 32 := 0#32
  let c1_i32_290 : BitVec 32 := 1#32
  let arg17 : BitVec 32 := Scf.iv c0_i32_289 c1_i32_290 k0_t1
  let c2_i32_296 : BitVec 32 := 2#32
  let v869 : BitVec 32 := Scalar.muli arg17 c2_i32_296
  let v870 : BitVec 32 := Scalar.addi v869 c0_i32_297
  let v873 : BitVec 32 := Scalar.maxsi c0_i32_300 v870
  let v874 : BitVec 32 := Scalar.minsi c15_i32 v873
  let v875 : BitVec 32 := Scalar.subi c15_i32_301 v874
  let c256_i32_306 : BitVec 32 := 256#32
  let v886 : BitVec 32 := Scalar.muli v875 c256_i32_306
  let v887 : BitVec 32 := v886
  let v1307 : Index := Scalar.indexCast v887
  let c256_449 : Index := 256#32
  ![0, v1307.toNat, 256]
def k0_mult17 (k0_t1 : Fin k0_t1_loop.trips) : BitVec 32 :=
  let c15_i32_1963 : BitVec 32 := 15#32
  let c0_i32_1962 : BitVec 32 := 0#32
  let c0_i32_289 : BitVec 32 := 0#32
  let c1_i32_290 : BitVec 32 := 1#32
  let arg17 : BitVec 32 := Scf.iv c0_i32_289 c1_i32_290 k0_t1
  let c2_i32_296 : BitVec 32 := 2#32
  let v869 : BitVec 32 := Scalar.muli arg17 c2_i32_296
  let c0_i32_297 : BitVec 32 := 0#32
  let v870 : BitVec 32 := Scalar.addi v869 c0_i32_297
  let v5049 : BitVec 32 := Scalar.maxsi c0_i32_1962 v870
  let v5050 : BitVec 32 := Scalar.minsi c15_i32_1963 v5049
  let c256_i32_1965 : BitVec 32 := 256#32
  let v5052 : BitVec 32 := Scalar.muli v5050 c256_i32_1965
  v5052
def k0_mult18 (k0_t1 : Fin k0_t1_loop.trips) : BitVec 32 :=
  let c15_i32_1964 : BitVec 32 := 15#32
  let c15_i32_1963 : BitVec 32 := 15#32
  let c0_i32_1962 : BitVec 32 := 0#32
  let c0_i32_289 : BitVec 32 := 0#32
  let c1_i32_290 : BitVec 32 := 1#32
  let arg17 : BitVec 32 := Scf.iv c0_i32_289 c1_i32_290 k0_t1
  let c2_i32_296 : BitVec 32 := 2#32
  let v869 : BitVec 32 := Scalar.muli arg17 c2_i32_296
  let c0_i32_297 : BitVec 32 := 0#32
  let v870 : BitVec 32 := Scalar.addi v869 c0_i32_297
  let v5049 : BitVec 32 := Scalar.maxsi c0_i32_1962 v870
  let v5050 : BitVec 32 := Scalar.minsi c15_i32_1963 v5049
  let v5051 : BitVec 32 := Scalar.subi c15_i32_1964 v5050
  let c256_i32_1966 : BitVec 32 := 256#32
  let v5054 : BitVec 32 := Scalar.muli v5051 c256_i32_1966
  v5054
def k0_mult19 (k0_t1 : Fin k0_t1_loop.trips) : BitVec 32 :=
  let c15_i32_1963 : BitVec 32 := 15#32
  let c0_i32_1962 : BitVec 32 := 0#32
  let c0_i32_289 : BitVec 32 := 0#32
  let c1_i32_290 : BitVec 32 := 1#32
  let arg17 : BitVec 32 := Scf.iv c0_i32_289 c1_i32_290 k0_t1
  let c2_i32_296 : BitVec 32 := 2#32
  let v869 : BitVec 32 := Scalar.muli arg17 c2_i32_296
  let c0_i32_297 : BitVec 32 := 0#32
  let v870 : BitVec 32 := Scalar.addi v869 c0_i32_297
  let v5049 : BitVec 32 := Scalar.maxsi c0_i32_1962 v870
  let v5050 : BitVec 32 := Scalar.minsi c15_i32_1963 v5049
  let c256_i32_1967 : BitVec 32 := 256#32
  let v5056 : BitVec 32 := Scalar.muli v5050 c256_i32_1967
  v5056
def k0_mult20 (k0_t1 : Fin k0_t1_loop.trips) : BitVec 32 :=
  let c15_i32_1964 : BitVec 32 := 15#32
  let c15_i32_1963 : BitVec 32 := 15#32
  let c0_i32_1962 : BitVec 32 := 0#32
  let c0_i32_289 : BitVec 32 := 0#32
  let c1_i32_290 : BitVec 32 := 1#32
  let arg17 : BitVec 32 := Scf.iv c0_i32_289 c1_i32_290 k0_t1
  let c2_i32_296 : BitVec 32 := 2#32
  let v869 : BitVec 32 := Scalar.muli arg17 c2_i32_296
  let c0_i32_297 : BitVec 32 := 0#32
  let v870 : BitVec 32 := Scalar.addi v869 c0_i32_297
  let v5049 : BitVec 32 := Scalar.maxsi c0_i32_1962 v870
  let v5050 : BitVec 32 := Scalar.minsi c15_i32_1963 v5049
  let v5051 : BitVec 32 := Scalar.subi c15_i32_1964 v5050
  let c256_i32_1968 : BitVec 32 := 256#32
  let v5058 : BitVec 32 := Scalar.muli v5051 c256_i32_1968
  v5058
def k0_mult21 (k0_t1 : Fin k0_t1_loop.trips) : BitVec 32 :=
  let c15_i32_1963 : BitVec 32 := 15#32
  let c0_i32_1962 : BitVec 32 := 0#32
  let c0_i32_289 : BitVec 32 := 0#32
  let c1_i32_290 : BitVec 32 := 1#32
  let arg17 : BitVec 32 := Scf.iv c0_i32_289 c1_i32_290 k0_t1
  let c2_i32_296 : BitVec 32 := 2#32
  let v869 : BitVec 32 := Scalar.muli arg17 c2_i32_296
  let c0_i32_297 : BitVec 32 := 0#32
  let v870 : BitVec 32 := Scalar.addi v869 c0_i32_297
  let v5049 : BitVec 32 := Scalar.maxsi c0_i32_1962 v870
  let v5050 : BitVec 32 := Scalar.minsi c15_i32_1963 v5049
  let c256_i32_1969 : BitVec 32 := 256#32
  let v5060 : BitVec 32 := Scalar.muli v5050 c256_i32_1969
  v5060
def k0_mult22 (k0_t1 : Fin k0_t1_loop.trips) : BitVec 32 :=
  let c15_i32_1964 : BitVec 32 := 15#32
  let c15_i32_1963 : BitVec 32 := 15#32
  let c0_i32_1962 : BitVec 32 := 0#32
  let c0_i32_289 : BitVec 32 := 0#32
  let c1_i32_290 : BitVec 32 := 1#32
  let arg17 : BitVec 32 := Scf.iv c0_i32_289 c1_i32_290 k0_t1
  let c2_i32_296 : BitVec 32 := 2#32
  let v869 : BitVec 32 := Scalar.muli arg17 c2_i32_296
  let c0_i32_297 : BitVec 32 := 0#32
  let v870 : BitVec 32 := Scalar.addi v869 c0_i32_297
  let v5049 : BitVec 32 := Scalar.maxsi c0_i32_1962 v870
  let v5050 : BitVec 32 := Scalar.minsi c15_i32_1963 v5049
  let v5051 : BitVec 32 := Scalar.subi c15_i32_1964 v5050
  let c256_i32_1970 : BitVec 32 := 256#32
  let v5062 : BitVec 32 := Scalar.muli v5051 c256_i32_1970
  v5062
def k0_off9 (k0_t1 : Fin k0_t1_loop.trips) (c0_i32_297 : BitVec 32) : Fin 2 → Nat :=
  let c15_i32_1963 : BitVec 32 := 15#32
  let c0_i32_1962 : BitVec 32 := 0#32
  let c0_i32_289 : BitVec 32 := 0#32
  let c1_i32_290 : BitVec 32 := 1#32
  let arg17 : BitVec 32 := Scf.iv c0_i32_289 c1_i32_290 k0_t1
  let c2_i32_296 : BitVec 32 := 2#32
  let v869 : BitVec 32 := Scalar.muli arg17 c2_i32_296
  let v870 : BitVec 32 := Scalar.addi v869 c0_i32_297
  let v5049 : BitVec 32 := Scalar.maxsi c0_i32_1962 v870
  let v5050 : BitVec 32 := Scalar.minsi c15_i32_1963 v5049
  let c256_i32_1965 : BitVec 32 := 256#32
  let v5052 : BitVec 32 := Scalar.muli v5050 c256_i32_1965
  let v5053 : BitVec 32 := v5052
  let v5106 : Index := Scalar.indexCast v5053
  let c0_1983 : Index := 0#32
  ![v5106.toNat, 0]
def k0_off10 (k0_t1 : Fin k0_t1_loop.trips) (c0_i32_297 : BitVec 32) : Fin 2 → Nat :=
  let c15_i32_1964 : BitVec 32 := 15#32
  let c15_i32_1963 : BitVec 32 := 15#32
  let c0_i32_1962 : BitVec 32 := 0#32
  let c0_i32_289 : BitVec 32 := 0#32
  let c1_i32_290 : BitVec 32 := 1#32
  let arg17 : BitVec 32 := Scf.iv c0_i32_289 c1_i32_290 k0_t1
  let c2_i32_296 : BitVec 32 := 2#32
  let v869 : BitVec 32 := Scalar.muli arg17 c2_i32_296
  let v870 : BitVec 32 := Scalar.addi v869 c0_i32_297
  let v5049 : BitVec 32 := Scalar.maxsi c0_i32_1962 v870
  let v5050 : BitVec 32 := Scalar.minsi c15_i32_1963 v5049
  let v5051 : BitVec 32 := Scalar.subi c15_i32_1964 v5050
  let c256_i32_1966 : BitVec 32 := 256#32
  let v5054 : BitVec 32 := Scalar.muli v5051 c256_i32_1966
  let v5055 : BitVec 32 := v5054
  let v5116 : Index := Scalar.indexCast v5055
  let c0_1985 : Index := 0#32
  ![v5116.toNat, 0]
def k0_off11 (k0_t1 : Fin k0_t1_loop.trips) (c0_i32_297 : BitVec 32) : Fin 2 → Nat :=
  let c15_i32_1963 : BitVec 32 := 15#32
  let c0_i32_1962 : BitVec 32 := 0#32
  let c0_i32_289 : BitVec 32 := 0#32
  let c1_i32_290 : BitVec 32 := 1#32
  let arg17 : BitVec 32 := Scf.iv c0_i32_289 c1_i32_290 k0_t1
  let c2_i32_296 : BitVec 32 := 2#32
  let v869 : BitVec 32 := Scalar.muli arg17 c2_i32_296
  let v870 : BitVec 32 := Scalar.addi v869 c0_i32_297
  let v5049 : BitVec 32 := Scalar.maxsi c0_i32_1962 v870
  let v5050 : BitVec 32 := Scalar.minsi c15_i32_1963 v5049
  let c256_i32_1967 : BitVec 32 := 256#32
  let v5056 : BitVec 32 := Scalar.muli v5050 c256_i32_1967
  let v5057 : BitVec 32 := v5056
  let v5126 : Index := Scalar.indexCast v5057
  let c128_1987 : Index := 128#32
  ![v5126.toNat, 128]
def k0_off12 (k0_t1 : Fin k0_t1_loop.trips) (c0_i32_297 : BitVec 32) : Fin 2 → Nat :=
  let c15_i32_1964 : BitVec 32 := 15#32
  let c15_i32_1963 : BitVec 32 := 15#32
  let c0_i32_1962 : BitVec 32 := 0#32
  let c0_i32_289 : BitVec 32 := 0#32
  let c1_i32_290 : BitVec 32 := 1#32
  let arg17 : BitVec 32 := Scf.iv c0_i32_289 c1_i32_290 k0_t1
  let c2_i32_296 : BitVec 32 := 2#32
  let v869 : BitVec 32 := Scalar.muli arg17 c2_i32_296
  let v870 : BitVec 32 := Scalar.addi v869 c0_i32_297
  let v5049 : BitVec 32 := Scalar.maxsi c0_i32_1962 v870
  let v5050 : BitVec 32 := Scalar.minsi c15_i32_1963 v5049
  let v5051 : BitVec 32 := Scalar.subi c15_i32_1964 v5050
  let c256_i32_1968 : BitVec 32 := 256#32
  let v5058 : BitVec 32 := Scalar.muli v5051 c256_i32_1968
  let v5059 : BitVec 32 := v5058
  let v5136 : Index := Scalar.indexCast v5059
  let c128_1989 : Index := 128#32
  ![v5136.toNat, 128]
def k0_off13 (k0_t1 : Fin k0_t1_loop.trips) (c0_i32_297 : BitVec 32) : Fin 2 → Nat :=
  let c15_i32_1963 : BitVec 32 := 15#32
  let c0_i32_1962 : BitVec 32 := 0#32
  let c0_i32_289 : BitVec 32 := 0#32
  let c1_i32_290 : BitVec 32 := 1#32
  let arg17 : BitVec 32 := Scf.iv c0_i32_289 c1_i32_290 k0_t1
  let c2_i32_296 : BitVec 32 := 2#32
  let v869 : BitVec 32 := Scalar.muli arg17 c2_i32_296
  let v870 : BitVec 32 := Scalar.addi v869 c0_i32_297
  let v5049 : BitVec 32 := Scalar.maxsi c0_i32_1962 v870
  let v5050 : BitVec 32 := Scalar.minsi c15_i32_1963 v5049
  let c256_i32_1969 : BitVec 32 := 256#32
  let v5060 : BitVec 32 := Scalar.muli v5050 c256_i32_1969
  let v5061 : BitVec 32 := v5060
  let v5146 : Index := Scalar.indexCast v5061
  let c256_1991 : Index := 256#32
  ![v5146.toNat, 256]
def k0_off14 (k0_t1 : Fin k0_t1_loop.trips) (c0_i32_297 : BitVec 32) : Fin 2 → Nat :=
  let c15_i32_1964 : BitVec 32 := 15#32
  let c15_i32_1963 : BitVec 32 := 15#32
  let c0_i32_1962 : BitVec 32 := 0#32
  let c0_i32_289 : BitVec 32 := 0#32
  let c1_i32_290 : BitVec 32 := 1#32
  let arg17 : BitVec 32 := Scf.iv c0_i32_289 c1_i32_290 k0_t1
  let c2_i32_296 : BitVec 32 := 2#32
  let v869 : BitVec 32 := Scalar.muli arg17 c2_i32_296
  let v870 : BitVec 32 := Scalar.addi v869 c0_i32_297
  let v5049 : BitVec 32 := Scalar.maxsi c0_i32_1962 v870
  let v5050 : BitVec 32 := Scalar.minsi c15_i32_1963 v5049
  let v5051 : BitVec 32 := Scalar.subi c15_i32_1964 v5050
  let c256_i32_1970 : BitVec 32 := 256#32
  let v5062 : BitVec 32 := Scalar.muli v5051 c256_i32_1970
  let v5063 : BitVec 32 := v5062
  let v5156 : Index := Scalar.indexCast v5063
  let c256_1993 : Index := 256#32
  ![v5156.toNat, 256]
def k0_mult23 (k0_t1 : Fin k0_t1_loop.trips) : BitVec 32 :=
  let c15_i32_1996 : BitVec 32 := 15#32
  let c0_i32_1995 : BitVec 32 := 0#32
  let c0_i32_289 : BitVec 32 := 0#32
  let c1_i32_290 : BitVec 32 := 1#32
  let arg17 : BitVec 32 := Scf.iv c0_i32_289 c1_i32_290 k0_t1
  let c2_i32_298 : BitVec 32 := 2#32
  let v871 : BitVec 32 := Scalar.muli arg17 c2_i32_298
  let c1_i32_299 : BitVec 32 := 1#32
  let v872 : BitVec 32 := Scalar.addi v871 c1_i32_299
  let v5196 : BitVec 32 := Scalar.maxsi c0_i32_1995 v872
  let v5197 : BitVec 32 := Scalar.minsi c15_i32_1996 v5196
  let c256_i32_1998 : BitVec 32 := 256#32
  let v5199 : BitVec 32 := Scalar.muli v5197 c256_i32_1998
  v5199
def k0_mult24 (k0_t1 : Fin k0_t1_loop.trips) : BitVec 32 :=
  let c15_i32_1997 : BitVec 32 := 15#32
  let c15_i32_1996 : BitVec 32 := 15#32
  let c0_i32_1995 : BitVec 32 := 0#32
  let c0_i32_289 : BitVec 32 := 0#32
  let c1_i32_290 : BitVec 32 := 1#32
  let arg17 : BitVec 32 := Scf.iv c0_i32_289 c1_i32_290 k0_t1
  let c2_i32_298 : BitVec 32 := 2#32
  let v871 : BitVec 32 := Scalar.muli arg17 c2_i32_298
  let c1_i32_299 : BitVec 32 := 1#32
  let v872 : BitVec 32 := Scalar.addi v871 c1_i32_299
  let v5196 : BitVec 32 := Scalar.maxsi c0_i32_1995 v872
  let v5197 : BitVec 32 := Scalar.minsi c15_i32_1996 v5196
  let v5198 : BitVec 32 := Scalar.subi c15_i32_1997 v5197
  let c256_i32_1999 : BitVec 32 := 256#32
  let v5201 : BitVec 32 := Scalar.muli v5198 c256_i32_1999
  v5201
def k0_mult25 (k0_t1 : Fin k0_t1_loop.trips) : BitVec 32 :=
  let c15_i32_1996 : BitVec 32 := 15#32
  let c0_i32_1995 : BitVec 32 := 0#32
  let c0_i32_289 : BitVec 32 := 0#32
  let c1_i32_290 : BitVec 32 := 1#32
  let arg17 : BitVec 32 := Scf.iv c0_i32_289 c1_i32_290 k0_t1
  let c2_i32_298 : BitVec 32 := 2#32
  let v871 : BitVec 32 := Scalar.muli arg17 c2_i32_298
  let c1_i32_299 : BitVec 32 := 1#32
  let v872 : BitVec 32 := Scalar.addi v871 c1_i32_299
  let v5196 : BitVec 32 := Scalar.maxsi c0_i32_1995 v872
  let v5197 : BitVec 32 := Scalar.minsi c15_i32_1996 v5196
  let c256_i32_2000 : BitVec 32 := 256#32
  let v5203 : BitVec 32 := Scalar.muli v5197 c256_i32_2000
  v5203
def k0_mult26 (k0_t1 : Fin k0_t1_loop.trips) : BitVec 32 :=
  let c15_i32_1997 : BitVec 32 := 15#32
  let c15_i32_1996 : BitVec 32 := 15#32
  let c0_i32_1995 : BitVec 32 := 0#32
  let c0_i32_289 : BitVec 32 := 0#32
  let c1_i32_290 : BitVec 32 := 1#32
  let arg17 : BitVec 32 := Scf.iv c0_i32_289 c1_i32_290 k0_t1
  let c2_i32_298 : BitVec 32 := 2#32
  let v871 : BitVec 32 := Scalar.muli arg17 c2_i32_298
  let c1_i32_299 : BitVec 32 := 1#32
  let v872 : BitVec 32 := Scalar.addi v871 c1_i32_299
  let v5196 : BitVec 32 := Scalar.maxsi c0_i32_1995 v872
  let v5197 : BitVec 32 := Scalar.minsi c15_i32_1996 v5196
  let v5198 : BitVec 32 := Scalar.subi c15_i32_1997 v5197
  let c256_i32_2001 : BitVec 32 := 256#32
  let v5205 : BitVec 32 := Scalar.muli v5198 c256_i32_2001
  v5205
def k0_mult27 (k0_t1 : Fin k0_t1_loop.trips) : BitVec 32 :=
  let c15_i32_1996 : BitVec 32 := 15#32
  let c0_i32_1995 : BitVec 32 := 0#32
  let c0_i32_289 : BitVec 32 := 0#32
  let c1_i32_290 : BitVec 32 := 1#32
  let arg17 : BitVec 32 := Scf.iv c0_i32_289 c1_i32_290 k0_t1
  let c2_i32_298 : BitVec 32 := 2#32
  let v871 : BitVec 32 := Scalar.muli arg17 c2_i32_298
  let c1_i32_299 : BitVec 32 := 1#32
  let v872 : BitVec 32 := Scalar.addi v871 c1_i32_299
  let v5196 : BitVec 32 := Scalar.maxsi c0_i32_1995 v872
  let v5197 : BitVec 32 := Scalar.minsi c15_i32_1996 v5196
  let c256_i32_2002 : BitVec 32 := 256#32
  let v5207 : BitVec 32 := Scalar.muli v5197 c256_i32_2002
  v5207
def k0_mult28 (k0_t1 : Fin k0_t1_loop.trips) : BitVec 32 :=
  let c15_i32_1997 : BitVec 32 := 15#32
  let c15_i32_1996 : BitVec 32 := 15#32
  let c0_i32_1995 : BitVec 32 := 0#32
  let c0_i32_289 : BitVec 32 := 0#32
  let c1_i32_290 : BitVec 32 := 1#32
  let arg17 : BitVec 32 := Scf.iv c0_i32_289 c1_i32_290 k0_t1
  let c2_i32_298 : BitVec 32 := 2#32
  let v871 : BitVec 32 := Scalar.muli arg17 c2_i32_298
  let c1_i32_299 : BitVec 32 := 1#32
  let v872 : BitVec 32 := Scalar.addi v871 c1_i32_299
  let v5196 : BitVec 32 := Scalar.maxsi c0_i32_1995 v872
  let v5197 : BitVec 32 := Scalar.minsi c15_i32_1996 v5196
  let v5198 : BitVec 32 := Scalar.subi c15_i32_1997 v5197
  let c256_i32_2003 : BitVec 32 := 256#32
  let v5209 : BitVec 32 := Scalar.muli v5198 c256_i32_2003
  v5209
@[reducible] def k0_t2_loop : Scf.Loop 32 :=
  let c0_i32_292 : BitVec 32 := 0#32
  let c16_i32_293 : BitVec 32 := 16#32
  let v868 : BitVec 32 := Scalar.addi c0_i32_292 c16_i32_293
  let c1_i32_294 : BitVec 32 := 1#32
  ⟨c0_i32_292, v868, c1_i32_294⟩
def k0_mult29 (k0_t2 : Fin k0_t2_loop.trips) : BitVec 32 :=
  let c0_i32_292 : BitVec 32 := 0#32
  let c1_i32_294 : BitVec 32 := 1#32
  let arg17 : BitVec 32 := Scf.iv c0_i32_292 c1_i32_294 k0_t2
  let c256_i32 : BitVec 32 := 256#32
  let v869 : BitVec 32 := Scalar.muli arg17 c256_i32
  v869
def k0_off15 (k0_t2 : Fin k0_t2_loop.trips) : Fin 2 → Nat :=
  let c0_i32_292 : BitVec 32 := 0#32
  let c1_i32_294 : BitVec 32 := 1#32
  let arg17 : BitVec 32 := Scf.iv c0_i32_292 c1_i32_294 k0_t2
  let c256_i32 : BitVec 32 := 256#32
  let v869 : BitVec 32 := Scalar.muli arg17 c256_i32
  let v870 : BitVec 32 := v869
  let v871 : Index := Scalar.indexCast v870
  let c0_296 : Index := 0#32
  ![v871.toNat, 0]
def k0_off16 (k0_t2 : Fin k0_t2_loop.trips) : Fin 3 → Nat :=
  let c0_302 : Index := 0#32
  let c0_i32_292 : BitVec 32 := 0#32
  let c1_i32_294 : BitVec 32 := 1#32
  let arg17 : BitVec 32 := Scf.iv c0_i32_292 c1_i32_294 k0_t2
  let c256_i32 : BitVec 32 := 256#32
  let v869 : BitVec 32 := Scalar.muli arg17 c256_i32
  let v870 : BitVec 32 := v869
  let v887 : Index := Scalar.indexCast v870
  let c0_303 : Index := 0#32
  ![0, v887.toNat, 0]
def k0_off17 (k0_t2 : Fin k0_t2_loop.trips) : Fin 2 → Nat :=
  let c0_i32_292 : BitVec 32 := 0#32
  let c1_i32_294 : BitVec 32 := 1#32
  let arg17 : BitVec 32 := Scf.iv c0_i32_292 c1_i32_294 k0_t2
  let c256_i32 : BitVec 32 := 256#32
  let v869 : BitVec 32 := Scalar.muli arg17 c256_i32
  let v870 : BitVec 32 := v869
  let v899 : Index := Scalar.indexCast v870
  let c128 : Index := 128#32
  ![v899.toNat, 128]
def k0_off18 (k0_t2 : Fin k0_t2_loop.trips) : Fin 3 → Nat :=
  let c0_311 : Index := 0#32
  let c0_i32_292 : BitVec 32 := 0#32
  let c1_i32_294 : BitVec 32 := 1#32
  let arg17 : BitVec 32 := Scf.iv c0_i32_292 c1_i32_294 k0_t2
  let c256_i32 : BitVec 32 := 256#32
  let v869 : BitVec 32 := Scalar.muli arg17 c256_i32
  let v870 : BitVec 32 := v869
  let v915 : Index := Scalar.indexCast v870
  let c128_312 : Index := 128#32
  ![0, v915.toNat, 128]
def k0_off19 (k0_t2 : Fin k0_t2_loop.trips) : Fin 2 → Nat :=
  let c0_i32_292 : BitVec 32 := 0#32
  let c1_i32_294 : BitVec 32 := 1#32
  let arg17 : BitVec 32 := Scf.iv c0_i32_292 c1_i32_294 k0_t2
  let c256_i32 : BitVec 32 := 256#32
  let v869 : BitVec 32 := Scalar.muli arg17 c256_i32
  let v870 : BitVec 32 := v869
  let v927 : Index := Scalar.indexCast v870
  let c256 : Index := 256#32
  ![v927.toNat, 256]
def k0_off20 (k0_t2 : Fin k0_t2_loop.trips) : Fin 3 → Nat :=
  let c0_320 : Index := 0#32
  let c0_i32_292 : BitVec 32 := 0#32
  let c1_i32_294 : BitVec 32 := 1#32
  let arg17 : BitVec 32 := Scf.iv c0_i32_292 c1_i32_294 k0_t2
  let c256_i32 : BitVec 32 := 256#32
  let v869 : BitVec 32 := Scalar.muli arg17 c256_i32
  let v870 : BitVec 32 := v869
  let v943 : Index := Scalar.indexCast v870
  let c256_321 : Index := 256#32
  ![0, v943.toNat, 256]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c4_i32 : BitVec 32 := 4#32
  let c0_i32_0 : BitVec 32 := 0#32
  ![arg0.toNat, c0_i32.toNat, c4_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_4 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  let c0_i32_0 : BitVec 32 := 0#32
  ![arg0.toNat, c0_i32.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1x4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x4096x384 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x4096x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Proof.GmBlocks.lean ====
module

public import proofs.«01_k».proof.Proof.Gen.GmIdeal.Value
public import proofs.«01_k».proof.Proof.Gen.GmRefIdeal.Run
public import proofs.«01_k».proof.Defs
public import Idealize.ShloMosaic.Lib.Pipeline.ValueKit
public import Idealize.ShloMosaic.Lib.Claim
public import Idealize.ShloMosaic.Lib.Pointwise

@[expose] public section

set_option maxRecDepth 16384

/-! The block that one grid point of the spatial gating unit stores, put together from its twelve groups. -/

noncomputable section

open Idealize.ShloMosaic Idealize.ShloMosaic.TcCoe Idealize.SL.Sem
open Idealize.ShloMosaic.Pipeline (Dat)

namespace Cert.GmIdeal.Value
open Cert.GmIdeal.Gen

/-- The gelu with the hyperbolic tangent. -/
def gelu (x : EReal) : EReal :=
  x * (Ideal.ofBits FTy.f32 0x3F000000#32 * (Ideal.ofBits FTy.f32 0x3F800000#32 + Ideal.tanh (Ideal.ofBits FTy.f32 0x3F4C422A#32 * (x + Ideal.ofBits FTy.f32 0x3D372713#32 * (x * (x * x))))))

/-- The gate half of a block of rows: gelu, then RMS normalisation with the gains `g`. -/
def norm (v : Vec Ideal S512x1536 .bf16) (g : Vec Ideal S1x1536 .f32) : Vec Ideal S512x1536 .bf16 := fun j =>
  gelu (v j) * Ideal.rsqrt (Ideal.div (∑ k : Fin 1536, gelu (v (ix2 (j 0) k)) * gelu (v (ix2 (j 0) k))) (Ideal.ofBits FTy.f32 0x44C00000#32) + Ideal.ofBits FTy.f32 0x358637BD#32) * g (ix2 0 (j 1))

/-- What a grid point computes of its block: the gelu of the left half times, group by group and chunk by chunk, the chunk's mixing matrix applied to the normalised right half, plus the bias. -/
def blk (u v : Vec Ideal S512x1536 .bf16) (g : Vec Ideal S1x1536 .f32) (w : Vec Ideal S1x12x128x128 .f32) (b : Vec Ideal S128x12 .f32) : Vec Ideal S512x1536 .bf16 := fun j =>
  gelu (u j) * (∑ k : Fin 128, w (ix4 0 ⟨(j 1 : ℕ) / 128, Nat.div_lt_of_lt_mul (j 1).isLt⟩ ⟨(j 0 : ℕ) % 128, Nat.mod_lt _ (by decide)⟩ k)
      * norm v g (ix2 ⟨(j 0 : ℕ) / 128 * 128 + k, by have : (j 0 : ℕ) < 512 := (j 0).isLt; omega⟩ (j 1))
    + b (ix2 ⟨(j 0 : ℕ) % 128, Nat.mod_lt _ (by decide)⟩ ⟨(j 1 : ℕ) / 128, Nat.div_lt_of_lt_mul (j 1).isLt⟩))

/-- The kernel's normalised gate half is `norm`. -/
theorem normp (v : Vec Ideal S512x1536 .bf16) (g : Vec Ideal S1x1536 .f32) : k0_pay2 (F := Ideal) v g = norm v g := by
  funext j
  pointwise [k0_pay2, norm, gelu]

/-- The product of a group's mixing matrix and the four chunks of the group's columns, laid side by side. -/
def first (n : Vec Ideal S512x1536 .bf16) (w : Vec Ideal S1x1x128x128 .f32) : Vec Ideal S128x512 .f32 := fun j =>
  ∑ k : Fin 128, w (ix4 0 0 (j 0) k) * n (ix2 ⟨(j 1 : ℕ) / 128 * 128 + k, by have : (j 1 : ℕ) < 512 := (j 1).isLt; omega⟩ ⟨(j 1 : ℕ) % 128, Nat.lt_trans (Nat.mod_lt _ (by decide)) (by decide : 128 < 1536)⟩)

/-- The kernel's product for the first group is `first` of the normalised gate half. -/
theorem pay3 (v : Vec Ideal S512x1536 .bf16) (g : Vec Ideal S1x1536 .f32) (w : Vec Ideal S1x1x128x128 .f32) : k0_pay3 (F := Ideal) v g w = first (norm v g) w := by
  rw [← normp]
  generalize hn : k0_pay2 (F := Ideal) v g = n
  unfold k0_pay3
  rw [hn]
  funext j
  have hj : (j 1 : ℕ) < 512 := (j 1).isLt
  pointwise [first]
  refine Finset.sum_congr rfl fun k _ => congrArg₂ (· * ·) rfl ?_
  repeat' split
  all_goals first
    | exfalso; omega
    | blk_point

set_option maxHeartbeats 8000000 in
/-- The block that a grid point stores, put together from its twelve groups, is `blk` of its inputs. -/
theorem out (c : Dev nD) (i : grid0.Coords) (arg1 : Memref sig .tc .vmem S512x1536 .bf16) (harg1 : arg1.IsWhole) (arg2 : Memref sig .tc .vmem S512x1536 .bf16) (harg2 : arg2.IsWhole) (arg3 : Memref sig .tc .vmem S1x1536 .f32) (harg3 : arg3.IsWhole) (arg4 : Memref sig .tc .vmem S1x12x128x128 .f32) (harg4 : arg4.IsWhole) (arg5 : Memref sig .tc .vmem S128x12 .f32) (harg5 : arg5.IsWhole) (arg6 : Memref sig .tc .vmem S512x1536 .bf16) (harg6 : arg6.IsWhole)
    (x0 : Vec Ideal S512x1536 .bf16) (x1 : Vec Ideal S512x1536 .bf16) (x2 : Vec Ideal S1x1536 .f32) (x3 : Vec Ideal S1x12x128x128 .f32) (x4 : Vec Ideal S128x12 .f32) : out0_A_5 (F := Ideal) c i arg1 harg1 arg2 harg2 arg3 harg3 arg4 harg4 arg5 harg5 arg6 harg6 x0 x1 x2 x3 x4 = blk x0 x1 x2 x3 x4 := by
  have hcov := cover0_A_5 (F := Ideal) c i arg1 harg1 arg2 harg2 arg3 harg3 arg4 harg4 arg5 harg5 arg6 harg6 x0 x1 x2 x3 x4
  funext y
  have hy := hcov y
  clear hcov
  unfold out0_A_5
  rw [View.read_writes_junk_eq_canon]
  unfold kernelRun0_A
  dsimp only
  clear hy
  canon_tiles x h
  all_goals
    simp only [kernelRun0_A.sl.cst_64, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, View.readAt_eq_ld, Memref.IsWhole.read_unread]
    try simp (disch := decide) only [View.ld_unit_lit']
    try simp only [normp, pay3]
    pointwise [k0_pay1, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, blk, gelu, first]
    refine congrArg₂ (· * ·) ?_ (congrArg₂ (· + ·) (Finset.sum_congr rfl fun k _ => congrArg₂ (· * ·) ?_ ?_) ?_)
    · blk_point
    · blk_point
    · repeat' split
      all_goals first
        | exfalso; omega
        | blk_point
    · blk_point
end Cert.GmIdeal.Value
end
-- ==== Proof.GmValue.lean ====
module

public import proofs.«01_k».proof.Proof.Gen.GmIdeal.Value
public import proofs.«01_k».proof.Proof.Gen.GmRefIdeal.Run
public import proofs.«01_k».proof.Defs
public import proofs.«01_k».proof.Proof.GmBlocks
public import Idealize.ShloMosaic.Lib.Pipeline.ValueKit
public import Idealize.ShloMosaic.Lib.Claim
public import Idealize.ShloMosaic.Lib.Pointwise

@[expose] public section

set_option maxRecDepth 16384

/-! The spatial gating unit: gelu and RMS normalisation of the gate, the mixing over chunks of 128 tokens with one matrix per group, the bias, and the product with the gelu of the left half. -/

noncomputable section

open Idealize.ShloMosaic Idealize.ShloMosaic.TcCoe Idealize.SL.Sem
open Idealize.ShloMosaic.Pipeline (Dat)

namespace Cert.GmIdeal.Value
open Cert.GmIdeal.Gen

variable (m : (ℓ : Loc nD τ sig) → Buf (Elt Ideal) ℓ)

/-- The block that every window shows at a grid point, by its block coordinates. -/
theorem idx : ∀ t : Fin cfg0.N, win0_0.index t = ![t.val, 0] ∧ win0_1.index t = ![t.val, 1] ∧ win0_2.index t = ![0, 0]
    ∧ win0_3.index t = ![1, 0, 0, 0] ∧ win0_4.index t = ![0, 0] ∧ win0_5.index t = ![t.val, 0] :=
  (by decide +kernel : ∀ t : Fin grid0.N, _)

/-- The block of the left half of the projection, read at an index. -/
theorem left (c : Dev nD) (t : Fin cfg0.N) (y : S512x1536.Idx) (i : S8192x3584.Idx) (h0 : (i 0 : ℕ) = t.val * 512 + y 0) (h1 : (i 1 : ℕ) = y 1) :
    (show Vec Ideal S512x1536 .bf16 from X0_0 m c t) y = (m ((c : Thread nD τ).loc main_arg0)) i := by
  show X0_0 m c t y = _
  unfold X0_0 Pipeline.Window.fill
  rw [dif_pos (moved0_0 t _)]
  blk_ext [iblk, V, idx t]

/-- The block of the right half of the projection, read at an index. -/
theorem right (c : Dev nD) (t : Fin cfg0.N) (r : Fin 512) (d : Fin 1536) (i : S8192x3584.Idx) (h0 : (i 0 : ℕ) = t.val * 512 + r) (h1 : (i 1 : ℕ) = 1536 + d) :
    (show Vec Ideal S512x1536 .bf16 from X0_1 m c t) (ix2 r d) = (m ((c : Thread nD τ).loc main_arg0)) i := by
  show X0_1 m c t (ix2 r d) = _
  unfold X0_1 Pipeline.Window.fill
  rw [dif_pos (moved0_1 t _)]
  blk_ext [iblk, V, idx t]

/-- The normalised gate of a token, entry by entry. -/
def vn (P : Vec Ideal S8192x3584 .bf16) (G : Vec Ideal S2x1536 .f32) (r : Fin 8192) (d : Fin 1536) : EReal :=
  gelu (P (ix2 r ⟨1536 + d, by omega⟩)) * Ideal.rsqrt (Ideal.div (∑ k : Fin 1536, gelu (P (ix2 r ⟨1536 + k, by omega⟩)) * gelu (P (ix2 r ⟨1536 + k, by omega⟩))) (Ideal.ofBits FTy.f32 0x44C00000#32) + Ideal.ofBits FTy.f32 0x358637BD#32) * G (ix2 1 d)

/-- The group that a column belongs to. -/
def grp (d : Fin 1536) : Fin 12 := ⟨d.val / 128, Nat.div_lt_of_lt_mul d.isLt⟩
/-- The position of a token within its chunk. -/
def pos (r : Fin 8192) : Fin 128 := ⟨r.val % 128, Nat.mod_lt _ (by decide)⟩
/-- The token at position `k` of the chunk of token `r`. -/
def mate (r : Fin 8192) (k : Fin 128) : Fin 8192 := ⟨r.val / 128 * 128 + k.val, by omega⟩

/-- The spatial gating unit, entry by entry: the gelu of the left half times the gate, mixed over the token's chunk with its group's matrix, plus the bias. -/
def REF (P : Vec Ideal S8192x3584 .bf16) (G : Vec Ideal S2x1536 .f32) (W : Vec Ideal S2x12x128x128 .f32) (B : Vec Ideal S2x12x128 .f32) : Vec Ideal S8192x1536 .bf16 := fun i =>
  gelu (P (ix2 (i 0) ⟨i 1, Nat.lt_trans (i 1).isLt (by decide)⟩)) * (∑ k : Fin 128, W (ix4 1 (grp (i 1)) (pos (i 0)) k) * vn P G (mate (i 0) k) (i 1) + B (ix3 1 (grp (i 1)) (pos (i 0))))

/-- The block that a grid point computes is the spatial gating unit at the rows of the block. -/
theorem point (c : Dev nD) (t : Fin cfg0.N) (y : S512x1536.Idx) (j : S8192x1536.Idx) (h0 : (j 0 : ℕ) = t.val * 512 + y 0) (h1 : (j 1 : ℕ) = y 1) :
    blk (X0_0 m c t) (X0_1 m c t) (iblk m c 2 t) (iblk m c 3 t) (iblk m c 4 t) y = REF (m ((c : Thread nD τ).loc main_arg0)) (m ((c : Thread nD τ).loc main_arg1)) (m ((c : Thread nD τ).loc main_arg2)) (m ((c : Thread nD τ).loc main_arg3)) j := by
  have e0 : (grp (j 1) : ℕ) = (j 1 : ℕ) / 128 := rfl
  have e1 : (pos (j 0) : ℕ) = (j 0 : ℕ) % 128 := rfl
  have e2 : ∀ k, (mate (j 0) k : ℕ) = (j 0 : ℕ) / 128 * 128 + k := fun k => rfl
  have hn : ∀ k : Fin 128, norm (X0_1 m c t) (iblk m c 2 t) (ix2 ⟨(y 0 : ℕ) / 128 * 128 + k, by have : (y 0 : ℕ) < 512 := (y 0).isLt; omega⟩ (y 1)) = vn (m ((c : Thread nD τ).loc main_arg0)) (m ((c : Thread nD τ).loc main_arg1)) (mate (j 0) k) (j 1) := by
    intro k
    have hr : ∀ d : Fin 1536, (show Vec Ideal S512x1536 .bf16 from X0_1 m c t) (ix2 ⟨(y 0 : ℕ) / 128 * 128 + k, by have : (y 0 : ℕ) < 512 := (y 0).isLt; omega⟩ d) = m ((c : Thread nD τ).loc main_arg0) (ix2 (mate (j 0) k) ⟨1536 + d, by omega⟩) :=
      fun d => right m c t _ d _ (by show (mate (j 0) k : ℕ) = _; rw [e2]; dsimp only; omega) rfl
    have hd : (y 1 : Fin 1536) = j 1 := Fin.ext h1.symm
    unfold norm vn
    refine congrArg₂ (· * ·) (congrArg₂ (· * ·) (congrArg gelu ((hr (y 1)).trans ?_)) (congrArg Ideal.rsqrt (congrArg (fun s => Ideal.div s _ + _) (Finset.sum_congr rfl fun l _ => congrArg₂ (fun a b => gelu a * gelu b) (hr l) (hr l))))) ?_
    · rw [hd]
    · blk_point [iblk, V, idx t]
  unfold blk REF
  refine congrArg₂ (· * ·) (congrArg gelu (left m c t y (ix2 (j 0) ⟨j 1, Nat.lt_trans (j 1).isLt (by decide)⟩) h0 h1)) (congrArg₂ (· + ·) (Finset.sum_congr rfl fun k _ => congrArg₂ (· * ·) ?_ (hn k)) ?_)
  · blk_point [iblk, V, idx t]
  · blk_point [iblk, V, idx t]

/-- The array that the kernel returns is the spatial gating unit. -/
theorem final (c : Dev nD) : (dats m 0 c).arrAt 5 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  unfold outsAt0
  rw [out]
  refine point m c t y _ ?_ ?_ <;> blk_simp [idx t] <;> omega

/-- The gelu of an array, entry by entry. -/
def gelus (X : Vec Ideal GmRefIdeal.S2x4096x1536 .f32) : Vec Ideal GmRefIdeal.S2x4096x1536 .f32 := fun i => gelu (X i)

/-- That array, read at an index. -/
theorem gelus_at (X : Vec Ideal GmRefIdeal.S2x4096x1536 .f32) (i : GmRefIdeal.S2x4096x1536.Idx) : gelus X i = gelu (X i) := rfl

/-- The reference's gelu, written with its broadcast constants, is the gelu of each entry. -/
theorem gelu_host (X : Vec Ideal GmRefIdeal.S2x4096x1536 .f32) : ∀ h1 h2 h3 h4,
    mulf X (mulf (broadcastInDim GmRefIdeal.S2x4096x1536 ![] h1 (constant (F := Ideal) GmRefIdeal.S_ FTy.f32 1056964608#32))
      (addf (broadcastInDim GmRefIdeal.S2x4096x1536 ![] h2 (constant (F := Ideal) GmRefIdeal.S_ FTy.f32 1065353216#32))
        (Host.tanh (mulf (broadcastInDim GmRefIdeal.S2x4096x1536 ![] h3 (constant (F := Ideal) GmRefIdeal.S_ FTy.f32 1061962282#32))
          (addf X (mulf (broadcastInDim GmRefIdeal.S2x4096x1536 ![] h4 (constant (F := Ideal) GmRefIdeal.S_ FTy.f32 1027024659#32)) (mulf (mulf X X) X))))))) = gelus X := by
  intro h1 h2 h3 h4
  funext i
  have e : X i * (X i * X i) = X i * X i * X i := (mul_assoc _ _ _).symm
  unfold gelus gelu
  rw [e]
  pointwise []

set_option maxHeartbeats 4000000 in
/-- The claim: from the same arguments the ideal kernel and the ideal reference return the same array. -/
theorem algebraic : Cert.algebraic_GmIdeal_GmRefIdeal := by
  pair_intro
  · run_from Cert.GmIdeal.Gen.run_main m g
  · hlo_run
    rw [final m c]
    erw [gelu_host, gelu_host]
    funext j
    have e0 : (grp (j 1) : ℕ) = (j 1 : ℕ) / 128 := rfl
    have e1 : (pos (j 0) : ℕ) = (j 0 : ℕ) % 128 := rfl
    have e2 : ∀ k, (mate (j 0) k : ℕ) = (j 0 : ℕ) / 128 * 128 + k := fun k => rfl
    pointwise [REF, vn]
    simp only [gelus_at]
    refine congrArg₂ (· * ·) ?_ (congrArg₂ (· + ·) (Finset.sum_congr rfl fun x _ => (mul_comm _ _).trans (congrArg₂ (· * ·) ?_ (congrArg₂ (· * ·) (congrArg₂ (· * ·) ?_ (congrArg Ideal.rsqrt (congrArg (fun s => Ideal.div s _ + _) (Finset.sum_congr rfl fun l _ => ?_)))) ?_))) ?_)
    · refine congrArg gelu ?_; pointwise []; blk_point []
    · blk_point []
    · refine congrArg gelu ?_; pointwise []; blk_point []; rw [e2]; omega
    · refine congrArg₂ (fun a b => gelu a * gelu b) ?_ ?_ <;> (pointwise []; blk_point []; rw [e2]; omega)
    · blk_point []
    · blk_point []
end Cert.GmIdeal.Value
end
-- ==== Proof.ProjValue.lean ====
module

public import proofs.«01_k».proof.Proof.Gen.ProjIdeal.Value
public import proofs.«01_k».proof.Proof.Gen.ProjRefIdeal.Run
public import proofs.«01_k».proof.Defs
public import Idealize.ShloMosaic.Lib.Pipeline.ValueKit
public import Idealize.ShloMosaic.Lib.Claim
public import Idealize.ShloMosaic.Lib.Pointwise

@[expose] public section

set_option maxRecDepth 16384

/-! The input projection of a spatial gating layer: RMS normalisation, then a product with the layer's weights. -/

noncomputable section

open Idealize.ShloMosaic Idealize.ShloMosaic.TcCoe Idealize.SL.Sem
open Idealize.ShloMosaic.Pipeline (Dat)

namespace Cert.ProjIdeal.Value
open Cert.ProjIdeal.Gen

/-- A block of rows, RMS normalised with the gains `g`. -/
def norm (x : Vec Ideal S1024x2048 .f32) (g : Vec Ideal S1x2048 .f32) : Vec Ideal S1024x2048 .bf16 := fun j =>
  x j * Ideal.rsqrt (Ideal.div (∑ k : Fin 2048, x (ix2 (j 0) k) * x (ix2 (j 0) k)) (Ideal.ofBits FTy.f32 0x45000000#32) + Ideal.ofBits FTy.f32 0x358637BD#32) * g (ix2 0 (j 1))

/-- What one trip of the normalising loop stores is the normalised block, read at the rows it stores. -/
theorem tripT (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x896 .f32) (harg4 : arg4.IsWhole) (arg5 : Memref sig .tc .vmem S1024x896 .bf16) (harg5 : arg5.IsWhole) (arg6 : Memref sig .tc .vmem S1024x2048 .bf16) (harg6 : arg6.IsWhole) (h1 : k0_cond1 i = 1#1) (x0 : Vec Ideal S1024x2048 .f32) (x1 : Vec Ideal S1x2048 .f32) (k : Fin k0_t1_loop.trips)
  (p : View.Piece (Elt Ideal) S1024x2048 .bf16) (hp : p ∈ tripL_k0_t1 (F := Ideal) Variants.none c none i arg2 harg2 arg3 harg3 arg4 harg4 arg5 harg5 arg6 harg6 h1 (harg2.unread x0) (harg3.unread x1) k) (x : p.1.shape.Idx) :
  p.2 x = norm x0 x1 (p.1.emb x) := by
  unfold tripL_k0_t1 trip_k0_t1 at hp
  dsimp only at hp
  rw [List.mem_singleton] at hp
  subst hp
  dsimp only
  rw [View.readAt_eq_ld, View.readAt_eq_ld]
  simp only [Memref.IsWhole.read_unread]
  unfold norm
  have e0 : ∀ k, k0_off1 k 1 = 0 := fun k => rfl
  pointwise [k0_pay1]
  blk_point
  all_goals simp only [e0, zero_add]

/-- After the first column block of a row block the scratch buffer holds the normalised rows. -/
theorem scr (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x896 .f32) (harg4 : arg4.IsWhole) (arg5 : Memref sig .tc .vmem S1024x896 .bf16) (harg5 : arg5.IsWhole) (arg6 : Memref sig .tc .vmem S1024x2048 .bf16) (harg6 : arg6.IsWhole) (hc0 : cond0_0 i) (hc1 : cond0_1 i)
    (x0 : Vec Ideal S1024x2048 .f32) (x1 : Vec Ideal S1x2048 .f32) (x2 : Vec Ideal S1x2048x896 .f32) :
   sout0_A_0 (F := Ideal) c i arg2 harg2 arg3 harg3 arg4 harg4 arg5 harg5 arg6 harg6 hc0 hc1 x0 x1 x2 = norm x0 x1 := by
  have hcov := scover0_A_0 (F := Ideal) c i arg2 harg2 arg3 harg3 arg4 harg4 arg5 harg5 arg6 harg6 hc0 hc1 x0 x1 x2
  funext y
  unfold sout0_A_0
  rw [View.read_writes_junk_eq_canon]
  refine View.canon_apply_of_pieces _ _ ?_ y (hcov y)
  clear hcov
  unfold kernelRun0_A
  dsimp only
  generalize Scf.trips (0#32) (Scalar.addi 0#32 4#32) 1#32 = n
  induction n with
  | zero => intro p hp; exact absurd hp List.not_mem_nil
  | succ n ih =>
    intro p hp x
    rw [pb_k0_t1.eq_2] at hp
    unfold pb_k0_t1Step at hp
    split at hp
    · rcases List.mem_append.mp hp with h | h
      · exact tripT c i arg2 harg2 arg3 harg3 arg4 harg4 arg5 harg5 arg6 harg6 hc0 x0 x1 _ p h x
      · exact ih p h x
    · exact ih p hp x

variable (m : (ℓ : Loc nD τ sig) → Buf (Elt Ideal) ℓ)

/-- The block that every window shows at a grid point, by its block coordinates. -/
theorem idx : ∀ t : Fin cfg0.N, win0_0.index t = ![t.val / 4, 0] ∧ win0_1.index t = ![0, 0] ∧ win0_2.index t = ![1, 0, t.val % 4]
    ∧ win0_3.index t = ![t.val / 4, t.val % 4] :=
  (by decide +kernel : ∀ t : Fin grid0.N, _)

/-- At every grid point the scratch buffer holds the normalised rows of the point's own row block. -/
theorem carried (c : Dev nD) : ∀ t : Fin cfg0.N, (outsAt0 m c t.val t.isLt).2 = norm (iblk m c 0 t) (iblk m c 1 t) := by
  rintro ⟨n, hn⟩
  induction n with
  | zero => rw [outsAt0_A m c ⟨0, hn⟩ rfl]; exact scr ..
  | succ n ih =>
    by_cases h : (n + 1) % 4 = 0
    · rw [outsAt0_A m c ⟨n + 1, hn⟩ h]; exact scr ..
    · rw [outsAt0_B m c ⟨n + 1, hn⟩ h]
      have ih := ih (Nat.lt_of_succ_lt hn)
      have i0 := idx ⟨n, Nat.lt_of_succ_lt hn⟩
      have i1 := idx ⟨n + 1, hn⟩
      have h0 : iblk m c 0 ⟨n, Nat.lt_of_succ_lt hn⟩ = iblk m c 0 ⟨n + 1, hn⟩ := by funext y; blk_ext [iblk, i0, i1]
      have h1 : iblk m c 1 ⟨n, Nat.lt_of_succ_lt hn⟩ = iblk m c 1 ⟨n + 1, hn⟩ := by funext y; blk_ext [iblk, i0, i1]
      rw [← h0, ← h1]
      exact ih

/-- The batch entry that a row of the flattened token axis belongs to. -/
def hi (r : Fin 8192) : Fin 2 := ⟨r.val / 4096, Nat.div_lt_of_lt_mul r.isLt⟩
/-- The position within its batch entry of a row of the flattened token axis. -/
def lo (r : Fin 8192) : Fin 4096 := ⟨r.val % 4096, Nat.mod_lt _ (by decide)⟩

/-- The batch entry as a number. -/
theorem hi_val (r : Fin 8192) : (hi r : ℕ) = r.val / 4096 := rfl
/-- The position as a number. -/
theorem lo_val (r : Fin 8192) : (lo r : ℕ) = r.val % 4096 := rfl

/-- RMS normalisation of a row `x` with gains `g`: each entry times the reciprocal root of the mean square plus epsilon, times its gain. -/
def rms (x : Fin 2048 → EReal) (g : Fin 2048 → EReal) (k : Fin 2048) : EReal :=
  x k * Ideal.rsqrt (Ideal.div (∑ l : Fin 2048, x l * x l) (Ideal.ofBits FTy.f32 0x45000000#32) + Ideal.ofBits FTy.f32 0x358637BD#32) * g k

/-- The projection, entry by entry: the normalised row of token `i 0` times column `i 1` of the weights. -/
def REF (X : Vec Ideal S2x4096x2048 .f32) (G : Vec Ideal S4x2048 .f32) (W : Vec Ideal S2x2048x3584 .f32) : Vec Ideal S8192x3584 .bf16 := fun i =>
  ∑ k : Fin 2048, rms (fun l => X (ix3 (hi (i 0)) (lo (i 0)) l)) (fun l => G (ix2 3 l)) k * W (ix3 1 k (i 1))

/-- The product that a grid point stores is the projection at the rows and columns of its block. -/
theorem point (c : Dev nD) (t : Fin cfg0.N) (y : S1024x896.Idx) (j : S8192x3584.Idx) (h0 : (j 0 : ℕ) = t.val / 4 * 1024 + y 0) (h1 : (j 1 : ℕ) = t.val % 4 * 896 + y 1) :
    k0_pay2 (F := Ideal) (iblk m c 2 t) (norm (iblk m c 0 t) (iblk m c 1 t)) y = REF (m ((c : Thread nD τ).loc main_arg0)) (m ((c : Thread nD τ).loc main_arg1)) (m ((c : Thread nD τ).loc main_arg2)) j := by
  have e0 : (hi (j 0) : ℕ) = (j 0 : ℕ) / 4096 := rfl
  have e1 : (lo (j 0) : ℕ) = (j 0 : ℕ) % 4096 := rfl
  pointwise [k0_pay2, norm, REF, rms]
  blk_point [iblk, V, idx t]

/-- The array that the kernel returns is the projection. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have key : (outsAt0 m c t.val t.isLt).1 = k0_pay2 (iblk m c 2 t) (norm (iblk m c 0 t) (iblk m c 1 t)) := by
    rw [← carried m c t]
    by_cases h : t.val % 4 = 0
    · rw [outsAt0_A m c t h]; dsimp only; frame_out
      exact congrArg (k0_pay2 _) ((View.readCov_eq_canon' _ _ _).trans (View.ld_unit_lit _ _ (by decide)))
    · rw [outsAt0_B m c t h]; dsimp only; frame_out
      exact congrArg (k0_pay2 _) (Memref.IsWhole.read_unread _ _)
  rw [key]
  refine point m c t y _ ?_ ?_ <;> blk_simp [idx t] <;> omega

/-- The claim: from the same arguments the ideal kernel and the ideal reference return the same array. -/
theorem algebraic : Cert.algebraic_ProjIdeal_ProjRefIdeal := by
  pair_intro
  · run_from Cert.ProjIdeal.Gen.run_main m g
  · hlo_run
    rw [final m c]
    funext j
    have e0 : (hi (j 0) : ℕ) = (j 0 : ℕ) / 4096 := rfl
    have e1 : (lo (j 0) : ℕ) = (j 0 : ℕ) % 4096 := rfl
    pointwise [REF, rms]
    blk_point []
end Cert.ProjIdeal.Value
end
-- ==== Proof.KvValue.lean ====
module

public import proofs.«01_k».proof.Proof.Gen.KvIdeal.Value
public import proofs.«01_k».proof.Proof.Gen.KvRefIdeal.Run
public import proofs.«01_k».proof.Defs
public import Idealize.ShloMosaic.Lib.Pipeline.ValueKit
public import Idealize.ShloMosaic.Lib.Claim
public import Idealize.ShloMosaic.Lib.Pointwise

@[expose] public section

set_option maxRecDepth 16384

/-! The keys and values of the memory attention: RMS normalisation of the memory tokens, then a product with the layer's weights. -/

noncomputable section

open Idealize.ShloMosaic Idealize.ShloMosaic.TcCoe Idealize.SL.Sem
open Idealize.ShloMosaic.Pipeline (Dat)

namespace Cert.KvIdeal.Value
open Cert.KvIdeal.Gen

/-- A block of rows, RMS normalised with the gains `g`. -/
def norm (x : Vec Ideal S512x2048 .f32) (g : Vec Ideal S1x2048 .f32) : Vec Ideal S512x2048 .bf16 := fun j =>
  x j * Ideal.rsqrt (Ideal.div (∑ k : Fin 2048, x (ix2 (j 0) k) * x (ix2 (j 0) k)) (Ideal.ofBits FTy.f32 0x45000000#32) + Ideal.ofBits FTy.f32 0x358637BD#32) * g (ix2 0 (j 1))

/-- What one trip of the normalising loop stores is the normalised block, read at the rows it stores. -/
theorem tripT (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x512 .f32) (harg4 : arg4.IsWhole) (arg5 : Memref sig .tc .vmem S512x512 .bf16) (harg5 : arg5.IsWhole) (arg6 : Memref sig .tc .vmem S512x2048 .bf16) (harg6 : arg6.IsWhole) (h1 : k0_cond1 i = 1#1) (x0 : Vec Ideal S512x2048 .f32) (x1 : Vec Ideal S1x2048 .f32) (k : Fin k0_t1_loop.trips)
  (p : View.Piece (Elt Ideal) S512x2048 .bf16) (hp : p ∈ tripL_k0_t1 (F := Ideal) Variants.none c none i arg2 harg2 arg3 harg3 arg4 harg4 arg5 harg5 arg6 harg6 h1 (harg2.unread x0) (harg3.unread x1) k) (x : p.1.shape.Idx) :
  p.2 x = norm x0 x1 (p.1.emb x) := by
  unfold tripL_k0_t1 trip_k0_t1 at hp
  dsimp only at hp
  rw [List.mem_singleton] at hp
  subst hp
  dsimp only
  rw [View.readAt_eq_ld, View.readAt_eq_ld]
  simp only [Memref.IsWhole.read_unread]
  unfold norm
  have e0 : ∀ k, k0_off1 k 1 = 0 := fun k => rfl
  pointwise [k0_pay1]
  blk_point
  all_goals simp only [e0, zero_add]

/-- After the first column block of a row block the scratch buffer holds the normalised rows. -/
theorem scr (c : Dev nD) (i : grid0.Coords) (arg2 : Memref sig .tc .vmem S512x2048 .f32) (harg2 : arg2.IsWhole) (arg3 : Memref sig .tc .vmem S1x2048 .f32) (harg3 : arg3.IsWhole) (arg4 : Memref sig .tc .vmem S1x2048x512 .f32) (harg4 : arg4.IsWhole) (arg5 : Memref sig .tc .vmem S512x512 .bf16) (harg5 : arg5.IsWhole) (arg6 : Memref sig .tc .vmem S512x2048 .bf16) (harg6 : arg6.IsWhole) (hc0 : cond0_0 i) (hc1 : cond0_1 i)
    (x0 : Vec Ideal S512x2048 .f32) (x1 : Vec Ideal S1x2048 .f32) (x2 : Vec Ideal S1x2048x512 .f32) :
   sout0_A_0 (F := Ideal) c i arg2 harg2 arg3 harg3 arg4 harg4 arg5 harg5 arg6 harg6 hc0 hc1 x0 x1 x2 = norm x0 x1 := by
  have hcov := scover0_A_0 (F := Ideal) c i arg2 harg2 arg3 harg3 arg4 harg4 arg5 harg5 arg6 harg6 hc0 hc1 x0 x1 x2
  funext y
  unfold sout0_A_0
  rw [View.read_writes_junk_eq_canon]
  refine View.canon_apply_of_pieces _ _ ?_ y (hcov y)
  clear hcov
  unfold kernelRun0_A
  dsimp only
  generalize Scf.trips (0#32) (Scalar.addi 0#32 2#32) 1#32 = n
  induction n with
  | zero => intro p hp; exact absurd hp List.not_mem_nil
  | succ n ih =>
    intro p hp x
    rw [pb_k0_t1.eq_2] at hp
    unfold pb_k0_t1Step at hp
    split at hp
    · rcases List.mem_append.mp hp with h | h
      · exact tripT c i arg2 harg2 arg3 harg3 arg4 harg4 arg5 harg5 arg6 harg6 hc0 x0 x1 _ p h x
      · exact ih p h x
    · exact ih p hp x

variable (m : (ℓ : Loc nD τ sig) → Buf (Elt Ideal) ℓ)

/-- The block that every window shows at a grid point, by its block coordinates. -/
theorem idx : ∀ t : Fin cfg0.N, win0_0.index t = ![t.val / 2, 0] ∧ win0_1.index t = ![0, 0] ∧ win0_2.index t = ![3, 0, t.val % 2]
    ∧ win0_3.index t = ![t.val / 2, t.val % 2] :=
  (by decide +kernel : ∀ t : Fin grid0.N, _)

/-- At every grid point the scratch buffer holds the normalised rows of the point's own row block. -/
theorem carried (c : Dev nD) : ∀ t : Fin cfg0.N, (outsAt0 m c t.val t.isLt).2 = norm (iblk m c 0 t) (iblk m c 1 t) := by
  rintro ⟨n, hn⟩
  induction n with
  | zero => rw [outsAt0_A m c ⟨0, hn⟩ rfl]; exact scr ..
  | succ n ih =>
    by_cases h : (n + 1) % 2 = 0
    · rw [outsAt0_A m c ⟨n + 1, hn⟩ h]; exact scr ..
    · rw [outsAt0_B m c ⟨n + 1, hn⟩ h]
      have ih := ih (Nat.lt_of_succ_lt hn)
      have i0 := idx ⟨n, Nat.lt_of_succ_lt hn⟩
      have i1 := idx ⟨n + 1, hn⟩
      have h0 : iblk m c 0 ⟨n, Nat.lt_of_succ_lt hn⟩ = iblk m c 0 ⟨n + 1, hn⟩ := by funext y; blk_ext [iblk, i0, i1]
      have h1 : iblk m c 1 ⟨n, Nat.lt_of_succ_lt hn⟩ = iblk m c 1 ⟨n + 1, hn⟩ := by funext y; blk_ext [iblk, i0, i1]
      rw [← h0, ← h1]
      exact ih

/-- The batch entry that a row of the flattened token axis belongs to. -/
def hi (r : Fin 512) : Fin 2 := ⟨r.val / 256, Nat.div_lt_of_lt_mul r.isLt⟩
/-- The position within its batch entry of a row of the flattened token axis. -/
def lo (r : Fin 512) : Fin 256 := ⟨r.val % 256, Nat.mod_lt _ (by decide)⟩

/-- The batch entry as a number. -/
theorem hi_val (r : Fin 512) : (hi r : ℕ) = r.val / 256 := rfl
/-- The position as a number. -/
theorem lo_val (r : Fin 512) : (lo r : ℕ) = r.val % 256 := rfl

/-- RMS normalisation of a row `x` with gains `g`: each entry times the reciprocal root of the mean square plus epsilon, times its gain. -/
def rms (x : Fin 2048 → EReal) (g : Fin 2048 → EReal) (k : Fin 2048) : EReal :=
  x k * Ideal.rsqrt (Ideal.div (∑ l : Fin 2048, x l * x l) (Ideal.ofBits FTy.f32 0x45000000#32) + Ideal.ofBits FTy.f32 0x358637BD#32) * g k

/-- The keys and values, entry by entry: the normalised memory token `i 0` times column `i 1` of the weights. -/
def REF (X : Vec Ideal S2x256x2048 .f32) (G : Vec Ideal S2048 .f32) (W : Vec Ideal S4x2048x1024 .f32) : Vec Ideal S512x1024 .bf16 := fun i =>
  ∑ k : Fin 2048, rms (fun l => X (ix3 (hi (i 0)) (lo (i 0)) l)) (fun l => G (ix1 l)) k * W (ix3 3 k (i 1))

/-- The product that a grid point stores is the projection at the rows and columns of its block. -/
theorem point (c : Dev nD) (t : Fin cfg0.N) (y : S512x512.Idx) (j : S512x1024.Idx) (h0 : (j 0 : ℕ) = t.val / 2 * 512 + y 0) (h1 : (j 1 : ℕ) = t.val % 2 * 512 + y 1) :
    k0_pay2 (F := Ideal) (iblk m c 2 t) (norm (iblk m c 0 t) (iblk m c 1 t)) y = REF (m ((c : Thread nD τ).loc main_arg0)) (m ((c : Thread nD τ).loc main_arg1)) (m ((c : Thread nD τ).loc main_arg2)) j := by
  have e0 : (hi (j 0) : ℕ) = (j 0 : ℕ) / 256 := rfl
  have e1 : (lo (j 0) : ℕ) = (j 0 : ℕ) % 256 := rfl
  pointwise [k0_pay2, norm, REF, rms]
  blk_point [iblk, V, idx t]

/-- The array that the kernel returns is the projection. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  have key : (outsAt0 m c t.val t.isLt).1 = k0_pay2 (iblk m c 2 t) (norm (iblk m c 0 t) (iblk m c 1 t)) := by
    rw [← carried m c t]
    by_cases h : t.val % 2 = 0
    · rw [outsAt0_A m c t h]; dsimp only; frame_out
      exact congrArg (k0_pay2 _) ((View.readCov_eq_canon' _ _ _).trans (View.ld_unit_lit _ _ (by decide)))
    · rw [outsAt0_B m c t h]; dsimp only; frame_out
      exact congrArg (k0_pay2 _) (Memref.IsWhole.read_unread _ _)
  rw [key]
  refine point m c t y _ ?_ ?_ <;> blk_simp [idx t] <;> omega

/-- The claim: from the same arguments the ideal kernel and the ideal reference return the same array. -/
theorem algebraic : Cert.algebraic_KvIdeal_KvRefIdeal := by
  pair_intro
  · run_from Cert.KvIdeal.Gen.run_main m g
  · hlo_run
    rw [final m c]
    funext j
    have e0 : (hi (j 0) : ℕ) = (j 0 : ℕ) / 256 := rfl
    have e1 : (lo (j 0) : ℕ) = (j 0 : ℕ) % 256 := rfl
    pointwise [REF, rms]
    blk_point []
end Cert.KvIdeal.Value
end
-- ==== Proof.OutValue.lean ====
module

public import proofs.«01_k».proof.Proof.Gen.OutIdeal.Value
public import proofs.«01_k».proof.Proof.Gen.OutRefIdeal.Run
public import Idealize.ShloMosaic.Lib.Pipeline.ValueKit
public import proofs.«01_k».proof.Defs
public import Idealize.ShloMosaic.Lib.Claim
public import Idealize.ShloMosaic.Lib.Pointwise

@[expose] public section

set_option maxRecDepth 16384

/-! The output projection: the mixer's output and the memory attention's output, side by side, times the weights, added to the residual stream. -/

noncomputable section

open Idealize.ShloMosaic Idealize.ShloMosaic.TcCoe Idealize.SL.Sem
open Idealize.ShloMosaic.Pipeline (Dat)

namespace Cert.OutIdeal.Value
open Cert.OutIdeal.Gen

variable (m : (ℓ : Loc nD τ sig) → Buf (Elt Ideal) ℓ)

/-- The block that every window shows at a grid point, by its block coordinates. -/
theorem idx : ∀ t : Fin cfg0.N, win0_0.index t = ![t.val, 0] ∧ win0_1.index t = ![t.val, 0] ∧ win0_2.index t = ![t.val, 0]
    ∧ win0_3.index t = ![3, 0, 0] ∧ win0_4.index t = ![3, 3, 0] ∧ win0_5.index t = ![t.val, 0] :=
  (by decide +kernel : ∀ t : Fin grid0.N, _)

/-- The block of the mixer's part of the weights, read at an index. -/
theorem top (c : Dev nD) (t : Fin cfg0.N) (k : Fin 1536) (j : Fin 2048) (i : S4x2048x2048.Idx) (h0 : (i 0 : ℕ) = 3) (h1 : (i 1 : ℕ) = k) (h2 : (i 2 : ℕ) = j) :
    (show Vec Ideal S1x1536x2048 .f32 from X0_3 m c t) (ix3 0 k j) = (m ((c : Thread nD τ).loc main_arg3)) i := by
  show X0_3 m c t (ix3 0 k j) = _
  unfold X0_3 Pipeline.Window.fill
  rw [dif_pos (moved0_3 t _)]
  blk_ext [iblk, V, idx t]

/-- The mixer's part of the weights is the same at every grid point. -/
theorem top_same (c : Dev nD) (t u : Fin cfg0.N) : k0_pay1 (F := Ideal) (X0_3 m c t) = k0_pay1 (F := Ideal) (X0_3 m c u) := by
  funext y
  pointwise [k0_pay1]
  exact (top m c t _ _ (ix3 3 ⟨y 0, by have : (y 0 : ℕ) < 1536 := (y 0).isLt; omega⟩ (y 1)) rfl rfl rfl).trans (top m c u _ _ _ rfl rfl rfl).symm

/-- The memory attention's part of the weights is the same at every grid point. -/
theorem bot_same (c : Dev nD) (t u : Fin cfg0.N) : k0_pay2 (F := Ideal) (iblk m c 4 t) = k0_pay2 (F := Ideal) (iblk m c 4 u) := by
  have i0 := idx t
  have i1 := idx u
  exact congrArg k0_pay2 (by funext y; blk_ext [iblk, i0, i1])

/-- At every grid point the two scratch buffers hold the two parts of the weights. -/
theorem carried (c : Dev nD) : ∀ t : Fin cfg0.N, (outsAt0 m c t.val t.isLt).2 = (k0_pay1 (F := Ideal) (X0_3 m c t), k0_pay2 (F := Ideal) (iblk m c 4 t)) := by
  have hA : ∀ t : Fin cfg0.N, t.val % 16 = 0 → (outsAt0 m c t.val t.isLt).2 = (k0_pay1 (F := Ideal) (X0_3 m c t), k0_pay2 (F := Ideal) (iblk m c 4 t)) := fun t h => by
    rw [outsAt0_A m c t h]
    dsimp only
    refine Prod.ext ?_ ?_ <;> dsimp only <;> frame_out
  rintro ⟨n, hn⟩
  induction n with
  | zero => exact hA ⟨0, hn⟩ rfl
  | succ n ih =>
    by_cases h : (n + 1) % 16 = 0
    · exact hA ⟨n + 1, hn⟩ h
    · rw [outsAt0_B m c ⟨n + 1, hn⟩ h]
      have ih := ih (Nat.lt_of_succ_lt hn)
      rw [top_same m c ⟨n + 1, hn⟩ ⟨n, Nat.lt_of_succ_lt hn⟩, bot_same m c ⟨n + 1, hn⟩ ⟨n, Nat.lt_of_succ_lt hn⟩]
      exact ih

/-- The batch entry that a row of the flattened token axis belongs to. -/
def hi (r : Fin 8192) : Fin 2 := ⟨r.val / 4096, Nat.div_lt_of_lt_mul r.isLt⟩
/-- The position within its batch entry of a row of the flattened token axis. -/
def lo (r : Fin 8192) : Fin 4096 := ⟨r.val % 4096, Nat.mod_lt _ (by decide)⟩

/-- The result, entry by entry: the residual stream plus the mixer's and the memory attention's outputs times their rows of the weights. -/
def REF (H : Vec Ideal S2x4096x2048 .f32) (X : Vec Ideal S8192x1536 .bf16) (Y : Vec Ideal S8192x512 .bf16) (W : Vec Ideal S4x2048x2048 .f32) : Vec Ideal S8192x2048 .f32 := fun i =>
  H (ix3 (hi (i 0)) (lo (i 0)) (i 1)) + (∑ k : Fin 1536, X (ix2 (i 0) k) * W (ix3 3 ⟨k, by omega⟩ (i 1)) + ∑ k : Fin 512, Y (ix2 (i 0) k) * W (ix3 3 ⟨1536 + k, by omega⟩ (i 1)))

/-- The block that a grid point stores is the result at the rows of the block. -/
theorem point (c : Dev nD) (t : Fin cfg0.N) (y : S512x2048.Idx) (j : S8192x2048.Idx) (h0 : (j 0 : ℕ) = t.val * 512 + y 0) (h1 : (j 1 : ℕ) = y 1) :
    k0_pay3 (F := Ideal) (iblk m c 1 t) (k0_pay1 (X0_3 m c t)) (iblk m c 2 t) (k0_pay2 (iblk m c 4 t)) (iblk m c 0 t) y = REF (m ((c : Thread nD τ).loc main_arg0)) (m ((c : Thread nD τ).loc main_arg1)) (m ((c : Thread nD τ).loc main_arg2)) (m ((c : Thread nD τ).loc main_arg3)) j := by
  have e0 : (hi (j 0) : ℕ) = (j 0 : ℕ) / 4096 := rfl
  have e1 : (lo (j 0) : ℕ) = (j 0 : ℕ) % 4096 := rfl
  have hw : ∀ k : Fin 1536, (show Vec Ideal S1x1536x2048 .f32 from X0_3 m c t) (ix3 0 k (y 1)) = (m ((c : Thread nD τ).loc main_arg3)) (ix3 3 ⟨k, by omega⟩ (j 1)) :=
    fun k => top m c t k (y 1) _ rfl rfl h1
  pointwise [k0_pay1, k0_pay2, k0_pay3, REF]
  simp only [hw]
  blk_point [iblk, V, idx t]

/-- The array that the kernel returns is the result. -/
theorem final (c : Dev nD) : (dats m 0 c).arrAt 5 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  have key : (outsAt0 m c t.val t.isLt).1 = k0_pay3 (F := Ideal) (iblk m c 1 t) (k0_pay1 (X0_3 m c t)) (iblk m c 2 t) (k0_pay2 (iblk m c 4 t)) (iblk m c 0 t) := by
    by_cases h : t.val % 16 = 0
    · rw [outsAt0_A m c t h]; dsimp only; frame_out
    · have hc := carried m c ⟨t.val - 1, Nat.lt_of_le_of_lt (Nat.sub_le _ _) t.isLt⟩
      rw [outsAt0_B m c t h]; dsimp only; frame_out
      dsimp only at hc
      rw [hc, top_same m c _ t, bot_same m c _ t]
      exact congrArg₂ (fun a b => k0_pay3 (F := Ideal) (iblk m c 1 t) a (iblk m c 2 t) b (iblk m c 0 t)) (Memref.IsWhole.read_unread _ _) (Memref.IsWhole.read_unread _ _)
  rw [key]
  refine point m c t y _ ?_ ?_ <;> blk_simp [idx t] <;> omega

/-- The claim: from the same arguments the ideal kernel and the ideal reference return the same array. -/
theorem algebraic : Cert.algebraic_OutIdeal_OutRefIdeal := by
  pair_intro
  · run_from Cert.OutIdeal.Gen.run_main m g
  · hlo_run
    rw [final m c]
    have a1 : ∀ i, m' (c.tc.loc Cert.OutRefIdeal.main_arg1) i = m (c.tc.loc main_arg1) i := fun i => congrFun (hagree c).2.1 i
    have a2 : ∀ i, m' (c.tc.loc Cert.OutRefIdeal.main_arg2) i = m (c.tc.loc main_arg2) i := fun i => congrFun (hagree c).2.2.1 i
    funext j
    have e0 : (hi (j 0) : ℕ) = (j 0 : ℕ) / 4096 := rfl
    have e1 : (lo (j 0) : ℕ) = (j 0 : ℕ) % 4096 := rfl
    pointwise [REF]
    simp only [a1, a2]
    blk_point []
end Cert.OutIdeal.Value
end
-- ==== Proof.FfnValue.lean ====
module

public import proofs.«01_k».proof.Proof.Gen.FfnIdeal.Value
public import proofs.«01_k».proof.Proof.Gen.FfnRefIdeal.Run
public import Idealize.ShloMosaic.Lib.Pipeline.ValueKit
public import proofs.«01_k».proof.Defs
public import Idealize.ShloMosaic.Lib.Claim
public import Idealize.ShloMosaic.Lib.Pointwise

@[expose] public section

set_option maxRecDepth 16384

/-! The feed-forward part with the final norm: RMS normalisation, a product, the squared positive part, a second product accumulated over blocks of hidden units onto the residual stream, and the final RMS normalisation. -/

noncomputable section

open Idealize.ShloMosaic Idealize.ShloMosaic.TcCoe Idealize.SL.Sem
open Idealize.ShloMosaic.Pipeline (Dat)

namespace Cert.FfnIdeal.Value
open Cert.FfnIdeal.Gen

/-- A block of rows, RMS normalised with the gains `g`. -/
def norm (x : Vec Ideal S1024x2048 .f32) (g : Vec Ideal S1x2048 .f32) : Vec Ideal S1024x2048 .f32 := fun j =>
  x j * Ideal.rsqrt (Ideal.div (∑ k : Fin 2048, x (ix2 (j 0) k) * x (ix2 (j 0) k)) (Ideal.ofBits FTy.f32 0x45000000#32) + Ideal.ofBits FTy.f32 0x358637BD#32) * g (ix2 0 (j 1))

/-- The first row of a trip of the loop that normalises the input. -/
theorem off1_0 : ∀ k : Fin k0_t1_loop.trips, k0_off1 k 0 = 256 * k.val := by decide +kernel
/-- That loop takes whole rows. -/
theorem off1_1 : ∀ k : Fin k0_t1_loop.trips, k0_off1 k 1 = 0 := by decide +kernel
/-- The first row of a trip of the loop that normalises the result. -/
theorem off2_0 : ∀ k : Fin k0_t2_loop.trips, k0_off2 k 0 = 256 * k.val := by decide +kernel
/-- That loop takes whole rows, too. -/
theorem off2_1 : ∀ k : Fin k0_t2_loop.trips, k0_off2 k 1 = 0 := by decide +kernel

/-- A value that a list of stores leaves at an index: that of the newest store where it covers the index, and else that of the older stores. -/
theorem canon_cons_apply {S : Shape} {e : EltTy} (p : View.Piece (Elt Ideal) S e) (L : List (View.Piece (Elt Ideal) S e)) (y : S.Idx) (v : Elt Ideal e)
    (h1 : ∀ x, p.1.emb x = y → p.2 x = v) (h2 : y ∉ p.1.set → View.canon L y = v) : View.canon (p :: L) y = v := by
  by_cases hm : y ∈ p.1.set
  · obtain ⟨x, rfl⟩ := p.1.exists_idx_of_mem hm
    rw [show p.1.idx x = p.1.emb x from rfl, View.canon_cons_emb]
    exact h1 x rfl
  · rw [View.canon_cons_of_not_mem _ _ hm]
    exact h2 hm

/-- A row below the end of a band of 256 rows but outside the band lies below its start. -/
theorem row_lt (off : Fin 2 → ℕ) (inb) (n : ℕ) (o0 : off 0 = 256 * n) (o1 : off 1 = 0) (y : S1024x2048.Idx) (hm : y ∉ (Rect.unit (s := S1024x2048) off ![256, 2048] inb).set) (h : (y 0 : ℕ) < 256 * (n + 1)) : (y 0 : ℕ) < 256 * n := by
  by_contra hlt
  refine hm (Rect.mem_set_unit.mpr fun a => ?_)
  have h1 : (y 1 : ℕ) < 2048 := (y 1).isLt
  match a with
  | 0 => exact ⟨by rw [o0]; omega, by rw [o0]; show _ < _ + 256; omega⟩
  | 1 => exact ⟨by rw [o1]; omega, by rw [o1]; show _ < _ + 2048; omega⟩

/-- The rows of a band lie between its start and its end. -/
theorem emb_row (off : Fin 2 → ℕ) (inb) (n : ℕ) (o0 : off 0 = 256 * n) (x : (Rect.unit (s := S1024x2048) off ![256, 2048] inb).shape.Idx) :
    256 * n ≤ ((Rect.unit (s := S1024x2048) off ![256, 2048] inb).emb x 0 : ℕ) ∧ ((Rect.unit (s := S1024x2048) off ![256, 2048] inb).emb x 0 : ℕ) < 256 * (n + 1) := by
  have hx : (x 0 : ℕ) < 256 := (x 0).isLt
  have e : ((Rect.unit (s := S1024x2048) off ![256, 2048] inb).emb x 0 : ℕ) = off 0 + 1 * (x 0 : ℕ) := rfl
  omega

section loops
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .bf16) (harg8 : arg8.IsWhole)

/-- After `n` trips of the first loop the result holds the input rows and the scratch buffer the normalised ones, as far as the trips went. -/
theorem first (hc0 : cond0_0 i) (x0 : Vec Ideal S1024x2048 .f32) (x1 : Vec Ideal S1x2048 .f32) (n : ℕ) (hn : n ≤ k0_t1_loop.trips) (y : S1024x2048.Idx) (hy : (y 0 : ℕ) < 256 * n) :
    View.canon (pb_k0_t1 (F := Ideal) Variants.none c none i arg2 harg2 arg3 harg3 arg4 harg4 arg5 harg5 arg6 harg6 arg7 harg7 arg8 harg8 hc0 (harg2.unread x0) (harg3.unread x1) n).1 y = x0 y
    ∧ View.canon (pb_k0_t1 (F := Ideal) Variants.none c none i arg2 harg2 arg3 harg3 arg4 harg4 arg5 harg5 arg6 harg6 arg7 harg7 arg8 harg8 hc0 (harg2.unread x0) (harg3.unread x1) n).2 y = norm x0 x1 y := by
  induction n generalizing y with
  | zero => omega
  | succ n ih =>
    rw [pb_k0_t1.eq_2]
    unfold pb_k0_t1Step
    have hk : n < k0_t1_loop.trips := by omega
    rw [dif_pos hk]
    dsimp only
    unfold trip_k0_t1
    dsimp only
    rw [List.singleton_append, List.singleton_append]
    have o0 := off1_0 ⟨n, hk⟩
    have o1 := off1_1 ⟨n, hk⟩
    constructor
    · refine canon_cons_apply _ _ _ _ (fun x hx => ?_) (fun hm => (ih (by omega) y (row_lt _ (k0_off1_inb i ⟨n, hk⟩ hc0) _ o0 o1 y hm hy)).1)
      subst hx
      dsimp only
      rw [View.readAt_eq_ld]
      simp only [Memref.IsWhole.read_unread]
      pointwise [k0_pay1]
      blk_point
    · refine canon_cons_apply _ _ _ _ (fun x hx => ?_) (fun hm => (ih (by omega) y (row_lt _ (k0_off1_inb i ⟨n, hk⟩ hc0) _ o0 o1 y hm hy)).2)
      subst hx
      dsimp only
      rw [View.readAt_eq_ld, View.readAt_eq_ld]
      simp only [Memref.IsWhole.read_unread]
      unfold norm
      pointwise [k0_pay2, k0_pay1]
      blk_point
      all_goals simp only [off1_1, zero_add]

/-- After `n` trips of the last loop the result holds normalised rows as far as the trips went and is unchanged beyond. -/
theorem last (hc1 : cond0_1 i) (x4 : Vec Ideal S1x2048 .f32) (v : Vec Ideal S1024x2048 .f32) (inb) (n : ℕ) (hn : n ≤ k0_t2_loop.trips) (y : S1024x2048.Idx) :
    View.canon (pb_k0_t2 (F := Ideal) Variants.none c none i arg2 harg2 arg3 harg3 arg4 harg4 arg5 harg5 arg6 harg6 arg7 harg7 arg8 harg8 hc1 (harg6.unread x4) (arg7.view.writes (Elt Ideal) arg7.view.junk [⟨Rect.unit ![0, 0] ![1024, 2048] inb, v⟩]) n
      ++ [⟨Rect.unit ![0, 0] ![1024, 2048] inb, v⟩]) y = if (y 0 : ℕ) < 256 * n then norm v x4 y else v y := by
  induction n generalizing y with
  | zero =>
    rw [if_neg (by omega), pb_k0_t2.eq_1, List.nil_append]
    exact congrFun (View.canon_cons_unit_lit _ _ _ (by decide)) y
  | succ n ih =>
    rw [pb_k0_t2.eq_2]
    unfold pb_k0_t2Step
    have hk : n < k0_t2_loop.trips := by omega
    rw [dif_pos hk]
    unfold tripL_k0_t2 trip_k0_t2
    dsimp only
    rw [List.singleton_append, List.cons_append]
    have o0 := off2_0 ⟨n, hk⟩
    have o1 := off2_1 ⟨n, hk⟩
    dsimp only at o0
    refine canon_cons_apply _ _ _ _ (fun x hx => ?_) (fun hm => (ih (by omega) y).trans ?_)
    · subst hx
      have hx := emb_row _ (k0_off2_inb i ⟨n, hk⟩ hc1) n o0 x
      rw [if_pos hx.2]
      dsimp only
      rw [View.readAt_eq_ld, View.readAt_eq_ld]
      simp only [Memref.IsWhole.read_unread]
      rw [← View.writes_append, View.read_writes_junk_eq_canon]
      have hrow : ∀ z : (Rect.unit (s := S1024x2048) (k0_off2 ⟨n, hk⟩) ![256, 2048] (k0_off2_inb i ⟨n, hk⟩ hc1)).shape.Idx, View.ld (View.canon (pb_k0_t2 (F := Ideal) Variants.none c none i arg2 harg2 arg3 harg3 arg4 harg4 arg5 harg5 arg6 harg6 arg7 harg7 arg8 harg8 hc1 (harg6.unread x4) (arg7.view.writes (Elt Ideal) arg7.view.junk [⟨Rect.unit ![0, 0] ![1024, 2048] inb, v⟩]) n
          ++ [⟨Rect.unit ![0, 0] ![1024, 2048] inb, v⟩])) (Rect.unit (s := S1024x2048) (k0_off2 ⟨n, hk⟩) ![256, 2048] (k0_off2_inb i ⟨n, hk⟩ hc1)) z
          = View.ld v (Rect.unit (s := S1024x2048) (k0_off2 ⟨n, hk⟩) ![256, 2048] (k0_off2_inb i ⟨n, hk⟩ hc1)) z := fun z =>
        (ih (by omega) _).trans (if_neg (Nat.not_lt.mpr (emb_row _ (k0_off2_inb i ⟨n, hk⟩ hc1) n o0 z).1))
      rw [funext hrow]
      unfold norm
      pointwise [k0_pay4]
      blk_point
      all_goals simp only [off2_1, zero_add]
    · have hlt : ((y 0 : ℕ) < 256 * n) = ((y 0 : ℕ) < 256 * (n + 1)) :=
        propext ⟨fun h => by omega, fun h => row_lt _ (k0_off2_inb i ⟨n, hk⟩ hc1) _ o0 o1 y hm h⟩
      simp only [hlt]

variable (x0 : Vec Ideal S1024x2048 .f32) (x1 : Vec Ideal S1x2048 .f32) (x2 : Vec Ideal S1x2048x512 .f32) (x3 : Vec Ideal S1x512x2048 .f32) (x4 : Vec Ideal S1x2048 .f32)

/-- After the first hidden block of a row block the scratch buffer holds the normalised rows. -/
theorem scr (hc0 : cond0_0 i) (hc1 : ¬cond0_1 i) : sout0_A_0 (F := Ideal) c i arg2 harg2 arg3 harg3 arg4 harg4 arg5 harg5 arg6 harg6 arg7 harg7 arg8 harg8 hc0 hc1 x0 x1 x2 x3 x4 = norm x0 x1 := by
  funext y
  unfold sout0_A_0
  rw [View.read_writes_junk_eq_canon]
  exact (first c i arg2 harg2 arg3 harg3 arg4 harg4 arg5 harg5 arg6 harg6 arg7 harg7 arg8 harg8 hc0 x0 x1 k0_t1_loop.trips le_rfl y (by have : (y 0 : ℕ) < 1024 := (y 0).isLt; exact this)).2

/-- At the first hidden block the result block is the input rows plus the block's contribution. -/
theorem outA (hc0 : cond0_0 i) (hc1 : ¬cond0_1 i) : out0_A_5 (F := Ideal) c i arg2 harg2 arg3 harg3 arg4 harg4 arg5 harg5 arg6 harg6 arg7 harg7 arg8 harg8 hc0 hc1 x0 x1 x2 x3 x4 = k0_pay3 (norm x0 x1) x2 x0 x3 := by
  frame_out
  have e (y : S1024x2048.Idx) := first c i arg2 harg2 arg3 harg3 arg4 harg4 arg5 harg5 arg6 harg6 arg7 harg7 arg8 harg8 hc0 x0 x1 k0_t1_loop.trips le_rfl y (by have : (y 0 : ℕ) < 1024 := (y 0).isLt; exact this)
  exact congrArg₂ (fun a b => k0_pay3 a x2 b x3)
    (((View.readCov_eq_canon' _ _ _).trans (View.ld_unit_lit _ _ (by decide))).trans (funext fun y => (e y).2))
    (((View.readCov_eq_canon' _ _ _).trans (View.ld_unit_lit _ _ (by decide))).trans (funext fun y => (e y).1))

variable (xo5 : Vec Ideal S1024x2048 .f32) (xs0 : Vec Ideal S1024x2048 .bf16)

/-- At a later hidden block the contribution is added to what the result block held. -/
theorem outB (hc0 : ¬cond0_0 i) (hc1 : ¬cond0_1 i) : out0_B_5 (F := Ideal) c i arg2 harg2 arg3 harg3 arg4 harg4 arg5 harg5 arg6 harg6 arg7 harg7 arg8 harg8 hc0 hc1 x0 x1 x2 x3 x4 xo5 xs0 = k0_pay3 xs0 x2 xo5 x3 := by
  frame_out

/-- At the last hidden block the contribution is added and the sum then normalised with the final gains. -/
theorem outC (hc0 : ¬cond0_0 i) (hc1 : cond0_1 i) : out0_C_5 (F := Ideal) c i arg2 harg2 arg3 harg3 arg4 harg4 arg5 harg5 arg6 harg6 arg7 harg7 arg8 harg8 hc0 hc1 x0 x1 x2 x3 x4 xo5 xs0 = norm (k0_pay3 xs0 x2 xo5 x3) x4 := by
  frame_out
  funext y
  refine (last c i arg2 harg2 arg3 harg3 arg4 harg4 arg5 harg5 arg6 harg6 arg7 harg7 arg8 harg8 hc1 x4 (k0_pay3 xs0 x2 xo5 x3) _ k0_t2_loop.trips le_rfl y).trans (if_pos ?_)
  have : (y 0 : ℕ) < 1024 := (y 0).isLt
  exact this
end loops
variable (m : (ℓ : Loc nD τ sig) → Buf (Elt Ideal) ℓ)

/-- The block that every window shows at a grid point, by its block coordinates. -/
theorem idx : ∀ t : Fin cfg0.N, win0_0.index t = ![t.val / 16, 0] ∧ win0_1.index t = ![0, 0] ∧ win0_2.index t = ![3, 0, t.val % 16]
    ∧ win0_3.index t = ![3, t.val % 16, 0] ∧ win0_4.index t = ![0, 0] ∧ win0_5.index t = ![t.val / 16, 0] :=
  (by decide +kernel : ∀ t : Fin grid0.N, _)

/-- At every grid point the scratch buffer holds the normalised rows of the point's own row block. -/
theorem carried (c : Dev nD) : ∀ t : Fin cfg0.N, (outsAt0 m c t.val t.isLt).2 = norm (iblk m c 0 t) (iblk m c 1 t) := by
  rintro ⟨n, hn⟩
  induction n with
  | zero => rw [outsAt0_A m c ⟨0, hn⟩ rfl (by show ¬(0 % 16 = 15); decide)]; exact scr ..
  | succ n ih =>
    have hN : n + 1 < 128 := lt_of_lt_of_eq hn N_0
    by_cases h : (n + 1) % 16 = 0
    · rw [outsAt0_A m c ⟨n + 1, hn⟩ h (by dsimp only; omega)]; exact scr ..
    · have ih := ih (Nat.lt_of_succ_lt hn)
      have i0 := idx ⟨n, Nat.lt_of_succ_lt hn⟩
      have i1 := idx ⟨n + 1, hn⟩
      have h0 : iblk m c 0 ⟨n, Nat.lt_of_succ_lt hn⟩ = iblk m c 0 ⟨n + 1, hn⟩ := by funext y; blk_ext [iblk, i0, i1]
      have h1 : iblk m c 1 ⟨n, Nat.lt_of_succ_lt hn⟩ = iblk m c 1 ⟨n + 1, hn⟩ := by funext y; blk_ext [iblk, i0, i1]
      rw [← h0, ← h1]
      by_cases h' : (n + 1) % 16 = 15
      · rw [outsAt0_C m c ⟨n + 1, hn⟩ h h']; exact ih
      · rw [outsAt0_B m c ⟨n + 1, hn⟩ h h']; exact ih

/-- What one block of 512 hidden units contributes to an entry of the result. -/
def part (c : Dev nD) (t : Fin cfg0.N) (y : S1024x2048.Idx) : EReal :=
  ∑ k : Fin 512, max (∑ l : Fin 2048, norm (iblk m c 0 t) (iblk m c 1 t) (ix2 (y 0) l) * (show Vec Ideal S1x2048x512 .f32 from iblk m c 2 t) (ix3 0 l k)) 0
    * max (∑ l : Fin 2048, norm (iblk m c 0 t) (iblk m c 1 t) (ix2 (y 0) l) * (show Vec Ideal S1x2048x512 .f32 from iblk m c 2 t) (ix3 0 l k)) 0
    * (show Vec Ideal S1x512x2048 .f32 from iblk m c 3 t) (ix3 0 k (y 1))

/-- The stored value of a grid point: the old value plus the block's contribution. -/
theorem pay (n : Vec Ideal S1024x2048 .f32) (w1 : Vec Ideal S1x2048x512 .f32) (a : Vec Ideal S1024x2048 .f32) (w2 : Vec Ideal S1x512x2048 .f32) (y) :
    k0_pay3 (F := Ideal) n w1 a w2 y = a y + ∑ k : Fin 512, max (∑ l : Fin 2048, n (ix2 (y 0) l) * w1 (ix3 0 l k)) 0 * max (∑ l : Fin 2048, n (ix2 (y 0) l) * w1 (ix3 0 l k)) 0 * w2 (ix3 0 k (y 1)) := by
  pointwise [k0_pay3]

/-- The accumulated sum after grid point `n`, before the final normalisation. -/
def acc (c : Dev nD) (n : ℕ) (hn : n < cfg0.N) : S1024x2048.Idx → EReal :=
  if n % 16 = 15 then k0_pay3 (F := Ideal) (norm (iblk m c 0 ⟨n, hn⟩) (iblk m c 1 ⟨n, hn⟩)) (iblk m c 2 ⟨n, hn⟩) (outsAt0 m c (n - 1) (Nat.lt_of_le_of_lt (Nat.sub_le _ _) hn)).1 (iblk m c 3 ⟨n, hn⟩)
  else (outsAt0 m c n hn).1

/-- The point before a point that is not the first of its run has the same rows and gains. -/
theorem same (c : Dev nD) (t : Fin cfg0.N) (h : ¬t.val % 16 = 0) :
    norm (iblk m c 0 ⟨t.val - 1, Nat.lt_of_le_of_lt (Nat.sub_le _ _) t.isLt⟩) (iblk m c 1 ⟨t.val - 1, Nat.lt_of_le_of_lt (Nat.sub_le _ _) t.isLt⟩)
      = norm (iblk m c 0 t) (iblk m c 1 t) := by
  have i0 := idx ⟨t.val - 1, Nat.lt_of_le_of_lt (Nat.sub_le _ _) t.isLt⟩
  have i1 := idx t
  have h0 : iblk m c 0 ⟨t.val - 1, Nat.lt_of_le_of_lt (Nat.sub_le _ _) t.isLt⟩ = iblk m c 0 t := by funext y; blk_ext [iblk, i0, i1]
  have h1 : iblk m c 1 ⟨t.val - 1, Nat.lt_of_le_of_lt (Nat.sub_le _ _) t.isLt⟩ = iblk m c 1 t := by funext y; blk_ext [iblk, i0, i1]
  rw [h0, h1]

/-- At the first point of a run the sum is the input row plus the first contribution. -/
theorem acc_reset (c : Dev nD) (t : Fin cfg0.N) (h : t.val % 16 = 0) (y) : acc m c t.val t.isLt y = (show Vec Ideal S1024x2048 .f32 from iblk m c 0 t) y + part m c t y := by
  have h' : ¬t.val % 16 = 15 := by omega
  unfold acc
  rw [if_neg h', outsAt0_A m c t h h']
  dsimp only
  rw [outA]
  exact pay _ _ _ _ y

/-- At every other point one more contribution is added. -/
theorem acc_step (c : Dev nD) (t : Fin cfg0.N) (h : ¬t.val % 16 = 0) (y) :
    acc m c t.val t.isLt y = acc m c (t.val - 1) (Nat.lt_of_le_of_lt (Nat.sub_le _ _) t.isLt) y + part m c t y := by
  have hp : acc m c (t.val - 1) (Nat.lt_of_le_of_lt (Nat.sub_le _ _) t.isLt) = (outsAt0 m c (t.val - 1) (Nat.lt_of_le_of_lt (Nat.sub_le _ _) t.isLt)).1 := by
    unfold acc
    exact if_neg (by omega)
  rw [hp]
  unfold acc
  by_cases h' : t.val % 16 = 15
  · rw [if_pos h']
    exact pay _ _ _ _ y
  · rw [if_neg h', outsAt0_B m c t h h']
    dsimp only
    rw [outB, carried m c ⟨t.val - 1, Nat.lt_of_le_of_lt (Nat.sub_le _ _) t.isLt⟩, same m c t h]
    exact pay _ _ _ _ y

/-- At the end of a run the sum is the input row plus all sixteen contributions. -/
theorem acc_sum (c : Dev nD) (t : Fin cfg0.N) (h : t.val % 16 = 15) (y) :
    acc m c t.val t.isLt y = (show Vec Ideal S1024x2048 .f32 from iblk m c 0 t) y
      + ∑ s : Fin 16, part m c ⟨16 * (t.val / 16) + s.val, Pipeline.run_point_lt_of_flush t h s⟩ y := by
  have e := Pipeline.eq_sum_fin_of_reset_step_apply_of_flush (fun n h => acc m c n h) 16 (fun _ => (0 : EReal))
    (fun u y => (if u.val % 16 = 0 then (show Vec Ideal S1024x2048 .f32 from iblk m c 0 u) y else 0) + part m c u y)
    (fun u hu y => by rw [if_pos hu, zero_add]; exact acc_reset m c u hu y)
    (fun u hu y => by rw [if_neg hu, zero_add]; exact acc_step m c u hu y) t h y
  rw [e, zero_add, Finset.sum_add_distrib]
  refine congrArg (· + _) ?_
  rw [Finset.sum_eq_single (0 : Fin 16)]
  · rw [if_pos (by simp)]
    have i0 := idx ⟨16 * (t.val / 16) + (0 : Fin 16).val, Pipeline.run_point_lt_of_flush t h 0⟩
    have i1 := idx t
    blk_ext [iblk, i0, i1]
  · intro s _ hs
    refine if_neg fun h0 => hs (Fin.ext ?_)
    have := s.isLt
    show s.val = 0
    dsimp only at h0
    omega
  · exact fun h => absurd (Finset.mem_univ _) h

/-- The batch entry that a row of the flattened token axis belongs to. -/
def hi (r : Fin 8192) : Fin 2 := ⟨r.val / 4096, Nat.div_lt_of_lt_mul r.isLt⟩
/-- The position within its batch entry of a row of the flattened token axis. -/
def lo (r : Fin 8192) : Fin 4096 := ⟨r.val % 4096, Nat.mod_lt _ (by decide)⟩

/-- RMS normalisation of a row `x` with gains `g`: each entry times the reciprocal root of the mean square plus epsilon, times its gain. -/
def rms (x : Fin 2048 → EReal) (g : Fin 2048 → EReal) (k : Fin 2048) : EReal :=
  x k * Ideal.rsqrt (Ideal.div (∑ l : Fin 2048, x l * x l) (Ideal.ofBits FTy.f32 0x45000000#32) + Ideal.ofBits FTy.f32 0x358637BD#32) * g k

/-- A hidden unit before squaring: the positive part of the normalised row times a column of the first weights. -/
def hid (x : Fin 2048 → EReal) (W : Vec Ideal S4x2048x8192 .f32) (k : Fin 8192) : EReal := max (∑ l : Fin 2048, x l * W (ix3 3 l k)) 0

/-- The residual stream after the feed-forward part, before the final norm. -/
def RES (X : Vec Ideal S2x4096x2048 .f32) (G : Vec Ideal S4x2048 .f32) (W1 : Vec Ideal S4x2048x8192 .f32) (W2 : Vec Ideal S4x8192x2048 .f32) (r : Fin 8192) (d : Fin 2048) : EReal :=
  X (ix3 (hi r) (lo r) d) + ∑ k : Fin 8192,
    hid (rms (fun l => X (ix3 (hi r) (lo r) l)) (fun l => G (ix2 3 l))) W1 k * hid (rms (fun l => X (ix3 (hi r) (lo r) l)) (fun l => G (ix2 3 l))) W1 k * W2 (ix3 3 k d)

/-- The result: the residual stream after the feed-forward part, normalised with the final gains. -/
def REF (X : Vec Ideal S2x4096x2048 .f32) (G : Vec Ideal S4x2048 .f32) (W1 : Vec Ideal S4x2048x8192 .f32) (W2 : Vec Ideal S4x8192x2048 .f32) (GF : Vec Ideal S2048 .f32) : Vec Ideal S8192x2048 .f32 := fun i =>
  rms (RES X G W1 W2 (i 0)) (fun l => GF (ix1 l)) (i 1)

/-- The sum at the end of a run is the residual stream after the feed-forward part at the run's rows. -/
theorem point (c : Dev nD) (t : Fin cfg0.N) (h : t.val % 16 = 15) (y : S1024x2048.Idx) (j : S8192x2048.Idx) (h0 : (j 0 : ℕ) = t.val / 16 * 1024 + y 0) (h1 : (j 1 : ℕ) = y 1) :
    acc m c t.val t.isLt y = RES (m ((c : Thread nD τ).loc main_arg0)) (m ((c : Thread nD τ).loc main_arg1)) (m ((c : Thread nD τ).loc main_arg2)) (m ((c : Thread nD τ).loc main_arg3)) (j 0) (j 1) := by
  have e0 : (hi (j 0) : ℕ) = (j 0 : ℕ) / 4096 := rfl
  have e1 : (lo (j 0) : ℕ) = (j 0 : ℕ) % 4096 := rfl
  rw [acc_sum m c t h]
  unfold RES part
  refine congrArg₂ (· + ·) ?_ ?_
  · blk_point [iblk, V, idx t]
  · refine Fin.sum_mul_add_congr fun s k hl => ?_
    unfold hid rms norm
    pointwise []
    blk_point [iblk, V, idx ⟨_, Pipeline.run_point_lt_of_flush t h s⟩]

/-- The block stored at the end of a run is the result at the run's rows. -/
theorem lastpoint (c : Dev nD) (t : Fin cfg0.N) (h : t.val % 16 = 15) (y : S1024x2048.Idx) (j : S8192x2048.Idx) (h0 : (j 0 : ℕ) = t.val / 16 * 1024 + y 0) (h1 : (j 1 : ℕ) = y 1) :
    norm (acc m c t.val t.isLt) (iblk m c 4 t) y = REF (m ((c : Thread nD τ).loc main_arg0)) (m ((c : Thread nD τ).loc main_arg1)) (m ((c : Thread nD τ).loc main_arg2)) (m ((c : Thread nD τ).loc main_arg3)) (m ((c : Thread nD τ).loc main_arg4)) j := by
  have row : ∀ l : Fin 2048, acc m c t.val t.isLt (ix2 (y 0) l) = RES (m ((c : Thread nD τ).loc main_arg0)) (m ((c : Thread nD τ).loc main_arg1)) (m ((c : Thread nD τ).loc main_arg2)) (m ((c : Thread nD τ).loc main_arg3)) (j 0) l := fun l => point m c t h (ix2 (y 0) l) (ix2 (j 0) l) h0 rfl
  unfold norm REF rms
  rw [point m c t h y j h0 h1]
  simp only [row]
  refine congrArg₂ (· * ·) rfl ?_
  blk_point [iblk, V, idx t]

/-- The array that the kernel returns is the result. -/
theorem final (c : Dev nD) : (dats m 0 c).arrAt 5 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  have h : t.val % 16 = 15 := (flush0_5 t).mp hf
  blk_simp
  rw [after0_5, outsAt0_C m c t (by omega) h]
  dsimp only
  rw [outC, carried m c ⟨t.val - 1, Nat.lt_of_le_of_lt (Nat.sub_le _ _) t.isLt⟩, same m c t (by omega)]
  have e : acc m c t.val t.isLt = k0_pay3 (F := Ideal) (norm (iblk m c 0 t) (iblk m c 1 t)) (iblk m c 2 t) (outsAt0 m c (t.val - 1) (Nat.lt_of_le_of_lt (Nat.sub_le _ _) t.isLt)).1 (iblk m c 3 t) := by
    unfold acc
    exact if_pos h
  refine (congrArg (fun a => norm a (iblk m c 4 t) y) e.symm).trans (lastpoint m c t h y _ ?_ ?_) <;> blk_simp [idx t] <;> omega

/-- The claim: from the same arguments the ideal kernel and the ideal reference return the same array. -/
theorem algebraic : Cert.algebraic_FfnIdeal_FfnRefIdeal := by
  pair_intro
  · run_from Cert.FfnIdeal.Gen.run_main m g
  · hlo_run
    rw [final m c]
    simp only [StableHlo.TRef.toBuf, StableHlo.TRef.ofBuf, cast_eq]
    funext j
    have e0 : (hi (j 0) : ℕ) = (j 0 : ℕ) / 4096 := rfl
    have e1 : (lo (j 0) : ℕ) = (j 0 : ℕ) % 4096 := rfl
    pointwise [REF, rms, RES, hid]
    blk_point []
end Cert.FfnIdeal.Value
end
-- ==== Proof.FfnMidValue.lean ====
module

public import proofs.«01_k».proof.Proof.FfnValue
public import proofs.«01_k».proof.Proof.Gen.FfnMidIdeal.Value
public import proofs.«01_k».proof.Proof.Gen.FfnMidRefIdeal.Run
public import Idealize.ShloMosaic.Lib.Pipeline.ValueKit
public import proofs.«01_k».proof.Defs
public import Idealize.ShloMosaic.Lib.Claim
public import Idealize.ShloMosaic.Lib.Pointwise

@[expose] public section

set_option maxRecDepth 16384

/-! The feed-forward part of a layer that is not the last: RMS normalisation, a product, the squared positive part, and a second product accumulated over blocks of hidden units onto the residual stream. -/

noncomputable section

open Idealize.ShloMosaic Idealize.ShloMosaic.TcCoe Idealize.SL.Sem
open Idealize.ShloMosaic.Pipeline (Dat)

namespace Cert.FfnMidIdeal.Value
open Cert.FfnMidIdeal.Gen
open Cert.FfnIdeal.Value (canon_cons_apply)

/-- A block of rows, RMS normalised with the gains `g`. -/
def norm (x : Vec Ideal S1024x2048 .f32) (g : Vec Ideal S1x2048 .f32) : Vec Ideal S1024x2048 .f32 := fun j =>
  x j * Ideal.rsqrt (Ideal.div (∑ k : Fin 2048, x (ix2 (j 0) k) * x (ix2 (j 0) k)) (Ideal.ofBits FTy.f32 0x45000000#32) + Ideal.ofBits FTy.f32 0x358637BD#32) * g (ix2 0 (j 1))

/-- The first row of a trip of the loop. -/
theorem off1_0 : ∀ k : Fin k0_t1_loop.trips, k0_off1 k 0 = 256 * k.val := by decide +kernel
/-- A trip takes whole rows. -/
theorem off1_1 : ∀ k : Fin k0_t1_loop.trips, k0_off1 k 1 = 0 := by decide +kernel
/-- A row below the end of a band of 256 rows but outside the band lies below its start. -/
theorem row_lt (off : Fin 2 → ℕ) (inb) (n : ℕ) (o0 : off 0 = 256 * n) (o1 : off 1 = 0) (y : S1024x2048.Idx) (hm : y ∉ (Rect.unit (s := S1024x2048) off ![256, 2048] inb).set) (h : (y 0 : ℕ) < 256 * (n + 1)) : (y 0 : ℕ) < 256 * n := by
  by_contra hlt
  refine hm (Rect.mem_set_unit.mpr fun a => ?_)
  have h1 : (y 1 : ℕ) < 2048 := (y 1).isLt
  match a with
  | 0 => exact ⟨by rw [o0]; omega, by rw [o0]; show _ < _ + 256; omega⟩
  | 1 => exact ⟨by rw [o1]; omega, by rw [o1]; show _ < _ + 2048; omega⟩

section loops
variable (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1x2048x512 .f32) (harg4 : arg4.IsWhole) (arg5 : Memref sig .tc .vmem S1x512x2048 .f32) (harg5 : arg5.IsWhole) (arg6 : Memref sig .tc .vmem S1x2048 .f32) (harg6 : arg6.IsWhole) (arg7 : Memref sig .tc .vmem S1024x2048 .f32) (harg7 : arg7.IsWhole) (arg8 : Memref sig .tc .vmem S1024x2048 .bf16) (harg8 : arg8.IsWhole)

/-- After `n` trips of the loop the result holds the input rows and the scratch buffer the normalised ones, as far as the trips went. -/
theorem first (hc0 : cond0_0 i) (x0 : Vec Ideal S1024x2048 .f32) (x1 : Vec Ideal S1x2048 .f32) (n : ℕ) (hn : n ≤ k0_t1_loop.trips) (y : S1024x2048.Idx) (hy : (y 0 : ℕ) < 256 * n) :
    View.canon (pb_k0_t1 (F := Ideal) Variants.none c none i arg2 harg2 arg3 harg3 arg4 harg4 arg5 harg5 arg6 harg6 arg7 harg7 arg8 harg8 hc0 (harg2.unread x0) (harg3.unread x1) n).1 y = x0 y
    ∧ View.canon (pb_k0_t1 (F := Ideal) Variants.none c none i arg2 harg2 arg3 harg3 arg4 harg4 arg5 harg5 arg6 harg6 arg7 harg7 arg8 harg8 hc0 (harg2.unread x0) (harg3.unread x1) n).2 y = norm x0 x1 y := by
  induction n generalizing y with
  | zero => omega
  | succ n ih =>
    rw [pb_k0_t1.eq_2]
    unfold pb_k0_t1Step
    have hk : n < k0_t1_loop.trips := by omega
    rw [dif_pos hk]
    dsimp only
    unfold trip_k0_t1
    dsimp only
    rw [List.singleton_append, List.singleton_append]
    have o0 := off1_0 ⟨n, hk⟩
    have o1 := off1_1 ⟨n, hk⟩
    constructor
    · refine canon_cons_apply _ _ _ _ (fun x hx => ?_) (fun hm => (ih (by omega) y (row_lt _ (k0_off1_inb i ⟨n, hk⟩ hc0) _ o0 o1 y hm hy)).1)
      subst hx
      dsimp only
      rw [View.readAt_eq_ld]
      simp only [Memref.IsWhole.read_unread]
      pointwise []
      blk_point
    · refine canon_cons_apply _ _ _ _ (fun x hx => ?_) (fun hm => (ih (by omega) y (row_lt _ (k0_off1_inb i ⟨n, hk⟩ hc0) _ o0 o1 y hm hy)).2)
      subst hx
      dsimp only
      rw [View.readAt_eq_ld, View.readAt_eq_ld]
      simp only [Memref.IsWhole.read_unread]
      unfold norm
      pointwise [k0_pay1]
      blk_point
      all_goals simp only [off1_1, zero_add]

variable (x0 : Vec Ideal S1024x2048 .f32) (x1 : Vec Ideal S1x2048 .f32) (x2 : Vec Ideal S1x2048x512 .f32) (x3 : Vec Ideal S1x512x2048 .f32) (x4 : Vec Ideal S1x2048 .f32)

/-- After the first hidden block of a row block the scratch buffer holds the normalised rows. -/
theorem scr (hc0 : cond0_0 i) : sout0_A_0 (F := Ideal) c i arg2 harg2 arg3 harg3 arg4 harg4 arg5 harg5 arg6 harg6 arg7 harg7 arg8 harg8 hc0 x0 x1 x2 x3 x4 = norm x0 x1 := by
  funext y
  unfold sout0_A_0
  rw [View.read_writes_junk_eq_canon]
  exact (first c i arg2 harg2 arg3 harg3 arg4 harg4 arg5 harg5 arg6 harg6 arg7 harg7 arg8 harg8 hc0 x0 x1 k0_t1_loop.trips le_rfl y (by have : (y 0 : ℕ) < 1024 := (y 0).isLt; exact this)).2

/-- At the first hidden block the result block is the input rows plus the block's contribution. -/
theorem outA (hc0 : cond0_0 i) : out0_A_5 (F := Ideal) c i arg2 harg2 arg3 harg3 arg4 harg4 arg5 harg5 arg6 harg6 arg7 harg7 arg8 harg8 hc0 x0 x1 x2 x3 x4 = k0_pay2 (norm x0 x1) x2 x0 x3 := by
  frame_out
  have e (y : S1024x2048.Idx) := first c i arg2 harg2 arg3 harg3 arg4 harg4 arg5 harg5 arg6 harg6 arg7 harg7 arg8 harg8 hc0 x0 x1 k0_t1_loop.trips le_rfl y (by have : (y 0 : ℕ) < 1024 := (y 0).isLt; exact this)
  exact congrArg₂ (fun a b => k0_pay2 a x2 b x3)
    (((View.readCov_eq_canon' _ _ _).trans (View.ld_unit_lit _ _ (by decide))).trans (funext fun y => (e y).2))
    (((View.readCov_eq_canon' _ _ _).trans (View.ld_unit_lit _ _ (by decide))).trans (funext fun y => (e y).1))

variable (xo5 : Vec Ideal S1024x2048 .f32) (xs0 : Vec Ideal S1024x2048 .bf16)

/-- At a later hidden block the contribution is added to what the result block held. -/
theorem outB (hc0 : ¬cond0_0 i) : out0_B_5 (F := Ideal) c i arg2 harg2 arg3 harg3 arg4 harg4 arg5 harg5 arg6 harg6 arg7 harg7 arg8 harg8 hc0 x0 x1 x2 x3 x4 xo5 xs0 = k0_pay2 xs0 x2 xo5 x3 := by
  frame_out

end loops
variable (m : (ℓ : Loc nD τ sig) → Buf (Elt Ideal) ℓ)

/-- The block that every window shows at a grid point, by its block coordinates. -/
theorem idx : ∀ t : Fin cfg0.N, win0_0.index t = ![t.val / 16, 0] ∧ win0_1.index t = ![0, 0] ∧ win0_2.index t = ![0, 0, t.val % 16]
    ∧ win0_3.index t = ![0, t.val % 16, 0] ∧ win0_4.index t = ![0, 0] ∧ win0_5.index t = ![t.val / 16, 0] :=
  (by decide +kernel : ∀ t : Fin grid0.N, _)

/-- At every grid point the scratch buffer holds the normalised rows of the point's own row block. -/
theorem carried (c : Dev nD) : ∀ t : Fin cfg0.N, (outsAt0 m c t.val t.isLt).2 = norm (iblk m c 0 t) (iblk m c 1 t) := by
  rintro ⟨n, hn⟩
  induction n with
  | zero => rw [outsAt0_A m c ⟨0, hn⟩ rfl]; exact scr ..
  | succ n ih =>
    have hN : n + 1 < 128 := lt_of_lt_of_eq hn N_0
    by_cases h : (n + 1) % 16 = 0
    · rw [outsAt0_A m c ⟨n + 1, hn⟩ h]; exact scr ..
    · have ih := ih (Nat.lt_of_succ_lt hn)
      have i0 := idx ⟨n, Nat.lt_of_succ_lt hn⟩
      have i1 := idx ⟨n + 1, hn⟩
      have h0 : iblk m c 0 ⟨n, Nat.lt_of_succ_lt hn⟩ = iblk m c 0 ⟨n + 1, hn⟩ := by funext y; blk_ext [iblk, i0, i1]
      have h1 : iblk m c 1 ⟨n, Nat.lt_of_succ_lt hn⟩ = iblk m c 1 ⟨n + 1, hn⟩ := by funext y; blk_ext [iblk, i0, i1]
      rw [← h0, ← h1, outsAt0_B m c ⟨n + 1, hn⟩ h]
      exact ih

/-- What one block of 512 hidden units contributes to an entry of the result. -/
def part (c : Dev nD) (t : Fin cfg0.N) (y : S1024x2048.Idx) : EReal :=
  ∑ k : Fin 512, max (∑ l : Fin 2048, norm (iblk m c 0 t) (iblk m c 1 t) (ix2 (y 0) l) * (show Vec Ideal S1x2048x512 .f32 from iblk m c 2 t) (ix3 0 l k)) 0
    * max (∑ l : Fin 2048, norm (iblk m c 0 t) (iblk m c 1 t) (ix2 (y 0) l) * (show Vec Ideal S1x2048x512 .f32 from iblk m c 2 t) (ix3 0 l k)) 0
    * (show Vec Ideal S1x512x2048 .f32 from iblk m c 3 t) (ix3 0 k (y 1))

/-- The stored value of a grid point: the old value plus the block's contribution. -/
theorem pay (n : Vec Ideal S1024x2048 .f32) (w1 : Vec Ideal S1x2048x512 .f32) (a : Vec Ideal S1024x2048 .f32) (w2 : Vec Ideal S1x512x2048 .f32) (y) :
    k0_pay2 (F := Ideal) n w1 a w2 y = a y + ∑ k : Fin 512, max (∑ l : Fin 2048, n (ix2 (y 0) l) * w1 (ix3 0 l k)) 0 * max (∑ l : Fin 2048, n (ix2 (y 0) l) * w1 (ix3 0 l k)) 0 * w2 (ix3 0 k (y 1)) := by
  pointwise [k0_pay2]

/-- The accumulated sum after grid point `n`. -/
def acc (c : Dev nD) (n : ℕ) (hn : n < cfg0.N) : S1024x2048.Idx → EReal := (outsAt0 m c n hn).1

/-- The point before a point that is not the first of its run has the same rows and gains. -/
theorem same (c : Dev nD) (t : Fin cfg0.N) (h : ¬t.val % 16 = 0) :
    norm (iblk m c 0 ⟨t.val - 1, Nat.lt_of_le_of_lt (Nat.sub_le _ _) t.isLt⟩) (iblk m c 1 ⟨t.val - 1, Nat.lt_of_le_of_lt (Nat.sub_le _ _) t.isLt⟩)
      = norm (iblk m c 0 t) (iblk m c 1 t) := by
  have i0 := idx ⟨t.val - 1, Nat.lt_of_le_of_lt (Nat.sub_le _ _) t.isLt⟩
  have i1 := idx t
  have h0 : iblk m c 0 ⟨t.val - 1, Nat.lt_of_le_of_lt (Nat.sub_le _ _) t.isLt⟩ = iblk m c 0 t := by funext y; blk_ext [iblk, i0, i1]
  have h1 : iblk m c 1 ⟨t.val - 1, Nat.lt_of_le_of_lt (Nat.sub_le _ _) t.isLt⟩ = iblk m c 1 t := by funext y; blk_ext [iblk, i0, i1]
  rw [h0, h1]

/-- At the first point of a run the sum is the input row plus the first contribution. -/
theorem acc_reset (c : Dev nD) (t : Fin cfg0.N) (h : t.val % 16 = 0) (y) : acc m c t.val t.isLt y = (show Vec Ideal S1024x2048 .f32 from iblk m c 0 t) y + part m c t y := by
  unfold acc
  rw [outsAt0_A m c t h]
  dsimp only
  rw [outA]
  exact pay _ _ _ _ y

/-- At every other point one more contribution is added. -/
theorem acc_step (c : Dev nD) (t : Fin cfg0.N) (h : ¬t.val % 16 = 0) (y) :
    acc m c t.val t.isLt y = acc m c (t.val - 1) (Nat.lt_of_le_of_lt (Nat.sub_le _ _) t.isLt) y + part m c t y := by
  unfold acc
  rw [outsAt0_B m c t h]
  dsimp only
  rw [outB, carried m c ⟨t.val - 1, Nat.lt_of_le_of_lt (Nat.sub_le _ _) t.isLt⟩, same m c t h]
  exact pay _ _ _ _ y

/-- At the end of a run the sum is the input row plus all sixteen contributions. -/
theorem acc_sum (c : Dev nD) (t : Fin cfg0.N) (h : t.val % 16 = 15) (y) :
    acc m c t.val t.isLt y = (show Vec Ideal S1024x2048 .f32 from iblk m c 0 t) y
      + ∑ s : Fin 16, part m c ⟨16 * (t.val / 16) + s.val, Pipeline.run_point_lt_of_flush t h s⟩ y := by
  have e := Pipeline.eq_sum_fin_of_reset_step_apply_of_flush (fun n h => acc m c n h) 16 (fun _ => (0 : EReal))
    (fun u y => (if u.val % 16 = 0 then (show Vec Ideal S1024x2048 .f32 from iblk m c 0 u) y else 0) + part m c u y)
    (fun u hu y => by rw [if_pos hu, zero_add]; exact acc_reset m c u hu y)
    (fun u hu y => by rw [if_neg hu, zero_add]; exact acc_step m c u hu y) t h y
  rw [e, zero_add, Finset.sum_add_distrib]
  refine congrArg (· + _) ?_
  rw [Finset.sum_eq_single (0 : Fin 16)]
  · rw [if_pos (by simp)]
    have i0 := idx ⟨16 * (t.val / 16) + (0 : Fin 16).val, Pipeline.run_point_lt_of_flush t h 0⟩
    have i1 := idx t
    blk_ext [iblk, i0, i1]
  · intro s _ hs
    refine if_neg fun h0 => hs (Fin.ext ?_)
    have := s.isLt
    show s.val = 0
    dsimp only at h0
    omega
  · exact fun h => absurd (Finset.mem_univ _) h

/-- RMS normalisation of a row `x` with gains `g`: each entry times the reciprocal root of the mean square plus epsilon, times its gain. -/
def rms (x : Fin 2048 → EReal) (g : Fin 2048 → EReal) (k : Fin 2048) : EReal :=
  x k * Ideal.rsqrt (Ideal.div (∑ l : Fin 2048, x l * x l) (Ideal.ofBits FTy.f32 0x45000000#32) + Ideal.ofBits FTy.f32 0x358637BD#32) * g k

/-- A hidden unit before squaring: the positive part of the normalised row times a column of the first weights. -/
def hid (x : Fin 2048 → EReal) (W : Vec Ideal S4x2048x8192 .f32) (k : Fin 8192) : EReal := max (∑ l : Fin 2048, x l * W (ix3 0 l k)) 0

/-- The residual stream after the feed-forward part. -/
def RES (X : Vec Ideal S8192x2048 .f32) (G : Vec Ideal S4x2048 .f32) (W1 : Vec Ideal S4x2048x8192 .f32) (W2 : Vec Ideal S4x8192x2048 .f32) (r : Fin 8192) (d : Fin 2048) : EReal :=
  X (ix2 r d) + ∑ k : Fin 8192,
    hid (rms (fun l => X (ix2 r l)) (fun l => G (ix2 0 l))) W1 k * hid (rms (fun l => X (ix2 r l)) (fun l => G (ix2 0 l))) W1 k * W2 (ix3 0 k d)

/-- The sum at the end of a run is the residual stream after the feed-forward part at the run's rows. -/
theorem point (c : Dev nD) (t : Fin cfg0.N) (h : t.val % 16 = 15) (y : S1024x2048.Idx) (j : S8192x2048.Idx) (h0 : (j 0 : ℕ) = t.val / 16 * 1024 + y 0) (h1 : (j 1 : ℕ) = y 1) :
    acc m c t.val t.isLt y = RES (m ((c : Thread nD τ).loc main_arg0)) (m ((c : Thread nD τ).loc main_arg1)) (m ((c : Thread nD τ).loc main_arg2)) (m ((c : Thread nD τ).loc main_arg3)) (j 0) (j 1) := by
  rw [acc_sum m c t h]
  unfold RES part
  refine congrArg₂ (· + ·) ?_ ?_
  · blk_point [iblk, V, idx t]
  · refine Fin.sum_mul_add_congr fun s k hl => ?_
    unfold hid rms norm
    pointwise []
    blk_point [iblk, V, idx ⟨_, Pipeline.run_point_lt_of_flush t h s⟩]

/-- The array that the kernel returns is the residual stream after the feed-forward part. -/
theorem final (c : Dev nD) : (dats m 0 c).arrAt 5 (cfgs 0).N = fun j : S8192x2048.Idx => RES (m ((c : Thread nD τ).loc main_arg0)) (m ((c : Thread nD τ).loc main_arg1)) (m ((c : Thread nD τ).loc main_arg2)) (m ((c : Thread nD τ).loc main_arg3)) (j 0) (j 1) := by
  refine (dats m 0 c).arrAt_eq_of_covers 5 _ (by decide +kernel) fun t hf y => ?_
  have h : t.val % 16 = 15 := (flush0_5 t).mp hf
  blk_simp
  rw [after0_5]
  refine point m c t h y _ ?_ ?_ <;> blk_simp [idx t] <;> omega

/-- The claim: from the same arguments the ideal kernel and the ideal reference return the same array. -/
theorem algebraic : Cert.algebraic_FfnMidIdeal_FfnMidRefIdeal := by
  pair_intro
  · run_from Cert.FfnMidIdeal.Gen.run_main m g
  · hlo_run
    rw [final m c]
    simp only [StableHlo.TRef.toBuf, StableHlo.TRef.ofBuf, cast_eq]
    funext j
    pointwise [rms, RES, hid]
    blk_point []
end Cert.FfnMidIdeal.Value
end
-- ==== Proof.DnProjBody.lean ====
/- The projection call of the delta rule layers, over any float values: what its body leaves in each of its three cases, and from that
   the run of the whole launch and the frame. A row block has nine grid points: eight store blocks of the main result, the
   first of them after normalising the rows into the scratch buffer, and the ninth stores the tail result. -/
module

public import proofs.«01_k».proof.Proof.Gen.DnProjIdeal.Frame
public import proofs.«01_k».proof.Proof.Gen.DnProjIdeal.Skeleton
public import proofs.«01_k».proof.Proof.Gen.DnProjIdeal.Loops
public import Idealize.ShloMosaic.Lib.Pipeline.ValueKit
public import Idealize.ShloMosaic.Lib.Pointwise

@[expose] public section

set_option maxRecDepth 16384

noncomputable section

namespace Cert.DnProjIdeal.Body

open Cert.DnProjIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-- Part `q` of a block's 1024 rows: the 256 rows that one trip of the normalising loop takes. -/
def part (x : Vec F S1024x2048 .f32) (q : ℕ) (h : q < 4) : Vec F S256x2048 .f32 := fun i =>
  x (ix2 ⟨q * 256 + i 0, by have : (i 0 : ℕ) < 256 := (i 0).isLt; omega⟩ (i 1))

/-- What the kernel keeps in its scratch buffer for a block of 1024 rows: every row normalised by the loop's own
    arithmetic, on the part of 256 rows that holds it. -/
def normed (x : Vec F S1024x2048 .f32) (g : Vec F S1x2048 .f32) : Vec F S1024x2048 .bf16 := fun j =>
  k0_pay1 (part x ((j 0 : ℕ) / 256) (Nat.div_lt_of_lt_mul (j 0).isLt)) g (ix2 ⟨(j 0 : ℕ) % 256, Nat.mod_lt _ (by decide)⟩ (j 1))

/-- A part's normalised rows are the block's, at the rows of that part. -/
theorem normed_at (x : Vec F S1024x2048 .f32) (g : Vec F S1x2048 .f32) (u : Vec F S256x2048 .f32) (j : S1024x2048.Idx) (q : ℕ) (h : q < 4) (hu : u = part x q h) (y : S256x2048.Idx)
    (h0 : (j 0 : ℕ) = q * 256 + y 0) (h1 : (j 1 : ℕ) = y 1) : k0_pay1 u g y = normed x g j := by
  have hy : (y 0 : ℕ) < 256 := (y 0).isLt
  have e : (j 0 : ℕ) / 256 = q := by omega
  have e1 : ix2 ⟨(j 0 : ℕ) % 256, Nat.mod_lt _ (by decide)⟩ (j 1) = y := by
    refine Eq.trans ?_ (ix2_eta y)
    exact congrArg₂ _ (Fin.ext (show (j 0 : ℕ) % 256 = y 0 by omega)) (Fin.ext h1)
  subst hu
  unfold normed
  subst e
  exact congrArg _ e1.symm

variable (c : Dev nD) (i : grid0.Coords)
  {arg2 : Memref sig .tc .vmem S1024x2048 .f32} (harg2 : arg2.IsWhole) {arg3 : Memref sig .tc .vmem S1x2048 .f32} (harg3 : arg3.IsWhole)
  {arg4 : Memref sig .tc .vmem S1x768x2048 .f32} (harg4 : arg4.IsWhole) {arg5 : Memref sig .tc .vmem S1x640x2048 .f32} (harg5 : arg5.IsWhole)
  {arg6 : Memref sig .tc .vmem S1024x768 .bf16} (harg6 : arg6.IsWhole) {arg7 : Memref sig .tc .vmem S1024x640 .f32} (harg7 : arg7.IsWhole)
  {arg8 : Memref sig .tc .vmem S1024x2048 .bf16} (harg8 : arg8.IsWhole)
  (x0 : Vec F S1024x2048 .f32) (x1 : Vec F S1x2048 .f32) (x2 : Vec F S1x768x2048 .f32) (x3 : Vec F S1x640x2048 .f32)

/-- Every piece that one trip of the normalising loop stores into the scratch buffer holds `normed` at the place it is
    stored to. -/
theorem trip (h1 : k0_cond1 i = 1#1) (k : Fin k0_t1_loop.trips)
  (p : View.Piece (Elt F) S1024x2048 .bf16) (hp : p ∈ tripL_k0_t1 (F := F) Variants.none c none i arg2 harg2 arg3 harg3 arg4 harg4 arg5 harg5 arg6 harg6 arg7 harg7 arg8 harg8 h1 (harg2.unread x0) (harg3.unread x1) k) (x : p.1.shape.Idx) :
    p.2 x = normed x0 x1 (p.1.emb x) := by
  unfold tripL_k0_t1 trip_k0_t1 at hp
  dsimp only at hp
  rw [List.mem_singleton] at hp
  subst hp
  dsimp only
  rw [View.readAt_eq_ld, View.readAt_eq_ld]
  simp only [Memref.IsWhole.read_unread]
  rw [View.ld_unit_lit _ x1 (by decide)]
  have hk : k.val < 4 := Nat.lt_of_lt_of_le k.isLt k0_t1_abs.2.1
  have e0 : k0_off1 k 0 = 256 * k.val := congrFun (k0_off1_eq k) 0
  have e1 : k0_off1 k 1 = 0 := congrFun (k0_off1_eq k) 1
  refine normed_at x0 x1 _ _ k.val hk ?_ _ ?_ ?_
  · funext y
    refine congrArg x0 (funext fun a => Fin.ext ?_)
    match a with
    | 0 => show k0_off1 k 0 + 1 * (y 0 : ℕ) = k.val * 256 + y 0; omega
    | 1 => show k0_off1 k 1 + 1 * (y 1 : ℕ) = y 1; omega
  · show k0_off1 k 0 + 1 * (x 0 : ℕ) = k.val * 256 + x 0; omega
  · show k0_off1 k 1 + 1 * (x 1 : ℕ) = x 1; omega

/-- After all trips of the normalising loop the scratch buffer reads `normed`, whatever it held before: the pieces cover
    it, and each of them is right by `trip`. -/
theorem trips (h1 : k0_cond1 i = 1#1) (f : BufTy.Contents (Elt F) arg8.view.ty) :
    arg8.view.read (Elt F) (arg8.view.writes (Elt F) f (pb_k0_t1 (F := F) Variants.none c none i arg2 harg2 arg3 harg3 arg4 harg4 arg5 harg5 arg6 harg6 arg7 harg7 arg8 harg8 h1 (harg2.unread x0) (harg3.unread x1) (Scf.trips k0_t1_loop.lb k0_t1_loop.ub k0_t1_loop.st))) = normed x0 x1 := by
  have hcov := View.cover_of_tiledL (pb_k0_t1 (F := F) Variants.none c none i arg2 harg2 arg3 harg3 arg4 harg4 arg5 harg5 arg6 harg6 arg7 harg7 arg8 harg8 h1 (harg2.unread x0) (harg3.unread x1) (Scf.trips k0_t1_loop.lb k0_t1_loop.ub k0_t1_loop.st)) S256x2048.size (by sl_kernel_rfl)
  rw [View.read_writes_of_cover arg8.view f arg8.view arg8.view.junk _ hcov, View.read_writes_junk_eq_canon]
  funext y
  refine View.canon_apply_of_pieces _ _ ?_ y (hcov y)
  clear hcov
  generalize Scf.trips k0_t1_loop.lb k0_t1_loop.ub k0_t1_loop.st = n
  induction n with
  | zero => intro p hp; exact absurd hp List.not_mem_nil
  | succ n ih =>
    intro p hp x
    rw [pb_k0_t1.eq_2] at hp
    unfold pb_k0_t1Step at hp
    split at hp
    · rcases List.mem_append.mp hp with h | h
      · exact trip c i harg2 harg3 harg4 harg5 harg6 harg7 harg8 x0 x1 h1 _ p h x
      · exact ih p h x
    · exact ih p hp x

/-- A store over the whole block of the main result leaves exactly the stored value. -/
theorem stored4 (f : BufTy.Contents (Elt F) arg6.view.ty) (w : Vec F S1024x768 .bf16) :
    arg6.view.read (Elt F) (arg6.view.writes (Elt F) f [⟨Rect.unit ![0, 0] S1024x768.size inb_S1024x768_S1024x768_0_0, w⟩]) = w := by
  have hcov := View.cover_of_tiledL (Val := Elt F) (e := .bf16) [⟨Rect.unit (s := S1024x768) ![0, 0] S1024x768.size inb_S1024x768_S1024x768_0_0, w⟩] S1024x768.size (by sl_kernel_rfl)
  rw [View.read_writes_of_cover arg6.view f arg6.view arg6.view.junk _ hcov, View.read_writes_junk_eq_canon]
  exact View.canon_cons_unit_lit _ _ _ (by decide)

/-- A store over the whole block of the tail result leaves exactly the stored value. -/
theorem stored5 (f : BufTy.Contents (Elt F) arg7.view.ty) (w : Vec F S1024x640 .f32) :
    arg7.view.read (Elt F) (arg7.view.writes (Elt F) f [⟨Rect.unit ![0, 0] S1024x640.size inb_S1024x640_S1024x640_0_0, w⟩]) = w := by
  have hcov := View.cover_of_tiledL (Val := Elt F) (e := .f32) [⟨Rect.unit (s := S1024x640) ![0, 0] S1024x640.size inb_S1024x640_S1024x640_0_0, w⟩] S1024x640.size (by sl_kernel_rfl)
  rw [View.read_writes_of_cover arg7.view f arg7.view arg7.view.junk _ hcov, View.read_writes_junk_eq_canon]
  exact View.canon_cons_unit_lit _ _ _ (by decide)

/-- The four input blocks, owned whole with their contents named. -/
abbrev ins (arg2 : Memref sig .tc .vmem S1024x2048 .f32) (arg3 : Memref sig .tc .vmem S1x2048 .f32) (arg4 : Memref sig .tc .vmem S1x768x2048 .f32) (arg5 : Memref sig .tc .vmem S1x640x2048 .f32) :
    sProp (MT nD τ sig Unit (Elt F) ℕ (UR sig nD τ) ℕ) :=
  iprop(owns (c : Thread nD τ) arg2 fullShare x0 ∗ owns (c : Thread nD τ) arg3 fullShare x1 ∗ owns (c : Thread nD τ) arg4 fullShare x2 ∗ owns (c : Thread nD τ) arg5 fullShare x3)

set_option maxHeartbeats 1000000 in
/-- The body at the first grid point of a row block: it normalises the rows into the scratch buffer and stores the
    first block of the main result; the tail result's block is left alone. -/
theorem run_A (hc0 : k0_cond1 i = 1#1) (hc1 : k0_cond2 i = 1#1) (hc2 : ¬k0_cond3 i = 1#1)
    (y4 : Vec F S1024x768 .bf16) (y5 : Vec F S1024x640 .f32) (E : Set ℕ) (K : PUnit → sProp (MT nD τ sig Unit (Elt F) ℕ (UR sig nD τ) ℕ)) :
    iprop(ins c x0 x1 x2 x3 arg2 arg3 arg4 arg5
        ∗ owns (c : Thread nD τ) arg6 fullShare y4 ∗ owns (c : Thread nD τ) arg7 fullShare y5 ∗ (∃ d, owns (c : Thread nD τ) arg8 fullShare d)
        ∗ (iprop(ins c x0 x1 x2 x3 arg2 arg3 arg4 arg5
            ∗ owns (c : Thread nD τ) arg6 fullShare (k0_pay2 x2 (normed x0 x1)) ∗ owns (c : Thread nD τ) arg7 fullShare y5 ∗ owns (c : Thread nD τ) arg8 fullShare (normed x0 x1)) -∗ K ⟨⟩))
      ⊢ wp frame (wpE (defs₀ (F := F)) Variants.none c none) E (cc0_norm_matmul i arg2 harg2 arg3 harg3 arg4 harg4 arg5 harg5 arg6 harg6 arg7 harg7 arg8 harg8) K := by
  simp only [cc0_norm_matmul_eq_skeleton]; unfold cc0_norm_matmul_skel
  unfold ins owns
  iintro ⟨⟨⟨%f0, %hf0, H0⟩, ⟨%f1, %hf1, H1⟩, ⟨%f2, %hf2, H2⟩, ⟨%f3, %hf3, H3⟩⟩, ⟨%f4, %hf4, H4⟩, ⟨%f5, %hf5, H5⟩, ⟨%ds0, %fs0, -, HS0⟩, Hk⟩
  obtain rfl := harg2.eq_unread hf0; obtain rfl := harg3.eq_unread hf1
  sl_exec (disch := first | sl_exact hc0 | sl_exact hc1 | sl_exact hc2)
  sl_step
  iapply Hk
  isplitl [H0 H1 H2 H3]
  · isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    iexists _; isplitr; swap; · iexact H3
    ipureintro; exact hf3
  isplitl [H4]
  · iexists _; isplitr; swap; · iexact H4
    ipureintro
    exact (stored4 _ _).trans (congrArg₂ k0_pay2 ((View.readAt_eq_ld _ _ _).trans ((View.ld_unit_lit _ _ (by decide)).trans hf2)) ((View.readAt_eq_ld _ _ _).trans ((View.ld_unit_lit _ _ (by decide)).trans (trips c i harg2 harg3 harg4 harg5 harg6 harg7 harg8 x0 x1 hc0 _))))
  isplitl [H5]
  · iexists _; isplitr; swap; · iexact H5
    ipureintro
    exact hf5
  iexists _; isplitr; swap; · iexact HS0
  ipureintro
  exact trips c i harg2 harg3 harg4 harg5 harg6 harg7 harg8 x0 x1 hc0 _

set_option maxHeartbeats 1000000 in
/-- The body at the later grid points of a row block but the last: it reads the normalised rows from the scratch buffer
    and stores one more block of the main result. -/
theorem run_B (hc0 : ¬k0_cond1 i = 1#1) (hc1 : k0_cond2 i = 1#1) (hc2 : ¬k0_cond3 i = 1#1)
    (y4 : Vec F S1024x768 .bf16) (y5 : Vec F S1024x640 .f32) (xs : Vec F S1024x2048 .bf16) (E : Set ℕ) (K : PUnit → sProp (MT nD τ sig Unit (Elt F) ℕ (UR sig nD τ) ℕ)) :
    iprop(ins c x0 x1 x2 x3 arg2 arg3 arg4 arg5
        ∗ owns (c : Thread nD τ) arg6 fullShare y4 ∗ owns (c : Thread nD τ) arg7 fullShare y5 ∗ owns (c : Thread nD τ) arg8 fullShare xs
        ∗ (iprop(ins c x0 x1 x2 x3 arg2 arg3 arg4 arg5
            ∗ owns (c : Thread nD τ) arg6 fullShare (k0_pay2 x2 xs) ∗ owns (c : Thread nD τ) arg7 fullShare y5 ∗ owns (c : Thread nD τ) arg8 fullShare xs) -∗ K ⟨⟩))
      ⊢ wp frame (wpE (defs₀ (F := F)) Variants.none c none) E (cc0_norm_matmul i arg2 harg2 arg3 harg3 arg4 harg4 arg5 harg5 arg6 harg6 arg7 harg7 arg8 harg8) K := by
  simp only [cc0_norm_matmul_eq_skeleton]; unfold cc0_norm_matmul_skel
  unfold ins owns
  iintro ⟨⟨⟨%f0, %hf0, H0⟩, ⟨%f1, %hf1, H1⟩, ⟨%f2, %hf2, H2⟩, ⟨%f3, %hf3, H3⟩⟩, ⟨%f4, %hf4, H4⟩, ⟨%f5, %hf5, H5⟩, ⟨%fs0, %hfs0, HS0⟩, Hk⟩
  sl_exec (disch := first | sl_exact hc0 | sl_exact hc1 | sl_exact hc2)
  sl_step
  iapply Hk
  isplitl [H0 H1 H2 H3]
  · isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    iexists _; isplitr; swap; · iexact H3
    ipureintro; exact hf3
  isplitl [H4]
  · iexists _; isplitr; swap; · iexact H4
    ipureintro
    exact (stored4 _ _).trans (congrArg₂ k0_pay2 ((View.readAt_eq_ld _ _ _).trans ((View.ld_unit_lit _ _ (by decide)).trans hf2)) ((View.readAt_eq_ld _ _ _).trans ((View.ld_unit_lit _ _ (by decide)).trans hfs0)))
  isplitl [H5]
  · iexists _; isplitr; swap; · iexact H5
    ipureintro
    exact hf5
  iexists _; isplitr; swap; · iexact HS0
  ipureintro
  exact hfs0

set_option maxHeartbeats 1000000 in
/-- The body at the last grid point of a row block: it stores the block of the tail result and leaves the main
    result's block alone. -/
theorem run_C (hc0 : ¬k0_cond1 i = 1#1) (hc1 : ¬k0_cond2 i = 1#1) (hc2 : k0_cond3 i = 1#1)
    (y4 : Vec F S1024x768 .bf16) (y5 : Vec F S1024x640 .f32) (xs : Vec F S1024x2048 .bf16) (E : Set ℕ) (K : PUnit → sProp (MT nD τ sig Unit (Elt F) ℕ (UR sig nD τ) ℕ)) :
    iprop(ins c x0 x1 x2 x3 arg2 arg3 arg4 arg5
        ∗ owns (c : Thread nD τ) arg6 fullShare y4 ∗ owns (c : Thread nD τ) arg7 fullShare y5 ∗ owns (c : Thread nD τ) arg8 fullShare xs
        ∗ (iprop(ins c x0 x1 x2 x3 arg2 arg3 arg4 arg5
            ∗ owns (c : Thread nD τ) arg6 fullShare y4 ∗ owns (c : Thread nD τ) arg7 fullShare (k0_pay3 x3 xs) ∗ owns (c : Thread nD τ) arg8 fullShare xs) -∗ K ⟨⟩))
      ⊢ wp frame (wpE (defs₀ (F := F)) Variants.none c none) E (cc0_norm_matmul i arg2 harg2 arg3 harg3 arg4 harg4 arg5 harg5 arg6 harg6 arg7 harg7 arg8 harg8) K := by
  simp only [cc0_norm_matmul_eq_skeleton]; unfold cc0_norm_matmul_skel
  unfold ins owns
  iintro ⟨⟨⟨%f0, %hf0, H0⟩, ⟨%f1, %hf1, H1⟩, ⟨%f2, %hf2, H2⟩, ⟨%f3, %hf3, H3⟩⟩, ⟨%f4, %hf4, H4⟩, ⟨%f5, %hf5, H5⟩, ⟨%fs0, %hfs0, HS0⟩, Hk⟩
  sl_exec (disch := first | sl_exact hc0 | sl_exact hc1 | sl_exact hc2)
  sl_step
  iapply Hk
  isplitl [H0 H1 H2 H3]
  · isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    iexists _; isplitr; swap; · iexact H3
    ipureintro; exact hf3
  isplitl [H4]
  · iexists _; isplitr; swap; · iexact H4
    ipureintro
    exact hf4
  isplitl [H5]
  · iexists _; isplitr; swap; · iexact H5
    ipureintro
    exact (stored5 _ _).trans (congrArg₂ k0_pay3 ((View.readAt_eq_ld _ _ _).trans ((View.ld_unit_lit _ _ (by decide)).trans hf3)) ((View.readAt_eq_ld _ _ _).trans ((View.ld_unit_lit _ _ (by decide)).trans hfs0)))
  iexists _; isplitr; swap; · iexact HS0
  ipureintro
  exact hfs0

section Points

variable (m : (ℓ : Loc nD τ sig) → Buf (Elt F) ℓ) (ρ : Dev nD → PrngReg)

/-- The normalising branch is taken at the first of every nine grid points. -/
theorem first : ∀ t : Fin cfg0.N, k0_cond1 (grid0.coords t) = 1#1 ↔ t.val % 9 = 0 :=
  (by decide +kernel : ∀ t : Fin grid0.N, k0_cond1 (grid0.coords t) = 1#1 ↔ t.val % 9 = 0)

/-- The branch of the main result is taken at all but the last of every nine grid points. -/
theorem main : ∀ t : Fin cfg0.N, k0_cond2 (grid0.coords t) = 1#1 ↔ t.val % 9 ≠ 8 :=
  (by decide +kernel : ∀ t : Fin grid0.N, k0_cond2 (grid0.coords t) = 1#1 ↔ t.val % 9 ≠ 8)

/-- The branch of the tail result is taken at the last of every nine grid points. -/
theorem tail : ∀ t : Fin cfg0.N, k0_cond3 (grid0.coords t) = 1#1 ↔ t.val % 9 = 8 :=
  (by decide +kernel : ∀ t : Fin grid0.N, k0_cond3 (grid0.coords t) = 1#1 ↔ t.val % 9 = 8)

/-- The main result's block is written back at every grid point but the eighth of nine: the ninth keeps the eighth's
    block. -/
theorem flush4 : ∀ t : Fin cfg0.N, (cfg0.win 4).flush t = true ↔ t.val % 9 ≠ 7 :=
  (by decide +kernel : ∀ t : Fin grid0.N, win0_4.flush t = true ↔ t.val % 9 ≠ 7)

/-- Which block of its array each window shows at a grid point: row block `t / 9`, column block `t % 9`, held at the last
    column block at the ninth point. -/
theorem idx : ∀ t : Fin cfg0.N, win0_0.index t = ![t.val / 9, 0] ∧ win0_1.index t = ![0, 0] ∧ win0_2.index t = ![0, min (t.val % 9) 7, 0]
    ∧ win0_3.index t = ![0, 0, 0] ∧ win0_4.index t = ![t.val / 9, min (t.val % 9) 7] ∧ win0_5.index t = ![t.val / 9, 0] :=
  (by decide +kernel : ∀ t : Fin grid0.N, _)

/-- The normalised rows of the grid point's row block. -/
def rows (c : Dev nD) (t : Fin cfg0.N) : Vec F S1024x2048 .bf16 := normed (iblk m c 0 t) (iblk m c 1 t)

/-- What the main result's block holds at a grid point. -/
def out4 (c : Dev nD) (t : Fin cfg0.N) : Vec F S1024x768 .bf16 := k0_pay2 (X0_2 m c t) (rows m c t)

/-- What the tail result's block holds after a row block's last grid point. -/
def out5 (c : Dev nD) (t : Fin cfg0.N) : Vec F S1024x640 .f32 := k0_pay3 (iblk m c 3 t) (rows m c t)

/-- All grid points of one row block have the same normalised rows. -/
theorem rows_kept (c : Dev nD) (t u : Fin cfg0.N) (h : t.val / 9 = u.val / 9) : rows m c t = rows m c u := by
  have i0 := idx t
  have i1 := idx u
  have h0 : iblk m c 0 t = iblk m c 0 u := by funext y; blk_ext [iblk, i0, i1]
  have h1 : iblk m c 1 t = iblk m c 1 u := by funext y; blk_ext [iblk, i0, i1]
  unfold rows
  rw [h0, h1]

/-- The main weight's window reads the transposed weights at its column block. -/
theorem weight (c : Dev nD) (t : Fin cfg0.N) (n : Fin 768) (k : Fin 2048) (i : S2x6704x2048.Idx) (h0 : (i 0 : ℕ) = 0) (h1 : (i 1 : ℕ) = min (t.val % 9) 7 * 768 + n) (h2 : (i 2 : ℕ) = k) :
    (show Vec F S1x768x2048 .f32 from X0_2 m c t) (ix3 0 n k) = V m c main_v0 i := by
  show X0_2 m c t (ix3 0 n k) = _
  unfold X0_2 Pipeline.Window.fill
  rw [dif_pos (moved0_2 t _)]
  blk_ext [iblk, idx t]

/-- Two grid points with the same row block and the same column block have the same main result block. -/
theorem out4_kept (c : Dev nD) (t u : Fin cfg0.N) (h : t.val / 9 = u.val / 9) (h' : min (t.val % 9) 7 = min (u.val % 9) 7) : out4 m c t = out4 m c u := by
  unfold out4
  rw [rows_kept m c t u h]
  refine congrArg (fun w => k0_pay2 (F := F) w _) ?_
  have i0 := idx t
  have i1 := idx u
  funext y
  unfold X0_2 Pipeline.Window.fill
  rw [dif_pos (moved0_2 t _), dif_pos (moved0_2 u _)]
  blk_ext [iblk, i0, i1, h']

/-- The invariant between grid points: before the first the scratch buffer holds anything, afterwards it holds the
    normalised rows of the point that has just run. -/
def Phi (c : Dev nD) : (n : ℕ) → n ≤ cfg0.N → sProp (MT nD τ sig Unit (Elt F) ℕ (UR sig nD τ) ℕ)
  | 0, _ => Pipeline.ΦA spec0 c
  | n + 1, hn => iprop(owns (c : Thread nD τ) (Memref.whole cc0_scratch0 : Memref sig .tc .vmem S1024x2048 .bf16) fullShare (rows m c ⟨n, hn⟩) ∗ (∃ r, prngReg c r))

/-- Before the first grid point: the scratch buffer with unnamed contents, and the random generator's register. -/
theorem Phi_entry (c : Dev nD) :
    (Pipeline.ΦA spec0 c : sProp (MT nD τ sig Unit (Elt F) ℕ (UR sig nD τ) ℕ)) = iprop((∃ d, owns (c : Thread nD τ) (Memref.whole cc0_scratch0 : Memref sig .tc .vmem S1024x2048 .bf16) fullShare d) ∗ (∃ r, prngReg c r)) := by
  unfold Pipeline.ΦA; rw [scopedRest0_eq]; simp only [owns_whole]

/-- The invariant at any grid point gives the invariant with unnamed contents. -/
theorem Phi_any (c : Dev nD) : ∀ (n : ℕ) (h : n ≤ cfg0.N), Phi m c n h ⊢ Pipeline.ΦA spec0 c
  | 0, _ => .rfl
  | n + 1, hn => by
    rw [Phi_entry]
    show iprop(_ ∗ _) ⊢ _
    iintro ⟨HS, Hg⟩
    isplitl [HS]
    · iexists _; iexact HS
    iexact Hg

/-- The invariant at a later grid point names the rows of the point before. -/
theorem Phi_later (c : Dev nD) (t : Fin cfg0.N) (h : t.val ≠ 0) :
    Phi m c t.val (Nat.le_of_lt t.isLt) = iprop(owns (c : Thread nD τ) (Memref.whole cc0_scratch0 : Memref sig .tc .vmem S1024x2048 .bf16) fullShare (rows m c ⟨t.val - 1, Nat.lt_of_le_of_lt (Nat.sub_le _ _) t.isLt⟩) ∗ (∃ r, prngReg c r)) := by
  obtain ⟨n, hn⟩ := t
  cases n with
  | zero => exact absurd rfl h
  | succ n => rfl

/-- The proof data of the launch: every array as the host operations leave it, every window's block after each grid
    point, and the invariant `Phi`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => out4 m c t
    | ⟨5, _⟩ => out5 m c t
  Φ t := Phi m c t.val (Nat.le_of_lt_succ t.isLt)
  q _ := fullShare
  owed _ := 0

/-- The proof data's arrays are those found at the launch. -/
theorem A_eq (c : Dev nD) (w : Fin cfg0.W) : (dats m 0 c).A w = V m c (Pipeline.arrRef spec0 w) := by
  dsimp only [dats]

/-- The proof data's main result block is `out4`. -/
theorem after4 (c : Dev nD) (t : Fin cfg0.N) : (dats m 0 c).after 4 t = out4 m c t := by dsimp only [dats]

/-- The proof data's tail result block is `out5`. -/
theorem after5 (c : Dev nD) (t : Fin cfg0.N) : (dats m 0 c).after 5 t = out5 m c t := by dsimp only [dats]

/-- At a row block's last grid point the main result's block still holds what the point before stored, which is also
    `out4` of this point. -/
theorem before4 (c : Dev nD) (t : Fin cfg0.N) (h : t.val % 9 = 8) (d) : (dats m 0 c).before 4 t d = out4 m c t := by
  have hl : (⟨t.val - 1, Nat.lt_of_le_of_lt (Nat.sub_le _ _) t.isLt⟩ : Fin cfg0.N).val % 9 = 7 := by show (t.val - 1) % 9 = 7; omega
  have hf : (cfg0.win 4).flush ⟨t.val - 1, Nat.lt_of_le_of_lt (Nat.sub_le _ _) t.isLt⟩ = false :=
    Bool.eq_false_iff.mpr fun h => (flush4 _).mp h hl
  rw [(dats m 0 c).before_of_pos 4 t (by omega) ((cfg0.win 4).fetch_out rfl t), hf, if_neg Bool.false_ne_true]
  unfold Dat.left
  have hi : cfg0.idle 4 (cfg0.grid.coords ⟨t.val - 1, Nat.lt_of_le_of_lt (Nat.sub_le _ _) t.isLt⟩) = false := by
    rw [show cfg0.idle 4 (cfg0.grid.coords ⟨t.val - 1, Nat.lt_of_le_of_lt (Nat.sub_le _ _) t.isLt⟩) = !(k0_cond2 (grid0.coords ⟨t.val - 1, Nat.lt_of_le_of_lt (Nat.sub_le _ _) t.isLt⟩) == 1#1) from rfl, (main _).mpr (by omega)]; rfl
  rw [hi]
  show (dats m 0 c).after 4 _ = _
  rw [after4]
  refine out4_kept m c _ t ?_ ?_
  · show (t.val - 1) / 9 = t.val / 9; omega
  · show min ((t.val - 1) % 9) 7 = min (t.val % 9) 7; omega

/-- What a grid point's body is given: the invariant and the six windows' blocks. -/
def pre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What a grid point's body must leave. -/
def post (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t
    ∗ (dats m 0 c).leavesExact 4 t ∗ (dats m 0 c).leavesExact 5 t)

/-- The rows' window shows its block of the input. -/
theorem before0 (c : Dev nD) (t : Fin cfg0.N) (d) : (dats m 0 c).before 0 t d = iblk m c 0 t :=
  before0_0_of m (dats m 0 c) (A_eq m c 0) (fun _ => by dsimp only [dats]) t d

/-- The gains' window shows the gains. -/
theorem before1 (c : Dev nD) (t : Fin cfg0.N) (d) : (dats m 0 c).before 1 t d = iblk m c 1 t :=
  before0_1_of m (dats m 0 c) (A_eq m c 1) (fun _ => by dsimp only [dats]) t d

/-- The main weight's window shows its block. -/
theorem before2 (c : Dev nD) (t : Fin cfg0.N) (d) : (dats m 0 c).before 2 t d = X0_2 m c t :=
  before0_2_of m (dats m 0 c) (A_eq m c 2) (fun _ => by dsimp only [dats]) t d

/-- The tail weight's window shows the joined tail weights. -/
theorem before3 (c : Dev nD) (t : Fin cfg0.N) (d) : (dats m 0 c).before 3 t d = iblk m c 3 t :=
  before0_3_of m (dats m 0 c) (A_eq m c 3) (fun _ => by dsimp only [dats]) t d

/-- After every grid point the main result's block is owned with contents `out4`. -/
theorem leaves4 (c : Dev nD) (t : Fin cfg0.N) : (dats m 0 c).leavesExact 4 t = owns (c : Thread nD τ) (st0_4 t) fullShare (out4 m c t) := by
  by_cases h : t.val % 9 = 8
  · have hf : (cfg0.win 4).flush t = true := (flush4 t).mpr (by omega)
    have hi : cfg0.idle 4 (cfg0.grid.coords t) = true := by
      rw [show cfg0.idle 4 (cfg0.grid.coords t) = !(k0_cond2 (grid0.coords t) == 1#1) from rfl, beq_false_of_ne fun e => (main t).mp e h]; rfl
    unfold Dat.leavesExact; rw [hi, hf]; dsimp only; rw [after4]
  · have hi : cfg0.idle 4 (cfg0.grid.coords t) = false := by
      rw [show cfg0.idle 4 (cfg0.grid.coords t) = !(k0_cond2 (grid0.coords t) == 1#1) from rfl, (main t).mpr h]; rfl
    unfold Dat.leavesExact; rw [hi]; dsimp only; rw [after4]

/-- After a row block's last grid point the tail result's block is owned with contents `out5`. -/
theorem leaves5 (c : Dev nD) (t : Fin cfg0.N) (h : t.val % 9 = 8) : (dats m 0 c).leavesExact 5 t = owns (c : Thread nD τ) (st0_5 t) fullShare (out5 m c t) := by
  have hi : cfg0.idle 5 (cfg0.grid.coords t) = false := by
    rw [show cfg0.idle 5 (cfg0.grid.coords t) = !(k0_cond3 (grid0.coords t) == 1#1) from rfl, (tail t).mpr h]; rfl
  unfold Dat.leavesExact; rw [hi]; dsimp only; rw [after5]

/-- At the other grid points the tail result's block is handed on as it was. -/
theorem passes5 (c : Dev nD) (t : Fin cfg0.N) (h : t.val % 9 ≠ 8) :
    (dats m 0 c).leavesExact 5 t = iprop(∃ d, owns (c : Thread nD τ) (st0_5 t) fullShare ((dats m 0 c).before 5 t d)) := by
  refine (dats m 0 c).leavesExact_idle 5 t ?_ (Bool.eq_false_iff.mpr fun e => h ((flush0_5 t).mp e))
  rw [show cfg0.idle 5 (cfg0.grid.coords t) = !(k0_cond3 (grid0.coords t) == 1#1) from rfl, beq_false_of_ne fun e => h ((tail t).mp e)]; rfl

set_option maxHeartbeats 1000000 in
/-- The body at any grid point takes `pre` to `post`: by the three runs, according to the point's place in its row block. -/
theorem body (c : Dev nD) (t : Fin cfg0.N) :
    pre m c t ⊢ wp frame (wpE (defs₀ (F := F)) Variants.none c none) Set.univ (bodyAt0 t) (fun _ => post m c t) := by
  unfold pre post bodyAt0
  simp only [before0, before1, before2, before3]
  rw [show (dats m 0 c).owesAt () t.succ = (dats m 0 c).owesAt () t.castSucc from rfl, leaves4,
    show (dats m 0 c).leavesExact 0 t = owns (c : Thread nD τ) (st0_0 t) fullShare (iblk m c 0 t) from rfl,
    show (dats m 0 c).leavesExact 1 t = owns (c : Thread nD τ) (st0_1 t) fullShare (iblk m c 1 t) from rfl,
    show (dats m 0 c).leavesExact 2 t = owns (c : Thread nD τ) (st0_2 t) fullShare (X0_2 m c t) from rfl,
    show (dats m 0 c).leavesExact 3 t = owns (c : Thread nD τ) (st0_3 t) fullShare (iblk m c 3 t) from rfl,
    show (dats m 0 c).Φ t.succ = iprop(owns (c : Thread nD τ) (Memref.whole cc0_scratch0 : Memref sig .tc .vmem S1024x2048 .bf16) fullShare (rows m c t) ∗ (∃ r, prngReg c r)) from rfl,
    show (dats m 0 c).Φ t.castSucc = Phi m c t.val (Nat.le_of_lt t.isLt) from rfl]
  by_cases h0 : t.val % 9 = 0
  · rw [passes5 m c t (by omega)]
    refine (sep_mono_left (Phi_any m c t.val _)).trans ?_
    rw [Phi_entry]
    iintro ⟨⟨HS, Hg⟩, Ho, ⟨%d0, H0⟩, ⟨%d1, H1⟩, ⟨%d2, H2⟩, ⟨%d3, H3⟩, ⟨%d4, H4⟩, ⟨%d5, H5⟩⟩
    iapply (run_A c (grid0.coords t) _ _ _ _ _ _ _ (iblk m c 0 t) (iblk m c 1 t) (X0_2 m c t) (iblk m c 3 t) ((first t).mpr h0) ((main t).mpr (by omega)) (fun e => absurd ((tail t).mp e) (by omega)) ((dats m 0 c).before 4 t d4) ((dats m 0 c).before 5 t d5) Set.univ _)
    isplitl [H0 H1 H2 H3]
    · isplitl [H0]; · iexact H0
      isplitl [H1]; · iexact H1
      isplitl [H2]; · iexact H2
      iexact H3
    isplitl [H4]; · iexact H4
    isplitl [H5]; · iexact H5
    isplitl [HS]; · iexact HS
    iintro ⟨⟨H0, H1, H2, H3⟩, H4, H5, HS⟩
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · rw [Phi_later m c t (by omega), rows_kept m c _ t (show (t.val - 1) / 9 = t.val / 9 by omega)]
    by_cases h8 : t.val % 9 = 8
    · rw [leaves5 m c t h8]
      simp only [before4 m c t h8]
      iintro ⟨⟨HS, Hg⟩, Ho, ⟨%d0, H0⟩, ⟨%d1, H1⟩, ⟨%d2, H2⟩, ⟨%d3, H3⟩, ⟨%d4, H4⟩, ⟨%d5, H5⟩⟩
      iapply (run_C c (grid0.coords t) _ _ _ _ _ _ _ (iblk m c 0 t) (iblk m c 1 t) (X0_2 m c t) (iblk m c 3 t) (fun e => h0 ((first t).mp e)) (fun e => (main t).mp e h8) ((tail t).mpr h8) (out4 m c t) ((dats m 0 c).before 5 t d5) (rows m c t) Set.univ _)
      isplitl [H0 H1 H2 H3]
      · isplitl [H0]; · iexact H0
        isplitl [H1]; · iexact H1
        isplitl [H2]; · iexact H2
        iexact H3
      isplitl [H4]; · iexact H4
      isplitl [H5]; · iexact H5
      isplitl [HS]; · iexact HS
      iintro ⟨⟨H0, H1, H2, H3⟩, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [passes5 m c t h8]
      iintro ⟨⟨HS, Hg⟩, Ho, ⟨%d0, H0⟩, ⟨%d1, H1⟩, ⟨%d2, H2⟩, ⟨%d3, H3⟩, ⟨%d4, H4⟩, ⟨%d5, H5⟩⟩
      iapply (run_B c (grid0.coords t) _ _ _ _ _ _ _ (iblk m c 0 t) (iblk m c 1 t) (X0_2 m c t) (iblk m c 3 t) (fun e => h0 ((first t).mp e)) ((main t).mpr h8) (fun e => h8 ((tail t).mp e)) ((dats m 0 c).before 4 t d4) ((dats m 0 c).before 5 t d5) (rows m c t) Set.univ _)
      isplitl [H0 H1 H2 H3]
      · isplitl [H0]; · iexact H0
        isplitl [H1]; · iexact H1
        isplitl [H2]; · iexact H2
        iexact H3
      isplitl [H4]; · iexact H4
      isplitl [H5]; · iexact H5
      isplitl [HS]; · iexact HS
      iintro ⟨⟨H0, H1, H2, H3⟩, H4, H5, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

/-- The launch's body at a grid point is the kernel's function applied to that point's blocks. -/
theorem row (t : Fin cfg0.N) : defs₀ (F := F) .tc cfg0.body (cfg0.bodyArgs t (cfg0.slots t)) = bodyAt0 t := by
  unfold defs₀; rw [Defs.onTc_tc]

/-- The body's obligation in the form that the launch theorem asks for. -/
theorem obligation (c : Dev nD) : BodyObligation (dats m 0 c) (defs₀ (F := F)) Variants.none () Set.univ := fun t => by
  rw [bigSep_W0, bigSep_W0, row]
  exact triple_restated (body m c t) rfl .rfl fun _ => .rfl

set_option backward.isDefEq.respectTransparency.types false in
/-- The kernel's run: it terminates, every array ends at what the proof data say, and every semaphore reads zero. -/
theorem run : θ_run defs (onTc (τ := τ) (Cert.DnProjIdeal.main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ Cert.DnProjIdeal.main
    (hbody := fun c => (obligation m c).loose) (hshare := fun c => (dats m 0 c).share_full fun _ => rfl)
    (howed := fun _ _ => rfl) (V := V m) (hmain := hmain m Variants.none) (hA := A_eq m)
    (hin := fun c => Phi_any m c 0 (Nat.zero_le _)) (hout := fun c => Phi_any m c cfg0.N (Nat.le_refl _))

/-- The frame: the kernel terminates, keeps its three arguments, and leaves every semaphore at zero. -/
theorem frame : θ_run defs (onTc (τ := τ) (Cert.DnProjIdeal.main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run m ρ))) ((θ_run defs _ _).mono (fun _ h => h.2) (run m ρ))

end Points

end Cert.DnProjIdeal.Body
end
-- ==== Proof.DnProjValue.lean ====
/- The projection call of the delta rule layers, idealised: its two results as functions of the arguments, and their
   equality with the reference's. -/
module

public import proofs.«01_k».proof.Proof.DnProjBody
public import proofs.«01_k».proof.Proof.Gen.DnProjRefIdeal.Run
public import proofs.«01_k».proof.Defs
public import Idealize.ShloMosaic.Lib.Pipeline.ValueKit
public import Idealize.ShloMosaic.Lib.Claim
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

namespace Cert.DnProjIdeal.Value
open Cert.DnProjIdeal.Gen Cert.DnProjIdeal.Body

variable (m : (ℓ : Loc nD τ sig) → Buf (Elt Ideal) ℓ)

/-- The batch of a row of the flattened input. -/
def hi (r : Fin 8192) : Fin 2 := ⟨r.val / 4096, Nat.div_lt_of_lt_mul r.isLt⟩

/-- The place within its batch of a row of the flattened input. -/
def lo (r : Fin 8192) : Fin 4096 := ⟨r.val % 4096, Nat.mod_lt _ (by decide)⟩

/-- Entry `k` of a row divided by its root mean square and multiplied by the gains. -/
def rms (x : Fin 2048 → EReal) (g : Fin 2048 → EReal) (k : Fin 2048) : EReal :=
  x k * Ideal.rsqrt (Ideal.div (∑ l : Fin 2048, x l * x l) (Ideal.ofBits FTy.f32 0x45000000#32) + Ideal.ofBits FTy.f32 0x358637BD#32) * g k

/-- The projection: the normalised row `r` times column `n` of the first layer's weights. -/
def dotRow (X : Vec Ideal S2x4096x2048 .f32) (G : Vec Ideal S4x2048 .f32) (W : Vec Ideal S2x2048x6704 .f32) (r : Fin 8192) (n : Fin 6704) : EReal :=
  ∑ k : Fin 2048, rms (fun l => X (ix3 (hi r) (lo r) l)) (fun l => G (ix2 0 l)) k * W (ix3 0 k n)

/-- The main result: columns 0 to 6143 of the projection (queries, keys, values and output gates). -/
def MAIN (X : Vec Ideal S2x4096x2048 .f32) (G : Vec Ideal S4x2048 .f32) (W : Vec Ideal S2x2048x6704 .f32) : Vec Ideal S8192x6144 .bf16 := fun i =>
  dotRow X G W (i 0) ⟨i 1, by have : (i 1 : ℕ) < 6144 := (i 1).isLt; omega⟩

/-- The tail result: the memory queries (columns 6192 to 6703 of the projection), then the 48 gate columns 6144 to 6191,
    then zeros up to column 640. -/
def TAIL (X : Vec Ideal S2x4096x2048 .f32) (G : Vec Ideal S4x2048 .f32) (W : Vec Ideal S2x2048x6704 .f32) : Vec Ideal S8192x640 .f32 := fun i =>
  if h : (i 1 : ℕ) < 512 then dotRow X G W (i 0) ⟨6192 + i 1, by omega⟩
  else if h' : (i 1 : ℕ) < 560 then dotRow X G W (i 0) ⟨6144 + ((i 1 : ℕ) - 512), by omega⟩
  else 0

/-- Over the reals: each row divided by its root mean square and multiplied by the gains. -/
theorem normed_ideal (x : Vec Ideal S1024x2048 .f32) (g : Vec Ideal S1x2048 .f32) (r : Fin 1024) (k : Fin 2048) :
    normed (F := Ideal) x g (ix2 r k) = rms (fun l => x (ix2 r l)) (fun l => g (ix2 0 l)) k := by
  have e : ∀ h, (⟨(r : ℕ) / 256 * 256 + (r : ℕ) % 256, h⟩ : Fin 1024) = r := fun _ => Fin.ext (by show (r : ℕ) / 256 * 256 + (r : ℕ) % 256 = r; omega)
  pointwise [normed, part, k0_pay1, rms]
  simp only [e]

/-- The rows' window, read at an entry, is the argument at the row's batch and place. -/
theorem input_rows (c : Dev nD) (t : Fin cfg0.N) (r : Fin 1024) (k : Fin 2048) (R : Fin 8192) (h : (R : ℕ) = t.val / 9 * 1024 + r) :
    (show Vec Ideal S1024x2048 .f32 from iblk m c 0 t) (ix2 r k) = m ((c : Thread nD τ).loc main_arg0) (ix3 (hi R) (lo R) k) := by
  have e0 : (hi R : ℕ) = (R : ℕ) / 4096 := rfl
  have e1 : (lo R : ℕ) = (R : ℕ) % 4096 := rfl
  blk_point [iblk, V, idx t]

/-- The gains' window, read at an entry, is the first layer's gain. -/
theorem input_gain (c : Dev nD) (t : Fin cfg0.N) (k : Fin 2048) :
    (show Vec Ideal S1x2048 .f32 from iblk m c 1 t) (ix2 0 k) = m ((c : Thread nD τ).loc main_arg1) (ix2 0 k) := by
  blk_point [iblk, V, idx t]

/-- The transposed weights are the argument with its two last coordinates exchanged. -/
theorem wide_weight (c : Dev nD) (k : Fin 2048) (n : Fin 6704) :
    (show Vec Ideal S2x6704x2048 .f32 from V m c main_v0) (ix3 0 n k) = m ((c : Thread nD τ).loc main_arg2) (ix3 0 k n) := by
  unfold V
  after_reads_at

/-- The tail weight's window shows its whole array. -/
theorem tail_weight (c : Dev nD) (t : Fin cfg0.N) (k : Fin 2048) (n : Fin 640) :
    (show Vec Ideal S1x640x2048 .f32 from iblk m c 3 t) (ix3 0 n k) = (show Vec Ideal S2x640x2048 .f32 from V m c main_v4) (ix3 0 n k) := by
  blk_ext [iblk, idx t]

/-- The joined tail weights at an entry: a memory query column, a gate column, or zero. -/
theorem joined_weight (c : Dev nD) (k : Fin 2048) (n : Fin 640) :
    (show Vec Ideal S2x640x2048 .f32 from V m c main_v4) (ix3 0 n k)
      = if h : (n : ℕ) < 512 then m ((c : Thread nD τ).loc main_arg2) (ix3 0 k ⟨6192 + n, by omega⟩)
        else if h' : (n : ℕ) < 560 then m ((c : Thread nD τ).loc main_arg2) (ix3 0 k ⟨6144 + (n - 512), by omega⟩) else (0 : EReal) := by
  unfold V
  after_reads_at
  after_reads_at
  simp only [show ((n : ℕ) - 512 < 48) ↔ ((n : ℕ) < 560) by omega]

/-- A grid point's main result block, at an entry, is the main result at that entry's place in the array. -/
theorem main_point (c : Dev nD) (t : Fin cfg0.N) (y : S1024x768.Idx) (j : S8192x6144.Idx) (h0 : (j 0 : ℕ) = t.val / 9 * 1024 + y 0) (h1 : (j 1 : ℕ) = min (t.val % 9) 7 * 768 + y 1) :
    out4 m c t y = MAIN (m ((c : Thread nD τ).loc main_arg0)) (m ((c : Thread nD τ).loc main_arg1)) (m ((c : Thread nD τ).loc main_arg2)) j := by
  have hb : (j 1 : ℕ) < 6704 := lt_trans (show (j 1 : ℕ) < 6144 from (j 1).isLt) (by decide)
  have hw : ∀ k : Fin 2048, (show Vec Ideal S1x768x2048 .f32 from X0_2 m c t) (ix3 0 (y 1) k) = m ((c : Thread nD τ).loc main_arg2) (ix3 0 k ⟨j 1, hb⟩) := fun k =>
    (weight m c t (y 1) k (ix3 0 ⟨j 1, hb⟩ k) rfl h1 rfl).trans (wide_weight m c k _)
  have hx := fun k => input_rows m c t (y 0) k (j 0) h0
  have hg := input_gain m c t
  unfold out4 rows
  generalize X0_2 m c t = w at hw ⊢
  generalize iblk m c 0 t = x at hx ⊢
  generalize iblk m c 1 t = g at hg ⊢
  pointwise [k0_pay2]
  refine (Finset.sum_congr rfl fun k _ => congrArg (· * _) (normed_ideal x g (y 0) k)).trans ?_
  simp only [MAIN, dotRow, rms, ← hw, ← hx, ← hg]

/-- A row block's tail result block, at an entry, is the tail result at that entry's place; in the padding columns
    every summand is a product with zero. -/
theorem tail_point (c : Dev nD) (t : Fin cfg0.N) (y : S1024x640.Idx) (j : S8192x640.Idx) (h0 : (j 0 : ℕ) = t.val / 9 * 1024 + y 0) (h1 : (j 1 : ℕ) = y 1) :
    out5 m c t y = TAIL (m ((c : Thread nD τ).loc main_arg0)) (m ((c : Thread nD τ).loc main_arg1)) (m ((c : Thread nD τ).loc main_arg2)) j := by
  have hw := fun k => (tail_weight m c t k (y 1)).trans (joined_weight m c k (y 1))
  have hx := fun k => input_rows m c t (y 0) k (j 0) h0
  have hg := input_gain m c t
  have hj : (j 1 : Fin 640) = y 1 := Fin.ext h1
  unfold out5 rows
  generalize iblk m c 3 t = w at hw ⊢
  generalize iblk m c 0 t = x at hx ⊢
  generalize iblk m c 1 t = g at hg ⊢
  pointwise [k0_pay3]
  refine (Finset.sum_congr rfl fun k _ => congrArg (· * _) (normed_ideal x g (y 0) k)).trans ?_
  simp only [rms, hw, hx, hg, TAIL, hj]
  split
  · simp only [dotRow, rms]
  · split
    · simp only [dotRow, rms]
    · simp only [mul_zero, Finset.sum_const_zero]

/-- The main result's array after the run is `MAIN` of the arguments. -/
theorem final4 (c : Dev nD) : (dats m 0 c).arrAt 4 (cfgs 0).N = MAIN (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after4]
  refine main_point m c t y _ ?_ ?_ <;> blk_simp [idx t] <;> omega

/-- The tail result's array after the run is `TAIL` of the arguments. -/
theorem final5 (c : Dev nD) : (dats m 0 c).arrAt 5 (cfgs 0).N = TAIL (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after5]
  refine tail_point m c t y _ ?_ ?_ <;> blk_simp [idx t] <;> omega

/-- The idealised kernel's run with both results named as functions of the arguments. -/
theorem posted (g : Dev nD → PrngReg) : θ_run defs (onTc (τ := τ) (Cert.DnProjIdeal.main (F := Ideal))) ⟨m, fun _ => 0, g⟩ fun r => ∀ c : Dev nD,
      r.2.mem ((c : Thread nD τ).loc main_v9_0) = MAIN (m ((c : Thread nD τ).loc main_arg0)) (m ((c : Thread nD τ).loc main_arg1)) (m ((c : Thread nD τ).loc main_arg2))
      ∧ r.2.mem ((c : Thread nD τ).loc main_v9_1) = TAIL (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h.1 c).1 4).trans (final4 m c), ((h.1 c).1 5).trans (final5 m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩) (run m g)

set_option maxHeartbeats 4000000 in
/-- The idealised kernel and the idealised reference return the same two results. -/
theorem algebraic : Cert.algebraic_DnProjIdeal_DnProjRefIdeal := by
  intro m g m' g' _ hagree
  refine ⟨_, _, posted m g, ?_⟩
  refine (θ_run _ _ _).mono (fun r h c => ?_) (Cert.DnProjRefIdeal.Value.run m' g')
  obtain ⟨q0, q1, q2⟩ := hagree c
  refine ⟨(h c).1.trans ?_, (h c).2.1.trans ?_, (h c).2.2⟩
  · rw [q0, q1, q2]
    funext j
    have e0 : (hi (j 0) : ℕ) = (j 0 : ℕ) / 4096 := rfl
    have e1 : (lo (j 0) : ℕ) = (j 0 : ℕ) % 4096 := rfl
    pointwise [MAIN, dotRow, rms]
    blk_point []
  · rw [q0, q1, q2]
    funext j
    have e0 : (hi (j 0) : ℕ) = (j 0 : ℕ) / 4096 := rfl
    have e1 : (lo (j 0) : ℕ) = (j 0 : ℕ) % 4096 := rfl
    pointwise
    simp only [TAIL, dotRow, rms, show ((j 1 : ℕ) - 512 < 48) ↔ ((j 1 : ℕ) < 560) by omega]
    rfl
end Cert.DnProjIdeal.Value
end
-- ==== Proof.AttnValue.lean ====
module

public import proofs.«01_k».proof.Proof.Gen.AttnIdeal.Value
public import proofs.«01_k».proof.Proof.Gen.AttnRefIdeal.Run
public import proofs.«01_k».proof.Proof.Gen.Pre_attn_pre
public import proofs.«01_k».proof.Defs
public import Idealize.ShloMosaic.Lib.Pipeline.ValueKit
public import Idealize.ShloMosaic.Lib.Claim
public import Idealize.ShloMosaic.Lib.Pointwise

@[expose] public section

set_option maxRecDepth 16384

/-! The attention over the memory: four heads of 128 columns, scores over the 256 memory tokens of the row's batch entry, a softmax, and the weighted sum of the values. -/

noncomputable section

open Idealize.ShloMosaic Idealize.ShloMosaic.TcCoe Idealize.SL.Sem
open Idealize.ShloMosaic.Pipeline (Dat)

namespace Cert.AttnIdeal.Value
open Cert.AttnIdeal.Gen

/-- The score of a query `q` with each key, scaled by the inverse root of the head's width. -/
def score (q : Fin 128 → EReal) (k : Fin 256 → Fin 128 → EReal) (i : Fin 256) : EReal := (∑ d, q d * k i d) * (((Real.sqrt 128)⁻¹ : ℝ) : EReal)

/-- The largest score. -/
def top (s : Fin 256 → EReal) : EReal := Finset.univ.fold max ⊥ s

/-- The attention as the kernel computes it: the weighted sum of the values, divided by the sum of the weights. -/
def att (s v : Fin 256 → EReal) : EReal :=
  Ideal.div (∑ i, Ideal.exp (s i - top s) * v i) (∑ i, Ideal.exp (s i - top s))

/-- A sum of extended reals times a factor that is a nonnegative real is the sum of the products. -/
theorem sum_mul_real (f : Fin 256 → EReal) (r : ℝ) (hr : 0 ≤ r) : (∑ i, f i) * (r : EReal) = ∑ i, f i * (r : EReal) := by
  induction (Finset.univ : Finset (Fin 256)) using Finset.induction_on with
  | empty => simp
  | insert a t ha ih =>
    rw [Finset.sum_insert ha, Finset.sum_insert ha, EReal.right_distrib_of_nonneg_of_ne_top (EReal.coe_nonneg.mpr hr) (EReal.coe_ne_top r), ih]

/-- The coercion of a sum of reals is the sum of the coercions. -/
theorem sum_coe (f : Fin 256 → ℝ) : (∑ i, (f i : EReal)) = ((∑ i, f i : ℝ) : EReal) := by
  induction (Finset.univ : Finset (Fin 256)) using Finset.induction_on with
  | empty => simp
  | insert a t ha ih => rw [Finset.sum_insert ha, Finset.sum_insert ha, ih, EReal.coe_add]

/-- The largest of real scores is one of them. -/
theorem top_real (s : Fin 256 → ℝ) : ∃ i, top (fun i => (s i : EReal)) = (s i : EReal) := by
  obtain ⟨i, _, h⟩ := Finset.exists_mem_eq_sup (Finset.univ : Finset (Fin 256)) ⟨0, Finset.mem_univ _⟩ (fun i => (s i : EReal))
  exact ⟨i, h⟩

/-- With real scores, dividing the weighted sum by the sum of the weights is summing with the divided weights: the softmax. -/
theorem att_real (s : Fin 256 → ℝ) (v : Fin 256 → EReal) :
    att (fun i => (s i : EReal)) v = ∑ i, v i * Ideal.div (Ideal.exp ((s i : EReal) - top fun i => (s i : EReal))) (∑ l, Ideal.exp ((s l : EReal) - top fun i => (s i : EReal))) := by
  obtain ⟨i0, h⟩ := top_real s
  unfold att
  rw [h]
  have e : ∀ i, Ideal.exp ((s i : EReal) - (s i0 : EReal)) = ((Real.exp (s i - s i0) : ℝ) : EReal) := fun i => by
    rw [← EReal.coe_sub, Ideal.exp_coe]
  simp only [e, sum_coe]
  have hL : (0 : ℝ) < ∑ i, Real.exp (s i - s i0) := Finset.sum_pos (fun i _ => Real.exp_pos _) ⟨0, Finset.mem_univ _⟩
  simp only [Ideal.div_coe hL.ne']
  rw [sum_mul_real _ _ (one_div_pos.mpr hL).le]
  exact Finset.sum_congr rfl fun i _ => by rw [mul_comm (Real.exp (s i - s i0) : EReal) (v i), mul_assoc]

/-- With real queries and keys the scores are real. -/
theorem score_real (q : Fin 128 → EReal) (k : Fin 256 → Fin 128 → EReal) (hq : ∀ d, ∃ r : ℝ, q d = r) (hk : ∀ i d, ∃ r : ℝ, k i d = r) :
    ∃ s : Fin 256 → ℝ, score q k = fun i => (s i : EReal) := by
  choose q' hq using hq
  choose k' hk using hk
  refine ⟨fun i => (∑ d, q' d * k' i d) * (Real.sqrt 128)⁻¹, funext fun i => ?_⟩
  unfold score
  simp only [hq, hk, ← EReal.coe_mul]
  have h : ∀ f : Fin 128 → ℝ, (∑ d, (f d : EReal)) = ((∑ d, f d : ℝ) : EReal) := fun f => by
    induction (Finset.univ : Finset (Fin 128)) using Finset.induction_on with
    | empty => simp
    | insert a t ha ih => rw [Finset.sum_insert ha, Finset.sum_insert ha, ih, EReal.coe_add]
  rw [h, ← EReal.coe_mul]

/-- The third head's text is the first's. -/
theorem same7 : (k0_pay7 (F := Ideal)) = k0_pay2 := rfl
/-- The fourth head's text is the first's, cut in two. -/
theorem same1 (q : Vec Ideal S1024x128 .bf16) (k v : Vec Ideal S256x128 .bf16) : k0_pay1 (F := Ideal) v (k0_pay8 q k) = k0_pay2 q k v := rfl
/-- The second head's text is the first's, cut in four. -/
theorem same6 (q : Vec Ideal S1024x128 .bf16) (k v : Vec Ideal S256x128 .bf16) : k0_pay6 (F := Ideal) v (k0_pay4 q k) (k0_pay5 q k) (constant S1024x128 .f32 0x00000000#32) = k0_pay2 q k v := rfl

/-- The word of negative infinity. -/
theorem bot_word : Ideal.ofBits FTy.f32 4286578688#32 = ⊥ := by
  simp [Ideal.ofBits, Ideal.ieee]

/-- What the kernel computes for one head, entry by entry: the attention of the row's query. -/
theorem head (q : Vec Ideal S1024x128 .bf16) (k v : Vec Ideal S256x128 .bf16) (j : S1024x128.Idx) :
    k0_pay2 (F := Ideal) q k v j = att (score (fun d => q (ix2 (j 0) d)) fun i d => k (ix2 i d)) fun i => v (ix2 i (j 1)) := by
  pointwise [k0_pay2, att, score, top]
  simp only [bot_word]
  rfl

/-- The `d`-th column of the head that column `c` belongs to. -/
def col (c : Fin 512) (d : Fin 128) : Fin 512 := ⟨c.val / 128 * 128 + d.val, by omega⟩
/-- That column among the keys, which come before the values. -/
def kcol (c : Fin 512) (d : Fin 128) : Fin 1024 := ⟨c.val / 128 * 128 + d.val, by omega⟩
/-- Column `c` among the values, which come after the keys. -/
def vcol (c : Fin 512) : Fin 1024 := ⟨512 + c.val, by omega⟩

/-- What a grid point stores, from its block of queries and its block of keys and values. -/
def blk (x0 : Vec Ideal S1024x512 .bf16) (x1 : Vec Ideal S256x1024 .bf16) : Vec Ideal S1024x512 .bf16 := fun j =>
  att (score (fun d => x0 (ix2 (j 0) (col (j 1) d))) fun i d => x1 (ix2 i (kcol (j 1) d))) fun i => x1 (ix2 i (vcol (j 1)))

/-- The block that a grid point stores, put together from its four heads. -/
theorem out (x0 : Vec Ideal S1024x512 .bf16) (x1 : Vec Ideal S256x1024 .bf16) : out0_2 (F := Ideal) x0 x1 = blk x0 x1 := by
  funext y
  unfold out0_2
  simp only [same1, same6, same7]
  canon_tiles x h
  all_goals
    rw [head]
    refine congrArg₂ att (congrArg₂ score (funext fun d => ?_) (funext fun i => funext fun d => ?_)) (funext fun i => ?_)
  all_goals
    have e0 : ∀ d, (col (y 1) d : ℕ) = (y 1 : ℕ) / 128 * 128 + d := fun _ => rfl
    have e1 : ∀ d, (kcol (y 1) d : ℕ) = (y 1 : ℕ) / 128 * 128 + d := fun _ => rfl
    have e2 : (vcol (y 1) : ℕ) = 512 + (y 1 : ℕ) := rfl
    refine View.ld_unit_apply_of _ _ _ _ _ _ fun a => ?_
    have hy : (y 1 : ℕ) < 512 := (y 1).isLt
    fin_cases a <;> simp [e0, e1, e2, h0, h1] <;> omega

variable (m : (ℓ : Loc nD τ sig) → Buf (Elt Ideal) ℓ)

/-- The block that every window shows at a grid point, by its block coordinates. -/
theorem idx : ∀ t : Fin cfg0.N, win0_0.index t = ![t.val, 6] ∧ win0_1.index t = ![t.val / 4, 0] ∧ win0_2.index t = ![t.val, 0] :=
  (by decide +kernel : ∀ t : Fin grid0.N, _)

/-- The `d`-th query column of the head that column `c` belongs to: the queries come after the first 3072 columns of the projection. -/
def qcol (c : Fin 512) (d : Fin 128) : Fin 3584 := ⟨3072 + (c.val / 128 * 128 + d.val), by omega⟩
/-- The row of memory token `i` in the batch entry of row `r`. -/
def tok (r : Fin 8192) (i : Fin 256) : Fin 512 := ⟨r.val / 4096 * 256 + i.val, by omega⟩

/-- The scores of row `r`'s query for the head of column `c`. -/
def scores (P : Vec Ideal S8192x3584 .bf16) (K : Vec Ideal S512x1024 .bf16) (r : Fin 8192) (c : Fin 512) : Fin 256 → EReal :=
  score (fun d => P (ix2 r (qcol c d))) fun i d => K (ix2 (tok r i) (kcol c d))

/-- The attention over the memory, entry by entry, as the kernel computes it. -/
def ATT (P : Vec Ideal S8192x3584 .bf16) (K : Vec Ideal S512x1024 .bf16) : Vec Ideal S8192x512 .bf16 := fun j =>
  att (scores P K (j 0) (j 1)) fun i => K (ix2 (tok (j 0) i) (vcol (j 1)))

/-- The block that a grid point computes is the attention at the rows of the block. -/
theorem point (c : Dev nD) (t : Fin cfg0.N) (y : S1024x512.Idx) (j : S8192x512.Idx) (h0 : (j 0 : ℕ) = t.val * 1024 + y 0) (h1 : (j 1 : ℕ) = y 1) :
    blk (iblk m c 0 t) (iblk m c 1 t) y = ATT (m ((c : Thread nD τ).loc main_arg0)) (m ((c : Thread nD τ).loc main_arg1)) j := by
  have hd : (y 1 : Fin 512) = j 1 := Fin.ext h1.symm
  have hy : (y 0 : ℕ) < 1024 := (y 0).isLt
  have e0 : ∀ d, (col (j 1) d : ℕ) = (j 1 : ℕ) / 128 * 128 + d := fun _ => rfl
  have e1 : ∀ d, (kcol (j 1) d : ℕ) = (j 1 : ℕ) / 128 * 128 + d := fun _ => rfl
  have e2 : (vcol (j 1) : ℕ) = 512 + (j 1 : ℕ) := rfl
  have e3 : ∀ d, (qcol (j 1) d : ℕ) = 3072 + ((j 1 : ℕ) / 128 * 128 + d) := fun _ => rfl
  have e4 : ∀ i, (tok (j 0) i : ℕ) = (j 0 : ℕ) / 4096 * 256 + i := fun _ => rfl
  unfold blk ATT scores
  refine congrArg₂ att (congrArg₂ score (funext fun d => ?_) (funext fun i => funext fun d => ?_)) (funext fun i => ?_)
  all_goals rw [hd]
  all_goals
    blk_point [iblk, V, idx t]
    all_goals simp only [e0, e3, e4]
    all_goals omega

/-- The array that the kernel returns is the attention. -/
theorem final (c : Dev nD) : (dats m 0 c).arrAt 2 (cfgs 0).N = ATT (m ((c : Thread nD τ).loc main_arg0)) (m ((c : Thread nD τ).loc main_arg1)) := by
  refine (dats m 0 c).arrAt_eq_of_covers 2 _ (by decide +kernel) fun t _ y => ?_
  blk_simp
  rw [after0_2, out]
  refine point m c t y _ ?_ ?_ <;> blk_simp [idx t] <;> omega

/-- A number whose absolute value is below infinity is a real. -/
theorem real_of (x : EReal) (h : max x (-x) < ⊤) : ∃ r : ℝ, x = r := by
  induction x with
  | bot => simp at h
  | coe r => exact ⟨r, rfl⟩
  | top => simp at h

/-- The word of infinity. -/
theorem inf_word : Ideal.ofBits FTy.f32 2139095040#32 = ⊤ := by
  simp [Ideal.ofBits, Ideal.ieee]

/-- What the precondition says: every query column of the projection and every key column is real. -/
theorem finite (h : Cert.Pre_AttnIdeal_attn_pre m) (c : Dev nD) (a : Fin 2) (b : Fin 16) (r : Fin 256) (d : Fin 512) :
    (∃ x : ℝ, (m ((c : Thread nD τ).loc main_arg0)) (ix2 ⟨a.val * 4096 + b.val * 256 + r.val, by omega⟩ ⟨3072 + d.val, by omega⟩) = (x : EReal))
    ∧ ∃ x : ℝ, (m ((c : Thread nD τ).loc main_arg1)) (ix2 ⟨a.val * 256 + r.val, by omega⟩ ⟨d.val, by omega⟩) = (x : EReal) := by
  have e := congrFun (h c) (ix4 a b r d)
  pointwise [Cert.Pre_attn_pre.fn] at e
  rw [inf_word] at e
  have key : ∀ p q : Prop, ∀ [Decidable p] [Decidable q], IntOp.andi (BitVec.ofBool (decide p)) (BitVec.ofBool (decide q)) = 1#1 → p ∧ q := by
    intro p q _ _ h
    by_cases hp : p <;> by_cases hq : q <;> simp [hp, hq, IntOp.andi] at h ⊢
  obtain ⟨h0, h1⟩ := key _ _ e
  exact ⟨real_of _ h0, real_of _ h1⟩

/-- The word of 128. -/
theorem width_word : Ideal.ofBits FTy.f32 1124073472#32 = ((128 : ℝ) : EReal) := by
  simp [Ideal.ofBits, Ideal.ieee, -EReal.coe_mul]; norm_num

/-- Dividing by the root of the width is multiplying by its inverse. -/
theorem div_root (x : EReal) : Ideal.div x (Ideal.sqrt (Ideal.ofBits FTy.f32 1124073472#32)) = x * (((Real.sqrt 128)⁻¹ : ℝ) : EReal) := by
  have h : (Real.sqrt 128) ≠ 0 := by positivity
  rw [width_word, Ideal.sqrt_coe, if_neg (by norm_num), Ideal.div_coe h, one_div]

set_option maxHeartbeats 4000000 in
/-- The reference's scores, entry by entry. -/
theorem scores_host (P : FVec Ideal S8192x3584 .bf16) (K : FVec Ideal S512x1024 .bf16) (h1 h2 h3 h4 h5 h6 h7 h8 h9) (b : Fin 2) (h : Fin 4) (s : Fin 4096) (i : Fin 256) :
    Host.divf (F := Ideal) (Host.dotGeneral AttnRefIdeal.dot_S2x4096x4x128_S2x256x4x128_S2x4x4096x256_3_3_1_1_02_02 none
        (fun i => shapeCast AttnRefIdeal.main_v9.ty.shape (extractStridedSlice AttnRefIdeal.S2x4096x512 ![0, 0, 3072] (fun i => shapeCast AttnRefIdeal.main_v1.ty.shape (extf FTy.f32 P h1) h2 i) h3) h4 i)
        fun i => shapeCast AttnRefIdeal.main_v7.ty.shape (extractStridedSlice AttnRefIdeal.S2x256x512 ![0, 0, 0] (fun i => shapeCast AttnRefIdeal.main_v4.ty.shape (extf FTy.f32 K h5) h6 i) h7) h8 i)
      (broadcastInDim AttnRefIdeal.S2x4x4096x256 ![] h9 (Host.sqrt (constant AttnRefIdeal.S_ FTy.f32 1124073472#32))) (ix4 b h s i)
    = scores P K ⟨b.val * 4096 + s.val, by omega⟩ ⟨h.val * 128, by omega⟩ i := by
  pointwise [scores, score]
  rw [div_root]
  refine congrArg (· * _) (Finset.sum_congr rfl fun d _ => congrArg₂ (fun x y => P x * K y) (congrArg₂ ix2 rfl (Fin.ext ?_)) (congrArg₂ ix2 (Fin.ext ?_) (Fin.ext ?_)))
  all_goals simp only [qcol, tok, kcol]
  all_goals omega

/-- The reference's largest scores. -/
theorem tops_host (S : FVec Ideal AttnRefIdeal.S2x4x4096x256 .f32) (h4 h5) (b : Fin 2) (h : Fin 4) (s : Fin 4096) :
    Host.reduce (axes := [3]) (t := AttnRefIdeal.S2x4x4096) (FloatOps.maximumf (F := Ideal)) S (constant (F := Ideal) AttnRefIdeal.S_ FTy.f32 4286578688#32) h4 h5 (ix3 b h s)
    = top fun l => S (ix4 b h s l) := by
  pointwise [top]
  rw [bot_word]

/-- The reference's weights before they are divided: the exponentials of the scores less the largest one. -/
theorem weights_host (S : FVec Ideal AttnRefIdeal.S2x4x4096x256 .f32) (M : FVec Ideal AttnRefIdeal.S2x4x4096 .f32) (h1 h2 h3) (b : Fin 2) (h : Fin 4) (s : Fin 4096) (i : Fin 256) :
    Host.exp (F := Ideal) (subf S (broadcastInDim AttnRefIdeal.S2x4x4096x256 ![0, 1, 2, 3] h1 (broadcastInDim AttnRefIdeal.S2x4x4096x1 ![0, 1, 2] h2
      (maximumf (broadcastInDim AttnRefIdeal.S2x4x4096 ![] h3 (constant (F := Ideal) AttnRefIdeal.S_ FTy.f32 4286578688#32)) M)))) (ix4 b h s i)
    = Ideal.exp (S (ix4 b h s i) - M (ix3 b h s)) := by
  pointwise []
  rw [bot_word, max_eq_right bot_le]

set_option maxHeartbeats 4000000 in
/-- The reference's weights: each divided by the sum of the row's. -/
theorem shares_host (W : FVec Ideal AttnRefIdeal.S2x4x4096x256 .f32) (h1 h2 h3 h4) (b : Fin 2) (h : Fin 4) (s : Fin 4096) (i : Fin 256) :
    Host.divf (F := Ideal) W (broadcastInDim AttnRefIdeal.S2x4x4096x256 ![0, 1, 2, 3] h1 (broadcastInDim AttnRefIdeal.S2x4x4096x1 ![0, 1, 2] h2
      (Host.reduceAdd (axes := [3]) (t := AttnRefIdeal.S2x4x4096) W (constant AttnRefIdeal.S_ FTy.f32 0#32) h3 h4))) (ix4 b h s i)
    = Ideal.div (W (ix4 b h s i)) (∑ l, W (ix4 b h s l)) := by
  pointwise []

/-- Row `r` counted by batch entry and position, and column `c` counted by head, have the scores of row `r` and column `c`. -/
theorem scores_row (P : Vec Ideal S8192x3584 .bf16) (K : Vec Ideal S512x1024 .bf16) (r : Fin 8192) (c : Fin 512) (r' : Fin 8192) (c' : Fin 512) (hr : r'.val = r.val / 4096 * 4096 + r.val % 4096)
    (hc : c'.val = c.val / 128 * 128) : scores P K r' c' = scores P K r c := by
  have e : r' = r := Fin.ext (by omega)
  subst e
  unfold scores
  have h : c'.val / 128 * 128 = c.val / 128 * 128 := by omega
  have hq : ∀ d, qcol c' d = qcol c d := fun d => Fin.ext (by simp only [qcol, h])
  have hk : ∀ d, kcol c' d = kcol c d := fun d => Fin.ext (by simp only [kcol, h])
  simp only [hq, hk]

/-- Under the precondition every score is real. -/
theorem scores_real (P : Vec Ideal S8192x3584 .bf16) (K : Vec Ideal S512x1024 .bf16) (fin : ∀ (a : Fin 2) (b : Fin 16) (r : Fin 256) (d : Fin 512),
    (∃ x : ℝ, P (ix2 ⟨a.val * 4096 + b.val * 256 + r.val, by omega⟩ ⟨3072 + d.val, by omega⟩) = (x : EReal))
    ∧ ∃ x : ℝ, K (ix2 ⟨a.val * 256 + r.val, by omega⟩ ⟨d.val, by omega⟩) = (x : EReal))
    (r : Fin 8192) (c : Fin 512) : ∃ x : Fin 256 → ℝ, scores P K r c = fun i => (x i : EReal) := by
  refine score_real _ _ (fun d => ?_) fun i d => ?_
  · obtain ⟨x, e⟩ := (fin ⟨r.val / 4096, by omega⟩ ⟨r.val % 4096 / 256, by omega⟩ ⟨r.val % 256, by omega⟩ (col c d)).1
    have h0 : r = ⟨r.val / 4096 * 4096 + r.val % 4096 / 256 * 256 + r.val % 256, by omega⟩ := Fin.ext (by simp only; omega)
    have h1 : qcol c d = ⟨3072 + (col c d).val, by omega⟩ := rfl
    refine ⟨x, ?_⟩
    rw [← e, h1, ← h0]
  · obtain ⟨x, e⟩ := (fin ⟨r.val / 4096, by omega⟩ 0 i (col c d)).2
    exact ⟨x, e⟩

/-- The sum with values `a` and weights `w` is the attention, when the weights are the softmax of real scores. -/
theorem att_shares (s v : Fin 256 → EReal) (x : Fin 256 → ℝ) (hx : s = fun i => (x i : EReal)) (a w : Fin 256 → EReal) (ha : ∀ i, a i = v i)
    (hw : ∀ i, w i = Ideal.div (Ideal.exp ((x i : EReal) - top fun i => (x i : EReal))) (∑ l, Ideal.exp ((x l : EReal) - top fun i => (x i : EReal)))) :
    ∑ i, a i * w i = att s v := by
  rw [hx, att_real]
  exact Finset.sum_congr rfl fun i _ => by rw [ha, hw]

set_option maxHeartbeats 1000000 in
/-- The claim: from the same arguments the ideal kernel and the ideal reference return the same array. -/
theorem algebraic : Cert.algebraic_AttnIdeal_AttnRefIdeal_pre_attn_pre := by
  pair_intro
  · run_from Cert.AttnIdeal.Gen.run_main m g
  · hlo_run
    rw [final m c]
    have real := scores_real _ _ (finite m hpre c)
    generalize hS : Host.divf (F := Ideal) (Host.dotGeneral AttnRefIdeal.dot_S2x4096x4x128_S2x256x4x128_S2x4x4096x256_3_3_1_1_02_02 none _ _) _ = S
    have hat : ∀ b h s i, S (ix4 b h s i) = scores (m ((c : Thread nD τ).loc main_arg0)) (m ((c : Thread nD τ).loc main_arg1)) ⟨b.val * 4096 + s.val, by omega⟩ ⟨h.val * 128, by omega⟩ i := by
      intro b h s i
      rw [← hS]
      exact scores_host ..
    clear hS
    generalize hM : Host.reduce (FloatOps.maximumf (F := Ideal)) S _ _ _ = M
    have hm : ∀ b h s, M (ix3 b h s) = top fun l => S (ix4 b h s l) := by
      intro b h s
      rw [← hM]
      exact tops_host ..
    clear hM
    generalize hW : Host.exp (F := Ideal) (subf S _) = W
    have hw : ∀ b h s i, W (ix4 b h s i) = Ideal.exp (S (ix4 b h s i) - M (ix3 b h s)) := by
      intro b h s i
      rw [← hW]
      exact weights_host ..
    clear hW
    generalize hQ : Host.divf (F := Ideal) W _ = Q
    have hq : ∀ b h s i, Q (ix4 b h s i) = Ideal.div (W (ix4 b h s i)) (∑ l, W (ix4 b h s l)) := by
      intro b h s i
      rw [← hQ]
      exact shares_host ..
    clear hQ
    funext j
    have hr : (j 0 : ℕ) < 8192 := (j 0).isLt
    have hc : (j 1 : ℕ) < 512 := (j 1).isLt
    obtain ⟨x, hx⟩ := real (j 0) (j 1)
    have row := scores_row (m ((c : Thread nD τ).loc main_arg0)) (m ((c : Thread nD τ).loc main_arg1)) (j 0) (j 1) ⟨(j 0 : ℕ) / 4096 * 4096 + (j 0 : ℕ) % 4096, by omega⟩ ⟨(j 1 : ℕ) / 128 * 128, by omega⟩ rfl rfl
    clear hpre real
    generalize m ((c : Thread nD τ).loc main_arg0) = P at *
    generalize m ((c : Thread nD τ).loc main_arg1) = K at *
    pointwise [ATT]
    refine att_shares (scores P K (j 0) (j 1)) _ x hx _ _ (fun i => ?_) fun i => ?_
    · refine congrArg K (congrArg₂ ix2 (Fin.ext ?_) (Fin.ext ?_))
      · simp only [tok]
      · simp only [vcol]
        omega
    · have hs : ∀ l, S (ix4 ⟨(j 0 : ℕ) / 4096, by omega⟩ ⟨(j 1 : ℕ) / 128, by omega⟩ ⟨(j 0 : ℕ) % 4096, by omega⟩ l) = (x l : EReal) :=
        fun l => (hat _ _ _ l).trans (congrFun (row.trans hx) l)
      refine (hq _ _ _ i).trans (congrArg₂ Ideal.div ?_ (Finset.sum_congr rfl fun l _ => ?_))
      · exact (hw _ _ _ i).trans (congrArg Ideal.exp (congrArg₂ (· - ·) (hs i) ((hm _ _ _).trans (congrArg top (funext hs)))))
      · exact (hw _ _ _ l).trans (congrArg Ideal.exp (congrArg₂ (· - ·) (hs l) ((hm _ _ _).trans (congrArg top (funext hs)))))
end Cert.AttnIdeal.Value
end
-- ==== Proof.AttnDnValue.lean ====
module

public import proofs.«01_k».proof.Proof.AttnValue
public import proofs.«01_k».proof.Proof.Gen.AttnDnIdeal.Value
public import proofs.«01_k».proof.Proof.Gen.AttnDnRefIdeal.Run
public import proofs.«01_k».proof.Proof.Gen.Pre_attndn_pre
public import proofs.«01_k».proof.Defs
public import Idealize.ShloMosaic.Lib.Pipeline.ValueKit
public import Idealize.ShloMosaic.Lib.Claim
public import Idealize.ShloMosaic.Lib.Pointwise

@[expose] public section

set_option maxRecDepth 16384

/-! The attention over the memory in a delta rule layer, with float32 queries that stand first in their array: four heads of 128 columns, scores over the 256 memory tokens of the row's batch entry, a softmax, and the weighted sum of the values. -/

noncomputable section

open Idealize.ShloMosaic Idealize.ShloMosaic.TcCoe Idealize.SL.Sem
open Idealize.ShloMosaic.Pipeline (Dat)

namespace Cert.AttnDnIdeal.Value
open Cert.AttnDnIdeal.Gen
open Cert.AttnIdeal.Value (score top att score_real bot_word col kcol vcol tok real_of inf_word width_word div_root att_shares)

/-- The second head's text is the first's, cut in three. -/
theorem same5 (q : Vec Ideal S1024x128 .f32) (k v : Vec Ideal S256x128 .bf16) : k0_pay5 (F := Ideal) v (k0_pay3 q k) (k0_pay4 q k) = k0_pay2 q k v := rfl
/-- The third head's text is the first's. -/
theorem same6 : (k0_pay6 (F := Ideal)) = k0_pay2 := rfl
/-- The fourth head's text is the first's, cut in two. -/
theorem same1 (q : Vec Ideal S1024x128 .f32) (k v : Vec Ideal S256x128 .bf16) : k0_pay1 (F := Ideal) v (k0_pay7 q k) = k0_pay2 q k v := rfl

/-- What the kernel computes for one head, entry by entry: the attention of the row's query. -/
theorem head (q : Vec Ideal S1024x128 .f32) (k v : Vec Ideal S256x128 .bf16) (j : S1024x128.Idx) :
    k0_pay2 (F := Ideal) q k v j = att (score (fun d => q (ix2 (j 0) d)) fun i d => k (ix2 i d)) fun i => v (ix2 i (j 1)) := by
  pointwise [k0_pay2, att, score, top]
  simp only [bot_word]
  rfl

/-- What a grid point stores, from its block of queries and its block of keys and values. -/
def blk (x0 : Vec Ideal S1024x512 .f32) (x1 : Vec Ideal S256x1024 .bf16) : Vec Ideal S1024x512 .bf16 := fun j =>
  att (score (fun d => x0 (ix2 (j 0) (col (j 1) d))) fun i d => x1 (ix2 i (kcol (j 1) d))) fun i => x1 (ix2 i (vcol (j 1)))

/-- The block that a grid point stores, put together from its four heads. -/
theorem out (c : Dev nD) (i : grid0.Coords) (arg2 : Memref sig .tc .vmem S1024x512 .f32) (harg2 : arg2.IsWhole) (arg3 : Memref sig .tc .vmem S256x1024 .bf16) (harg3 : arg3.IsWhole) (arg4 : Memref sig .tc .vmem S1024x512 .bf16) (harg4 : arg4.IsWhole)
    (x0 : Vec Ideal S1024x512 .f32) (x1 : Vec Ideal S256x1024 .bf16) : out0_A_2 (F := Ideal) c i arg2 harg2 arg3 harg3 arg4 harg4 x0 x1 = blk x0 x1 := by
  frame_out
  funext y
  simp only [same1, same5, same6]
  canon_tiles x h
  all_goals
    rw [head]
    refine congrArg₂ att (congrArg₂ score (funext fun d => ?_) (funext fun i => funext fun d => ?_)) (funext fun i => ?_)
  all_goals
    have e0 : ∀ d, (col (y 1) d : ℕ) = (y 1 : ℕ) / 128 * 128 + d := fun _ => rfl
    have e1 : ∀ d, (kcol (y 1) d : ℕ) = (y 1 : ℕ) / 128 * 128 + d := fun _ => rfl
    have e2 : (vcol (y 1) : ℕ) = 512 + (y 1 : ℕ) := rfl
    refine View.ld_unit_apply_of _ _ _ _ _ _ fun a => ?_
    have hy : (y 1 : ℕ) < 512 := (y 1).isLt
    fin_cases a <;> simp [e0, e1, e2, h0, h1] <;> omega

variable (m : (ℓ : Loc nD τ sig) → Buf (Elt Ideal) ℓ)

/-- The block that every window shows at a grid point, by its block coordinates. -/
theorem idx : ∀ t : Fin cfg0.N, win0_0.index t = ![t.val, 0] ∧ win0_1.index t = ![t.val / 4, 0] ∧ win0_2.index t = ![t.val, 0] :=
  (by decide +kernel : ∀ t : Fin grid0.N, _)

/-- The `d`-th query column of the head that column `c` belongs to. -/
def qcol (c : Fin 512) (d : Fin 128) : Fin 640 := ⟨c.val / 128 * 128 + d.val, by omega⟩

/-- The scores of row `r`'s query for the head of column `c`. -/
def scores (P : Vec Ideal S8192x640 .f32) (K : Vec Ideal S512x1024 .bf16) (r : Fin 8192) (c : Fin 512) : Fin 256 → EReal :=
  score (fun d => P (ix2 r (qcol c d))) fun i d => K (ix2 (tok r i) (kcol c d))

/-- The attention over the memory, entry by entry, as the kernel computes it. -/
def ATT (P : Vec Ideal S8192x640 .f32) (K : Vec Ideal S512x1024 .bf16) : Vec Ideal S8192x512 .bf16 := fun j =>
  att (scores P K (j 0) (j 1)) fun i => K (ix2 (tok (j 0) i) (vcol (j 1)))

/-- The queries that a grid point reads are those of its rows. -/
theorem queries (c : Dev nD) (t : Fin cfg0.N) (y : S1024x512.Idx) (j : S8192x640.Idx) (h0 : (j 0 : ℕ) = t.val * 1024 + y 0) (h1 : (j 1 : ℕ) = y 1) :
    X0_0 m c t y = (m ((c : Thread nD τ).loc main_arg0)) j := by
  unfold X0_0 Pipeline.Window.fill
  rw [dif_pos (moved0_0 t y)]
  blk_point [iblk, V, idx t]

/-- The block that a grid point computes is the attention at the rows of the block. -/
theorem point (c : Dev nD) (t : Fin cfg0.N) (y : S1024x512.Idx) (j : S8192x512.Idx) (h0 : (j 0 : ℕ) = t.val * 1024 + y 0) (h1 : (j 1 : ℕ) = y 1) :
    blk (X0_0 m c t) (iblk m c 1 t) y = ATT (m ((c : Thread nD τ).loc main_arg0)) (m ((c : Thread nD τ).loc main_arg1)) j := by
  have hd : (y 1 : Fin 512) = j 1 := Fin.ext h1.symm
  have hy : (y 0 : ℕ) < 1024 := (y 0).isLt
  have e0 : ∀ d, (col (j 1) d : ℕ) = (j 1 : ℕ) / 128 * 128 + d := fun _ => rfl
  have e1 : ∀ d, (kcol (j 1) d : ℕ) = (j 1 : ℕ) / 128 * 128 + d := fun _ => rfl
  have e2 : (vcol (j 1) : ℕ) = 512 + (j 1 : ℕ) := rfl
  have e3 : ∀ d, (qcol (j 1) d : ℕ) = (j 1 : ℕ) / 128 * 128 + d := fun _ => rfl
  have e4 : ∀ i, (tok (j 0) i : ℕ) = (j 0 : ℕ) / 4096 * 256 + i := fun _ => rfl
  unfold blk ATT scores
  refine congrArg₂ att (congrArg₂ score (funext fun d => ?_) (funext fun i => funext fun d => ?_)) (funext fun i => ?_)
  all_goals rw [hd]
  · refine queries m c t _ _ ?_ ?_
    · exact h0
    · rfl
  all_goals
    blk_point [iblk, V, idx t]
    all_goals simp only [e0, e4]
    all_goals omega

/-- The array that the kernel returns is the attention. -/
theorem final (c : Dev nD) : (dats m 0 c).arrAt 2 (cfgs 0).N = ATT (m ((c : Thread nD τ).loc main_arg0)) (m ((c : Thread nD τ).loc main_arg1)) := by
  refine (dats m 0 c).arrAt_eq_of_covers 2 _ (by decide +kernel) fun t _ y => ?_
  blk_simp
  rw [after0_2]
  unfold outsAt0
  rw [out]
  refine point m c t y _ ?_ ?_ <;> blk_simp [idx t] <;> omega

/-- What the precondition says: every query column of the projection and every key column is real. -/
theorem finite (h : Cert.Pre_AttnDnIdeal_attndn_pre m) (c : Dev nD) (a : Fin 2) (b : Fin 16) (r : Fin 256) (d : Fin 512) :
    (∃ x : ℝ, (m ((c : Thread nD τ).loc main_arg0)) (ix2 ⟨a.val * 4096 + b.val * 256 + r.val, by omega⟩ ⟨d.val, by omega⟩) = (x : EReal))
    ∧ ∃ x : ℝ, (m ((c : Thread nD τ).loc main_arg1)) (ix2 ⟨a.val * 256 + r.val, by omega⟩ ⟨d.val, by omega⟩) = (x : EReal) := by
  have e := congrFun (h c) (ix4 a b r d)
  pointwise [Cert.Pre_attndn_pre.fn] at e
  rw [inf_word] at e
  have key : ∀ p q : Prop, ∀ [Decidable p] [Decidable q], IntOp.andi (BitVec.ofBool (decide p)) (BitVec.ofBool (decide q)) = 1#1 → p ∧ q := by
    intro p q _ _ h
    by_cases hp : p <;> by_cases hq : q <;> simp [hp, hq, IntOp.andi] at h ⊢
  obtain ⟨h0, h1⟩ := key _ _ e
  exact ⟨real_of _ h0, real_of _ h1⟩

set_option maxHeartbeats 4000000 in
/-- The reference's scores, entry by entry. -/
theorem scores_host (P : FVec Ideal S8192x640 .f32) (K : FVec Ideal S512x1024 .bf16) (h2 h3 h4 h5 h6 h7 h8 h9) (b : Fin 2) (h : Fin 4) (s : Fin 4096) (i : Fin 256) :
    Host.divf (F := Ideal) (Host.dotGeneral AttnDnRefIdeal.dot_S2x4096x4x128_S2x256x4x128_S2x4x4096x256_3_3_1_1_02_02 none
        (fun i => shapeCast AttnDnRefIdeal.main_v8.ty.shape (extractStridedSlice AttnDnRefIdeal.S2x4096x512 ![0, 0, 0] (fun i => shapeCast AttnDnRefIdeal.main_v0.ty.shape P h2 i) h3) h4 i)
        fun i => shapeCast AttnDnRefIdeal.main_v6.ty.shape (extractStridedSlice AttnDnRefIdeal.S2x256x512 ![0, 0, 0] (fun i => shapeCast AttnDnRefIdeal.main_v3.ty.shape (extf FTy.f32 K h5) h6 i) h7) h8 i)
      (broadcastInDim AttnDnRefIdeal.S2x4x4096x256 ![] h9 (Host.sqrt (constant AttnDnRefIdeal.S_ FTy.f32 1124073472#32))) (ix4 b h s i)
    = scores P K ⟨b.val * 4096 + s.val, by omega⟩ ⟨h.val * 128, by omega⟩ i := by
  pointwise [scores, score]
  rw [div_root]
  refine congrArg (· * _) (Finset.sum_congr rfl fun d _ => congrArg₂ (fun x y => P x * K y) (congrArg₂ ix2 rfl (Fin.ext ?_)) (congrArg₂ ix2 (Fin.ext ?_) (Fin.ext ?_)))
  all_goals simp only [qcol, tok, kcol]
  all_goals omega

/-- The reference's largest scores. -/
theorem tops_host (S : FVec Ideal AttnDnRefIdeal.S2x4x4096x256 .f32) (h4 h5) (b : Fin 2) (h : Fin 4) (s : Fin 4096) :
    Host.reduce (axes := [3]) (t := AttnDnRefIdeal.S2x4x4096) (FloatOps.maximumf (F := Ideal)) S (constant (F := Ideal) AttnDnRefIdeal.S_ FTy.f32 4286578688#32) h4 h5 (ix3 b h s)
    = top fun l => S (ix4 b h s l) := by
  pointwise [top]
  rw [bot_word]

/-- The reference's weights before they are divided: the exponentials of the scores less the largest one. -/
theorem weights_host (S : FVec Ideal AttnDnRefIdeal.S2x4x4096x256 .f32) (M : FVec Ideal AttnDnRefIdeal.S2x4x4096 .f32) (h1 h2 h3) (b : Fin 2) (h : Fin 4) (s : Fin 4096) (i : Fin 256) :
    Host.exp (F := Ideal) (subf S (broadcastInDim AttnDnRefIdeal.S2x4x4096x256 ![0, 1, 2, 3] h1 (broadcastInDim AttnDnRefIdeal.S2x4x4096x1 ![0, 1, 2] h2
      (maximumf (broadcastInDim AttnDnRefIdeal.S2x4x4096 ![] h3 (constant (F := Ideal) AttnDnRefIdeal.S_ FTy.f32 4286578688#32)) M)))) (ix4 b h s i)
    = Ideal.exp (S (ix4 b h s i) - M (ix3 b h s)) := by
  pointwise []
  rw [bot_word, max_eq_right bot_le]

set_option maxHeartbeats 4000000 in
/-- The reference's weights: each divided by the sum of the row's. -/
theorem shares_host (W : FVec Ideal AttnDnRefIdeal.S2x4x4096x256 .f32) (h1 h2 h3 h4) (b : Fin 2) (h : Fin 4) (s : Fin 4096) (i : Fin 256) :
    Host.divf (F := Ideal) W (broadcastInDim AttnDnRefIdeal.S2x4x4096x256 ![0, 1, 2, 3] h1 (broadcastInDim AttnDnRefIdeal.S2x4x4096x1 ![0, 1, 2] h2
      (Host.reduceAdd (axes := [3]) (t := AttnDnRefIdeal.S2x4x4096) W (constant AttnDnRefIdeal.S_ FTy.f32 0#32) h3 h4))) (ix4 b h s i)
    = Ideal.div (W (ix4 b h s i)) (∑ l, W (ix4 b h s l)) := by
  pointwise []

/-- Row `r` counted by batch entry and position, and column `c` counted by head, have the scores of row `r` and column `c`. -/
theorem scores_row (P : Vec Ideal S8192x640 .f32) (K : Vec Ideal S512x1024 .bf16) (r : Fin 8192) (c : Fin 512) (r' : Fin 8192) (c' : Fin 512) (hr : r'.val = r.val / 4096 * 4096 + r.val % 4096)
    (hc : c'.val = c.val / 128 * 128) : scores P K r' c' = scores P K r c := by
  have e : r' = r := Fin.ext (by omega)
  subst e
  unfold scores
  have h : c'.val / 128 * 128 = c.val / 128 * 128 := by omega
  have hq : ∀ d, qcol c' d = qcol c d := fun d => Fin.ext (by simp only [qcol, h])
  have hk : ∀ d, kcol c' d = kcol c d := fun d => Fin.ext (by simp only [kcol, h])
  simp only [hq, hk]

/-- Under the precondition every score is real. -/
theorem scores_real (P : Vec Ideal S8192x640 .f32) (K : Vec Ideal S512x1024 .bf16) (fin : ∀ (a : Fin 2) (b : Fin 16) (r : Fin 256) (d : Fin 512),
    (∃ x : ℝ, P (ix2 ⟨a.val * 4096 + b.val * 256 + r.val, by omega⟩ ⟨d.val, by omega⟩) = (x : EReal))
    ∧ ∃ x : ℝ, K (ix2 ⟨a.val * 256 + r.val, by omega⟩ ⟨d.val, by omega⟩) = (x : EReal))
    (r : Fin 8192) (c : Fin 512) : ∃ x : Fin 256 → ℝ, scores P K r c = fun i => (x i : EReal) := by
  refine score_real _ _ (fun d => ?_) fun i d => ?_
  · obtain ⟨x, e⟩ := (fin ⟨r.val / 4096, by omega⟩ ⟨r.val % 4096 / 256, by omega⟩ ⟨r.val % 256, by omega⟩ (col c d)).1
    have h0 : r = ⟨r.val / 4096 * 4096 + r.val % 4096 / 256 * 256 + r.val % 256, by omega⟩ := Fin.ext (by simp only; omega)
    have h1 : qcol c d = ⟨(col c d).val, by omega⟩ := rfl
    refine ⟨x, ?_⟩
    rw [← e, h1, ← h0]
  · obtain ⟨x, e⟩ := (fin ⟨r.val / 4096, by omega⟩ 0 i (col c d)).2
    exact ⟨x, e⟩

set_option maxHeartbeats 1000000 in
/-- The claim: from the same arguments the ideal kernel and the ideal reference return the same array. -/
theorem algebraic : Cert.algebraic_AttnDnIdeal_AttnDnRefIdeal_pre_attndn_pre := by
  pair_intro
  · run_from Cert.AttnDnIdeal.Gen.run_main m g
  · hlo_run
    rw [final m c]
    have real := scores_real _ _ (finite m hpre c)
    generalize hS : Host.divf (F := Ideal) (Host.dotGeneral AttnDnRefIdeal.dot_S2x4096x4x128_S2x256x4x128_S2x4x4096x256_3_3_1_1_02_02 none _ _) _ = S
    have hat : ∀ b h s i, S (ix4 b h s i) = scores (m ((c : Thread nD τ).loc main_arg0)) (m ((c : Thread nD τ).loc main_arg1)) ⟨b.val * 4096 + s.val, by omega⟩ ⟨h.val * 128, by omega⟩ i := by
      intro b h s i
      rw [← hS]
      exact scores_host ..
    clear hS
    generalize hM : Host.reduce (FloatOps.maximumf (F := Ideal)) S _ _ _ = M
    have hm : ∀ b h s, M (ix3 b h s) = top fun l => S (ix4 b h s l) := by
      intro b h s
      rw [← hM]
      exact tops_host ..
    clear hM
    generalize hW : Host.exp (F := Ideal) (subf S _) = W
    have hw : ∀ b h s i, W (ix4 b h s i) = Ideal.exp (S (ix4 b h s i) - M (ix3 b h s)) := by
      intro b h s i
      rw [← hW]
      exact weights_host ..
    clear hW
    generalize hQ : Host.divf (F := Ideal) W _ = Q
    have hq : ∀ b h s i, Q (ix4 b h s i) = Ideal.div (W (ix4 b h s i)) (∑ l, W (ix4 b h s l)) := by
      intro b h s i
      rw [← hQ]
      exact shares_host ..
    clear hQ
    funext j
    have hr : (j 0 : ℕ) < 8192 := (j 0).isLt
    have hc : (j 1 : ℕ) < 512 := (j 1).isLt
    obtain ⟨x, hx⟩ := real (j 0) (j 1)
    have row := scores_row (m ((c : Thread nD τ).loc main_arg0)) (m ((c : Thread nD τ).loc main_arg1)) (j 0) (j 1) ⟨(j 0 : ℕ) / 4096 * 4096 + (j 0 : ℕ) % 4096, by omega⟩ ⟨(j 1 : ℕ) / 128 * 128, by omega⟩ rfl rfl
    clear hpre real
    generalize m ((c : Thread nD τ).loc main_arg0) = P at *
    generalize m ((c : Thread nD τ).loc main_arg1) = K at *
    pointwise [ATT]
    refine att_shares (scores P K (j 0) (j 1)) _ x hx _ _ (fun i => ?_) fun i => ?_
    · refine congrArg K (congrArg₂ ix2 (Fin.ext ?_) (Fin.ext ?_))
      · simp only [tok]
      · simp only [vcol]
        omega
    · have hs : ∀ l, S (ix4 ⟨(j 0 : ℕ) / 4096, by omega⟩ ⟨(j 1 : ℕ) / 128, by omega⟩ ⟨(j 0 : ℕ) % 4096, by omega⟩ l) = (x l : EReal) :=
        fun l => (hat _ _ _ l).trans (congrFun (row.trans hx) l)
      refine (hq _ _ _ i).trans (congrArg₂ Ideal.div ?_ (Finset.sum_congr rfl fun l _ => ?_))
      · exact (hw _ _ _ i).trans (congrArg Ideal.exp (congrArg₂ (· - ·) (hs i) ((hm _ _ _).trans (congrArg top (funext hs)))))
      · exact (hw _ _ _ l).trans (congrArg Ideal.exp (congrArg₂ (· - ·) (hs l) ((hm _ _ _).trans (congrArg top (funext hs)))))
end Cert.AttnDnIdeal.Value
end
-- ==== Proof.DnLoops.lean ====
module

public import proofs.«01_k».proof.Proof.Gen.DnIdeal.Skeleton
public import Idealize.ShloMosaic.Lib.Exec
public import Idealize.ShloMosaic.Lib.Tactic
public import Idealize.ShloMosaic.Lib.Pipeline.Kit

/-! The two counted loops of the delta-rule mixer, for any float values: each trip reads the staged
blocks and the scratch masks, and writes one buffer (the accumulator in the pipelined loop, the
result block in the finishing loop). -/

@[expose] public section

set_option maxRecDepth 200000
set_option maxHeartbeats 4000000

noncomputable section

namespace Cert.DnIdeal.Run

open Cert.DnIdeal Cert.DnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (i : grid0.Coords)
  (arg2 : Memref sig .tc .vmem S1x4096x128 .f32) (harg2 : arg2.IsWhole)
  (arg3 : Memref sig .tc .vmem S1x4096x384 .bf16) (harg3 : arg3.IsWhole)
  (arg4 : Memref sig .tc .vmem S1x4096x384 .bf16) (harg4 : arg4.IsWhole)
  (arg5 : Memref sig .tc .vmem S1x4096x384 .bf16) (harg5 : arg5.IsWhole)
  (arg6 : Memref sig .tc .vmem S1x4096x384 .bf16) (harg6 : arg6.IsWhole)
  (arg7 : Memref sig .tc .vmem S1x128 .f32) (harg7 : arg7.IsWhole)
  (arg8 : Memref sig .tc .vmem S1x128 .f32) (harg8 : arg8.IsWhole)
  (arg9 : Memref sig .tc .vmem S1x128 .f32) (harg9 : arg9.IsWhole)
  (arg10 : Memref sig .tc .vmem S1x4096x384 .bf16) (harg10 : arg10.IsWhole)
  (arg11 : Memref sig .tc .vmem S4096x384 .f32) (harg11 : arg11.IsWhole)
  (arg12 : Memref sig .tc .vmem S2x256x256 .f32) (harg12 : arg12.IsWhole)
  (arg13 : Memref sig .tc .vmem S256x256 .bf16) (harg13 : arg13.IsWhole)
  (arg14 : Memref sig .tc .vmem S4x128x128 .bf16) (harg14 : arg14.IsWhole)
  (arg15 : Memref sig .tc .vmem S3x128x128 .bf16) (harg15 : arg15.IsWhole)
  (arg16 : Memref sig .tc .vmem S4x128x128 .f32) (harg16 : arg16.IsWhole)

/-- Before every trip of the pipelined loop over the row blocks: the buffers the trip reads hold what they held at entry, the
buffer it writes (`arg11`) is held at some contents, and nothing is said of the carried value. -/
abbrev inv_k0_t1 (c : Dev nD) (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (X_arg8 : BufTy.Contents (Elt F) arg8.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty)
    (_k : ℕ) (_acc : FVec F S128x128 .f32 × FVec F S128x128 .f32 × FVec F S128x128 .f32 × FVec F S128x128 .f32 × FVec F S128x128 .f32 × FVec F S128x128 .f32) : sProp 𝕄 :=
  iprop((arg2.view.loc (c : Thread nD τ) ↦[arg2.view.set]{fullShare} X_arg2) ∗
      (arg3.view.loc (c : Thread nD τ) ↦[arg3.view.set]{fullShare} X_arg3) ∗
      (arg4.view.loc (c : Thread nD τ) ↦[arg4.view.set]{fullShare} X_arg4) ∗
      (arg5.view.loc (c : Thread nD τ) ↦[arg5.view.set]{fullShare} X_arg5) ∗
      (arg7.view.loc (c : Thread nD τ) ↦[arg7.view.set]{fullShare} X_arg7) ∗
      (arg8.view.loc (c : Thread nD τ) ↦[arg8.view.set]{fullShare} X_arg8) ∗
      (arg12.view.loc (c : Thread nD τ) ↦[arg12.view.set]{fullShare} X_arg12) ∗
      (arg13.view.loc (c : Thread nD τ) ↦[arg13.view.set]{fullShare} X_arg13) ∗
      (arg14.view.loc (c : Thread nD τ) ↦[arg14.view.set]{fullShare} X_arg14) ∗
      (arg15.view.loc (c : Thread nD τ) ↦[arg15.view.set]{fullShare} X_arg15) ∗
      (arg16.view.loc (c : Thread nD τ) ↦[arg16.view.set]{fullShare} X_arg16) ∗
      (∃ f, (arg11.view.loc (c : Thread nD τ) ↦[arg11.view.set]{fullShare} f)))

set_option warn.classDefReducibility false in
/-- One trip of the pipelined loop over the row blocks keeps the invariant. -/
@[sl_loop] def loop_k0_t1 (𝒱 : Variants) (c : Dev nD) (bd : Option 𝒱.V) (E : Set ℕ) (v0 : BitVec 32) (v859 : IVec S1x128 32) (v860 : IVec S128x1 32)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg7 : BufTy.Contents (Elt F) arg7.view.ty) (X_arg8 : BufTy.Contents (Elt F) arg8.view.ty) (X_arg12 : BufTy.Contents (Elt F) arg12.view.ty) (X_arg13 : BufTy.Contents (Elt F) arg13.view.ty) (X_arg14 : BufTy.Contents (Elt F) arg14.view.ty) (X_arg15 : BufTy.Contents (Elt F) arg15.view.ty) (X_arg16 : BufTy.Contents (Elt F) arg16.view.ty)
    (init : FVec F S128x128 .f32 × FVec F S128x128 .f32 × FVec F S128x128 .f32 × FVec F S128x128 .f32 × FVec F S128x128 .f32 × FVec F S128x128 .f32) :
    LoopInv (M := 𝕄) Idealize.ShloMosaic.frame (wpE (defs₀ (F := F)) 𝒱 (c : Thread nD τ) bd) E
      k0_t1_loop.lb k0_t1_loop.ub k0_t1_loop.st k0_t1_ok init
      (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 v0 v859 v860) where
  inv := inv_k0_t1 (F := F) arg2 arg3 arg4 arg5 arg7 arg8 arg11 arg12 arg13 arg14 arg15 arg16 c X_arg2 X_arg3 X_arg4 X_arg5 X_arg7 X_arg8 X_arg12 X_arg13 X_arg14 X_arg15 X_arg16
  step k acc := by
    have hk : k.val < 8 := Nat.lt_of_lt_of_le k.isLt k0_t1_abs.2.1
    unfold k0_t1_body
    iintro ⟨Harg2, Harg3, Harg4, Harg5, Harg7, Harg8, Harg12, Harg13, Harg14, Harg15, Harg16, ⟨%f, Harg11⟩⟩
    sl_exec
    sl_step
    isplitl [Harg2]; · iexact Harg2
    isplitl [Harg3]; · iexact Harg3
    isplitl [Harg4]; · iexact Harg4
    isplitl [Harg5]; · iexact Harg5
    isplitl [Harg7]; · iexact Harg7
    isplitl [Harg8]; · iexact Harg8
    isplitl [Harg12]; · iexact Harg12
    isplitl [Harg13]; · iexact Harg13
    isplitl [Harg14]; · iexact Harg14
    isplitl [Harg15]; · iexact Harg15
    isplitl [Harg16]; · iexact Harg16
    iexists _; iexact Harg11

/-- Before every trip of the finishing loop: the buffers the trip reads hold what they held at entry, the
buffer it writes (`arg10`) is held at some contents, and nothing is said of the carried value. -/
abbrev inv_k0_t2 (c : Dev nD) (X_arg6 : BufTy.Contents (Elt F) arg6.view.ty) (X_arg9 : BufTy.Contents (Elt F) arg9.view.ty) (X_arg11 : BufTy.Contents (Elt F) arg11.view.ty)
    (_k : ℕ) (_acc : Unit) : sProp 𝕄 :=
  iprop((arg6.view.loc (c : Thread nD τ) ↦[arg6.view.set]{fullShare} X_arg6) ∗
      (arg9.view.loc (c : Thread nD τ) ↦[arg9.view.set]{fullShare} X_arg9) ∗
      (arg11.view.loc (c : Thread nD τ) ↦[arg11.view.set]{fullShare} X_arg11) ∗
      (∃ f, (arg10.view.loc (c : Thread nD τ) ↦[arg10.view.set]{fullShare} f)))

set_option warn.classDefReducibility false in
/-- One trip of the finishing loop keeps the invariant. -/
@[sl_loop] def loop_k0_t2 (𝒱 : Variants) (c : Dev nD) (bd : Option 𝒱.V) (E : Set ℕ)
    (X_arg6 : BufTy.Contents (Elt F) arg6.view.ty) (X_arg9 : BufTy.Contents (Elt F) arg9.view.ty) (X_arg11 : BufTy.Contents (Elt F) arg11.view.ty) :
    LoopInv (M := 𝕄) Idealize.ShloMosaic.frame (wpE (defs₀ (F := F)) 𝒱 (c : Thread nD τ) bd) E
      k0_t2_loop.lb k0_t2_loop.ub k0_t2_loop.st k0_t2_ok ()
      (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16) where
  inv := inv_k0_t2 (F := F) arg6 arg9 arg10 arg11 c X_arg6 X_arg9 X_arg11
  step k acc := by
    have hk : k.val < 16 := Nat.lt_of_lt_of_le k.isLt k0_t2_abs.2.1
    unfold k0_t2_body
    iintro ⟨Harg6, Harg9, Harg11, ⟨%f, Harg10⟩⟩
    sl_exec
    sl_step
    isplitl [Harg6]; · iexact Harg6
    isplitl [Harg9]; · iexact Harg9
    isplitl [Harg11]; · iexact Harg11
    iexists _; iexact Harg10

end Cert.DnIdeal.Run

end
-- ==== Proof.DnFrame.lean ====
module

public import proofs.«01_k».proof.Proof.Gen.DnIdeal.Launch
public import proofs.«01_k».proof.Proof.Gen.DnIdeal.Skeleton
public import proofs.«01_k».proof.Proof.DnLoops
public import proofs.«01_k».proof.Proof.Gen.DnIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

/-! The frame of the delta-rule mixer, for any float values: from any memory the run ends with every
argument array unchanged and every semaphore at zero. The body is run once, its two counted loops by
the invariants of `DnLoops`. -/

@[expose] public section

set_option maxRecDepth 16384

noncomputable section

namespace Cert.DnIdeal.Run

open Cert.DnIdeal Cert.DnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the grid is entered, after the host operations. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

/-- These host operations allocate nothing. -/
theorem hostOps0_fresh : (hostOps0 : List (HloOp τ sig (Elt F))).Forall fun op => op.fresh = ∅ := by
  simp only [List.Forall]; repeat' constructor
/-- These host operations allocate nothing. -/
theorem hostOps0_1_fresh : (hostOps0_1 : List (HloOp τ sig (Elt F))).Forall fun op => op.fresh = ∅ := by
  simp only [List.Forall]; repeat' constructor
/-- These host operations allocate nothing. -/
theorem hostOps0_2_fresh : (hostOps0_2 : List (HloOp τ sig (Elt F))).Forall fun op => op.fresh = ∅ := by
  simp only [List.Forall]; repeat' constructor
/-- These host operations allocate nothing. -/
theorem hostOps0_3_fresh : (hostOps0_3 : List (HloOp τ sig (Elt F))).Forall fun op => op.fresh = ∅ := by
  simp only [List.Forall]; repeat' constructor
/-- These host operations allocate nothing. -/
theorem hostOps0_4_fresh : (hostOps0_4 : List (HloOp τ sig (Elt F))).Forall fun op => op.fresh = ∅ := by
  simp only [List.Forall]; repeat' constructor

set_option maxHeartbeats 800000 in
/-- The host program up to the grid: the host operations, then the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4] (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the grid writes an argument array: the grid finds each as launched. -/
theorem V_args (c : Dev nD) :
    V m c main_arg0 = m ((c : Thread nD τ).loc main_arg0) ∧ V m c main_arg1 = m ((c : Thread nD τ).loc main_arg1)
    ∧ V m c main_arg2 = m ((c : Thread nD τ).loc main_arg2) ∧ V m c main_arg3 = m ((c : Thread nD τ).loc main_arg3)
    ∧ V m c main_arg4 = m ((c : Thread nD τ).loc main_arg4) ∧ V m c main_arg5 = m ((c : Thread nD τ).loc main_arg5)
    ∧ V m c main_arg6 = m ((c : Thread nD τ).loc main_arg6) ∧ V m c main_arg7 = m ((c : Thread nD τ).loc main_arg7) := by
  refine ⟨?_, ?_, ?_, ?_, ?_, ?_, ?_, ?_⟩ <;>
  exact StableHlo.after_of_forall_not_mem (b := Proc.devRef .tc _) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- Window `w`'s block at point `t`, read off its array as the grid finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- A run to the frame's postcondition leaves the argument arrays unchanged. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(Pipeline.RDat.FramePost.arr_in h c 1 rfl).trans ((hA c 1).trans ((V_args m c).1)),
      (Pipeline.RDat.FramePost.arr_in h c 2 rfl).trans ((hA c 2).trans ((V_args m c).2.1)),
      (Pipeline.RDat.FramePost.arr_in h c 3 rfl).trans ((hA c 3).trans ((V_args m c).2.2.1)),
      (Pipeline.RDat.FramePost.arr_in h c 4 rfl).trans ((hA c 4).trans ((V_args m c).2.2.2.1)),
      (Pipeline.RDat.FramePost.arr_in h c 0 rfl).trans ((hA c 0).trans ((V_args m c).2.2.2.2.1)),
      ((h c).2 main_arg5 (Pipeline.mem_restRefs_of main_arg5 (by decide) (by decide))).trans ((V_args m c).2.2.2.2.2.1),
      ((h c).2 main_arg6 (Pipeline.mem_restRefs_of main_arg6 (by decide) (by decide))).trans ((V_args m c).2.2.2.2.2.2.1),
      ((h c).2 main_arg7 (Pipeline.mem_restRefs_of main_arg7 (by decide) (by decide))).trans ((V_args m c).2.2.2.2.2.2.2)⟩) h

/-- Each window's current staging buffer at point `t`, and that it is a whole buffer. -/
abbrev ms0_0 (t : Fin cfg0.N) : Memref sig .tc .vmem S1x4096x128 .f32 := win0_0.stage (cfg0.slots t 0)
/-- That buffer is a whole buffer. -/
abbrev hs0_0 (t : Fin cfg0.N) : (ms0_0 t).IsWhole := hstage0_0 ((cfg0.slots t 0).cast nbuf0_0)
/-- The window's current staging buffer at point `t`. -/
abbrev ms0_1 (t : Fin cfg0.N) : Memref sig .tc .vmem S1x4096x384 .bf16 := win0_1.stage (cfg0.slots t 1)
/-- That buffer is a whole buffer. -/
abbrev hs0_1 (t : Fin cfg0.N) : (ms0_1 t).IsWhole := hstage0_1 ((cfg0.slots t 1).cast nbuf0_1)
/-- The window's current staging buffer at point `t`. -/
abbrev ms0_2 (t : Fin cfg0.N) : Memref sig .tc .vmem S1x4096x384 .bf16 := win0_2.stage (cfg0.slots t 2)
/-- That buffer is a whole buffer. -/
abbrev hs0_2 (t : Fin cfg0.N) : (ms0_2 t).IsWhole := hstage0_2 ((cfg0.slots t 2).cast nbuf0_2)
/-- The window's current staging buffer at point `t`. -/
abbrev ms0_3 (t : Fin cfg0.N) : Memref sig .tc .vmem S1x4096x384 .bf16 := win0_3.stage (cfg0.slots t 3)
/-- That buffer is a whole buffer. -/
abbrev hs0_3 (t : Fin cfg0.N) : (ms0_3 t).IsWhole := hstage0_3 ((cfg0.slots t 3).cast nbuf0_3)
/-- The window's current staging buffer at point `t`. -/
abbrev ms0_4 (t : Fin cfg0.N) : Memref sig .tc .vmem S1x4096x384 .bf16 := win0_4.stage (cfg0.slots t 4)
/-- That buffer is a whole buffer. -/
abbrev hs0_4 (t : Fin cfg0.N) : (ms0_4 t).IsWhole := hstage0_4 ((cfg0.slots t 4).cast nbuf0_4)
/-- The window's current staging buffer at point `t`. -/
abbrev ms0_5 (t : Fin cfg0.N) : Memref sig .tc .vmem S1x128 .f32 := win0_5.stage (cfg0.slots t 5)
/-- That buffer is a whole buffer. -/
abbrev hs0_5 (t : Fin cfg0.N) : (ms0_5 t).IsWhole := hstage0_5 ((cfg0.slots t 5).cast nbuf0_5)
/-- The window's current staging buffer at point `t`. -/
abbrev ms0_6 (t : Fin cfg0.N) : Memref sig .tc .vmem S1x128 .f32 := win0_6.stage (cfg0.slots t 6)
/-- That buffer is a whole buffer. -/
abbrev hs0_6 (t : Fin cfg0.N) : (ms0_6 t).IsWhole := hstage0_6 ((cfg0.slots t 6).cast nbuf0_6)
/-- The window's current staging buffer at point `t`. -/
abbrev ms0_7 (t : Fin cfg0.N) : Memref sig .tc .vmem S1x128 .f32 := win0_7.stage (cfg0.slots t 7)
/-- That buffer is a whole buffer. -/
abbrev hs0_7 (t : Fin cfg0.N) : (ms0_7 t).IsWhole := hstage0_7 ((cfg0.slots t 7).cast nbuf0_7)
/-- The window's current staging buffer at point `t`. -/
abbrev ms0_8 (t : Fin cfg0.N) : Memref sig .tc .vmem S1x4096x384 .bf16 := win0_8.stage (cfg0.slots t 8)
/-- That buffer is a whole buffer. -/
abbrev hs0_8 (t : Fin cfg0.N) : (ms0_8 t).IsWhole := hstage0_8 ((cfg0.slots t 8).cast nbuf0_8)
/-- The scratch operands, whole buffers of the kernel's own. -/
abbrev scM0_0 : Memref sig .tc .vmem S4096x384 .f32 := Memref.whole cc0_scratch0
/-- A scratch operand, a whole buffer of the kernel's own. -/
abbrev scM0_1 : Memref sig .tc .vmem S2x256x256 .f32 := Memref.whole cc0_scratch1
/-- A scratch operand, a whole buffer of the kernel's own. -/
abbrev scM0_2 : Memref sig .tc .vmem S256x256 .bf16 := Memref.whole cc0_scratch2
/-- A scratch operand, a whole buffer of the kernel's own. -/
abbrev scM0_3 : Memref sig .tc .vmem S4x128x128 .bf16 := Memref.whole cc0_scratch3
/-- A scratch operand, a whole buffer of the kernel's own. -/
abbrev scM0_4 : Memref sig .tc .vmem S3x128x128 .bf16 := Memref.whole cc0_scratch4
/-- A scratch operand, a whole buffer of the kernel's own. -/
abbrev scM0_5 : Memref sig .tc .vmem S4x128x128 .f32 := Memref.whole cc0_scratch5

/-- The kept invariant: the scratch buffers at some contents, and the random-number register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

set_option maxHeartbeats 1000000 in
/-- The body on whole staging buffers: the inputs keep their contents, the result and the scratch buffers end at some contents. -/
theorem kernelRun0_A (c : Dev nD) (i : grid0.Coords) (arg2 : Memref sig .tc .vmem S1x4096x128 .f32) (harg2 : arg2.IsWhole) (arg3 : Memref sig .tc .vmem S1x4096x384 .bf16) (harg3 : arg3.IsWhole) (arg4 : Memref sig .tc .vmem S1x4096x384 .bf16) (harg4 : arg4.IsWhole) (arg5 : Memref sig .tc .vmem S1x4096x384 .bf16) (harg5 : arg5.IsWhole) (arg6 : Memref sig .tc .vmem S1x4096x384 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x4096x384 .bf16) (harg10 : arg10.IsWhole) (arg11 : Memref sig .tc .vmem S4096x384 .f32) (harg11 : arg11.IsWhole) (arg12 : Memref sig .tc .vmem S2x256x256 .f32) (harg12 : arg12.IsWhole) (arg13 : Memref sig .tc .vmem S256x256 .bf16) (harg13 : arg13.IsWhole) (arg14 : Memref sig .tc .vmem S4x128x128 .bf16) (harg14 : arg14.IsWhole) (arg15 : Memref sig .tc .vmem S3x128x128 .bf16) (harg15 : arg15.IsWhole) (arg16 : Memref sig .tc .vmem S4x128x128 .f32) (harg16 : arg16.IsWhole)
    (x0 : Vec F S1x4096x128 .f32) (x1 : Vec F S1x4096x384 .bf16) (x2 : Vec F S1x4096x384 .bf16) (x3 : Vec F S1x4096x384 .bf16) (x4 : Vec F S1x4096x384 .bf16) (x5 : Vec F S1x128 .f32) (x6 : Vec F S1x128 .f32) (x7 : Vec F S1x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_dn_mixer i arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_dn_mixer_eq_skeleton]; unfold cc0_dn_mixer_skel
    simp only [k0_part127_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _, _; isplitr; swap; · iexact H8
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    iexists _, _; isplitr; swap; · iexact HS5
    ipureintro; rfl

/-- The output window, whose contents are left unnamed. -/
def forgets0 : Fin 9 → Bool := fun w => w.val == 8

/-- What the pipeline is told: inputs keep their blocks, the output is unnamed, the scratch is the body's own. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ _ := Pipeline.ΦA spec0 c
  q _ := fullShare
  owed _ := 0

/-- The arrays the pipeline starts from are those the grid finds. -/
theorem A_eq (c : Dev nD) (w : Fin cfg0.W) : (dats m 0 c).A w = V m c (Pipeline.arrRef spec0 w) := by
  dsimp only [dats]

/-- What the body leaves in each input's buffer: its block. -/
theorem after0_0 (c : Dev nD) (t : Fin cfg0.N) : (dats m 0 c).after 0 t = iblk m c 0 t := by dsimp only [dats]
/-- What the body leaves in this input's buffer: its block. -/
theorem after0_1 (c : Dev nD) (t : Fin cfg0.N) : (dats m 0 c).after 1 t = iblk m c 1 t := by dsimp only [dats]
/-- What the body leaves in this input's buffer: its block. -/
theorem after0_2 (c : Dev nD) (t : Fin cfg0.N) : (dats m 0 c).after 2 t = iblk m c 2 t := by dsimp only [dats]
/-- What the body leaves in this input's buffer: its block. -/
theorem after0_3 (c : Dev nD) (t : Fin cfg0.N) : (dats m 0 c).after 3 t = iblk m c 3 t := by dsimp only [dats]
/-- What the body leaves in this input's buffer: its block. -/
theorem after0_4 (c : Dev nD) (t : Fin cfg0.N) : (dats m 0 c).after 4 t = iblk m c 4 t := by dsimp only [dats]
/-- What the body leaves in this input's buffer: its block. -/
theorem after0_5 (c : Dev nD) (t : Fin cfg0.N) : (dats m 0 c).after 5 t = iblk m c 5 t := by dsimp only [dats]
/-- What the body leaves in this input's buffer: its block. -/
theorem after0_6 (c : Dev nD) (t : Fin cfg0.N) : (dats m 0 c).after 6 t = iblk m c 6 t := by dsimp only [dats]
/-- What the body leaves in this input's buffer: its block. -/
theorem after0_7 (c : Dev nD) (t : Fin cfg0.N) : (dats m 0 c).after 7 t = iblk m c 7 t := by dsimp only [dats]

/-- Before the body each input's buffer holds its block. -/
theorem before_in (c : Dev nD) (t : Fin cfg0.N) :
    (∀ d, (dats m 0 c).before 0 t d = iblk m c 0 t)
    ∧ (∀ d, (dats m 0 c).before 1 t d = iblk m c 1 t)
    ∧ (∀ d, (dats m 0 c).before 2 t d = iblk m c 2 t)
    ∧ (∀ d, (dats m 0 c).before 3 t d = iblk m c 3 t)
    ∧ (∀ d, (dats m 0 c).before 4 t d = iblk m c 4 t)
    ∧ (∀ d, (dats m 0 c).before 5 t d = iblk m c 5 t)
    ∧ (∀ d, (dats m 0 c).before 6 t d = iblk m c 6 t)
    ∧ (∀ d, (dats m 0 c).before 7 t d = iblk m c 7 t) := by
  refine ⟨?_, ?_, ?_, ?_, ?_, ?_, ?_, ?_⟩ <;> intro d
  · exact ((dats m 0 c).before_in_eq_fetched 0 rfl (fun _ => rfl) (fun _ _ _ => rfl)
      (fun t => by rw [after0_0]; unfold Dat.blockOf iblk; rw [A_eq]; try rfl) t d).trans
      (by unfold Dat.fetched Dat.blockOf iblk; rw [A_eq]; try rfl)
  · exact ((dats m 0 c).before_in_eq_fetched 1 rfl (fun _ => rfl) (fun _ _ _ => rfl)
      (fun t => by rw [after0_1]; unfold Dat.blockOf iblk; rw [A_eq]; try rfl) t d).trans
      (by unfold Dat.fetched Dat.blockOf iblk; rw [A_eq]; try rfl)
  · exact ((dats m 0 c).before_in_eq_fetched 2 rfl (fun _ => rfl) (fun _ _ _ => rfl)
      (fun t => by rw [after0_2]; unfold Dat.blockOf iblk; rw [A_eq]; try rfl) t d).trans
      (by unfold Dat.fetched Dat.blockOf iblk; rw [A_eq]; try rfl)
  · exact ((dats m 0 c).before_in_eq_fetched 3 rfl (fun _ => rfl) (fun _ _ _ => rfl)
      (fun t => by rw [after0_3]; unfold Dat.blockOf iblk; rw [A_eq]; try rfl) t d).trans
      (by unfold Dat.fetched Dat.blockOf iblk; rw [A_eq]; try rfl)
  · exact ((dats m 0 c).before_in_eq_fetched 4 rfl (fun _ => rfl) (fun _ _ _ => rfl)
      (fun t => by rw [after0_4]; unfold Dat.blockOf iblk; rw [A_eq]; try rfl) t d).trans
      (by unfold Dat.fetched Dat.blockOf iblk; rw [A_eq]; try rfl)
  · exact ((dats m 0 c).before_in_eq_fetched 5 rfl (fun _ => rfl) (fun _ _ _ => rfl)
      (fun t => by rw [after0_5]; unfold Dat.blockOf iblk; rw [A_eq]; try rfl) t d).trans
      (by unfold Dat.fetched Dat.blockOf iblk; rw [A_eq]; try rfl)
  · exact ((dats m 0 c).before_in_eq_fetched 6 rfl (fun _ => rfl) (fun _ _ _ => rfl)
      (fun t => by rw [after0_6]; unfold Dat.blockOf iblk; rw [A_eq]; try rfl) t d).trans
      (by unfold Dat.fetched Dat.blockOf iblk; rw [A_eq]; try rfl)
  · exact ((dats m 0 c).before_in_eq_fetched 7 rfl (fun _ => rfl) (fun _ _ _ => rfl)
      (fun t => by rw [after0_7]; unfold Dat.blockOf iblk; rw [A_eq]; try rfl) t d).trans
      (by unfold Dat.fetched Dat.blockOf iblk; rw [A_eq]; try rfl)

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare d))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ d, owns (c : Thread nD τ) (ms0_8 t) fullShare d))

set_option maxHeartbeats 1200000 in
/-- The body at any point: the inputs hold their blocks, so the body's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  obtain ⟨b0, b1, b2, b3, b4, b5, b6, b7⟩ := before_in m c t
  simp only [b0, b1, b2, b3, b4, b5, b6, b7]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, PhiA0_eq]
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun0_A c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, H8, HS0, HS1, HS2, HS3, HS4, HS5⟩
  isplitl [HS0 HS1 HS2 HS3 HS4 HS5 Hg]
  · isplitl [HS0 HS1 HS2 HS3 HS4 HS5]
    · isplitl [HS0]
      · iexact HS0
      isplitl [HS1]
      · iexact HS1
      isplitl [HS2]
      · iexact HS2
      isplitl [HS3]
      · iexact HS3
      isplitl [HS4]
      · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's entry at point `t` is the body on that point's buffers. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The whole run: inputs unchanged, and every semaphore at zero at the end. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The whole run without the semaphores. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (fun c => (dats m 0 c).toRForget forgets0) (A_eq m) (run_main m ρ)

/-- The frame, at any float values: the arguments end unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.DnIdeal.Run

end
-- ==== Proof.lean ====
module

public import proofs.«01_k».proof.Defs
public import proofs.«01_k».proof.Proof.Gen.Gm.Frame
public import proofs.«01_k».proof.Proof.Gen.GmIdeal.Value
public import proofs.«01_k».proof.Proof.Gen.GmRefIdeal.Run
public import proofs.«01_k».proof.Proof.GmValue
public import proofs.«01_k».proof.Proof.Gen.Proj.Frame
public import proofs.«01_k».proof.Proof.Gen.ProjIdeal.Value
public import proofs.«01_k».proof.Proof.Gen.ProjRefIdeal.Run
public import proofs.«01_k».proof.Proof.ProjValue
public import proofs.«01_k».proof.Proof.Gen.Kv.Frame
public import proofs.«01_k».proof.Proof.Gen.KvIdeal.Value
public import proofs.«01_k».proof.Proof.Gen.KvRefIdeal.Run
public import proofs.«01_k».proof.Proof.KvValue
public import proofs.«01_k».proof.Proof.Gen.Out.Frame
public import proofs.«01_k».proof.Proof.Gen.OutIdeal.Value
public import proofs.«01_k».proof.Proof.Gen.OutRefIdeal.Run
public import proofs.«01_k».proof.Proof.OutValue
public import proofs.«01_k».proof.Proof.Gen.Ffn.Frame
public import proofs.«01_k».proof.Proof.Gen.FfnIdeal.Value
public import proofs.«01_k».proof.Proof.Gen.FfnRefIdeal.Run
public import proofs.«01_k».proof.Proof.FfnValue
public import proofs.«01_k».proof.Proof.Gen.FfnMid.Frame
public import proofs.«01_k».proof.Proof.Gen.FfnMidIdeal.Value
public import proofs.«01_k».proof.Proof.Gen.FfnMidRefIdeal.Run
public import proofs.«01_k».proof.Proof.FfnMidValue
public import proofs.«01_k».proof.Proof.Gen.DnProj
public import proofs.«01_k».proof.Proof.Gen.DnProjIdeal.Frame
public import proofs.«01_k».proof.Proof.Gen.DnProjRefIdeal.Run
public import proofs.«01_k».proof.Proof.DnProjBody
public import proofs.«01_k».proof.Proof.DnProjValue
public import proofs.«01_k».proof.Proof.Gen.Attn.Frame
public import proofs.«01_k».proof.Proof.Gen.AttnIdeal.Value
public import proofs.«01_k».proof.Proof.Gen.AttnRefIdeal.Run
public import proofs.«01_k».proof.Proof.Gen.Pre_attn_pre
public import proofs.«01_k».proof.Proof.AttnValue
public import proofs.«01_k».proof.Proof.Gen.AttnDn.Frame
public import proofs.«01_k».proof.Proof.Gen.AttnDnIdeal.Value
public import proofs.«01_k».proof.Proof.Gen.AttnDnRefIdeal.Run
public import proofs.«01_k».proof.Proof.Gen.Pre_attndn_pre
public import proofs.«01_k».proof.Proof.AttnDnValue
public import proofs.«01_k».proof.Proof.Gen.Prep.Frame
public import proofs.«01_k».proof.Proof.Gen.PrepIdeal.Frame
public import proofs.«01_k».proof.Proof.Gen.Dn
public import proofs.«01_k».proof.Proof.Gen.DnIdeal
public import proofs.«01_k».proof.Proof.DnFrame
public import Idealize.ShloMosaic.Adequacy
public import Idealize.ShloMosaic.Init
public import Idealize.ShloMosaic.Lib.Quiescent

@[expose] public section

noncomputable section

namespace Cert.Proof

open Idealize.ShloMosaic Idealize.SL.Sem

/-- The reference of `Gm` terminates, keeps its arguments, and has no semaphores. -/
theorem quiescent_GmRefIdeal : quiescent_GmRefIdeal := fun m ρ _ =>
  (θ_run Cert.GmRefIdeal.defs _ _).mono (fun r h => ⟨fun c => (h c).2, sem_eq_zero_of_no_sems (by decide) r.2⟩)
    (Cert.GmRefIdeal.Value.run (F := Ideal) m ρ)

/-- The reference of `Proj` terminates, keeps its arguments, and has no semaphores. -/
theorem quiescent_ProjRefIdeal : quiescent_ProjRefIdeal := fun m ρ _ =>
  (θ_run Cert.ProjRefIdeal.defs _ _).mono (fun r h => ⟨fun c => (h c).2, sem_eq_zero_of_no_sems (by decide) r.2⟩)
    (Cert.ProjRefIdeal.Value.run (F := Ideal) m ρ)

/-- The reference of `Kv` terminates, keeps its arguments, and has no semaphores. -/
theorem quiescent_KvRefIdeal : quiescent_KvRefIdeal := fun m ρ _ =>
  (θ_run Cert.KvRefIdeal.defs _ _).mono (fun r h => ⟨fun c => (h c).2, sem_eq_zero_of_no_sems (by decide) r.2⟩)
    (Cert.KvRefIdeal.Value.run (F := Ideal) m ρ)

/-- The reference of `Out` terminates, keeps its arguments, and has no semaphores. -/
theorem quiescent_OutRefIdeal : quiescent_OutRefIdeal := fun m ρ _ =>
  (θ_run Cert.OutRefIdeal.defs _ _).mono (fun r h => ⟨fun c => (h c).2, sem_eq_zero_of_no_sems (by decide) r.2⟩)
    (Cert.OutRefIdeal.Value.run (F := Ideal) m ρ)

/-- The reference of `Ffn` terminates, keeps its arguments, and has no semaphores. -/
theorem quiescent_FfnRefIdeal : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The reference of `FfnMid` terminates, keeps its arguments, and has no semaphores. -/
theorem quiescent_FfnMidRefIdeal : quiescent_FfnMidRefIdeal := fun m ρ _ =>
  (θ_run Cert.FfnMidRefIdeal.defs _ _).mono (fun r h => ⟨fun c => (h c).2, sem_eq_zero_of_no_sems (by decide) r.2⟩)
    (Cert.FfnMidRefIdeal.Value.run (F := Ideal) m ρ)

/-- The reference of `DnProj` terminates, keeps its arguments, and has no semaphores. -/
theorem quiescent_DnProjRefIdeal : quiescent_DnProjRefIdeal := fun m ρ _ =>
  (θ_run Cert.DnProjRefIdeal.defs _ _).mono (fun r h => ⟨fun c => (h c).2.2, sem_eq_zero_of_no_sems (by decide) r.2⟩)
    (Cert.DnProjRefIdeal.Value.run (F := Ideal) m ρ)

/-- The reference of `Attn` terminates, keeps its arguments, and has no semaphores. -/
theorem quiescent_AttnRefIdeal : quiescent_AttnRefIdeal := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- The reference of `AttnDn` terminates, keeps its arguments, and has no semaphores. -/
theorem quiescent_AttnDnRefIdeal : quiescent_AttnDnRefIdeal := fun m ρ _ =>
  (θ_run Cert.AttnDnRefIdeal.defs _ _).mono (fun r h => ⟨fun c => (h c).2, sem_eq_zero_of_no_sems (by decide) r.2⟩)
    (Cert.AttnDnRefIdeal.Value.run (F := Ideal) m ρ)

set_option smartUnfolding false in
/-- The frame of the delta rule layers' projection: its text is the idealised kernel's, so it has the same run. -/
theorem quiescent_DnProj : quiescent_DnProj := fun m ρ _ =>
  (θ_run Cert.DnProjIdeal.defs _ _).mono (fun _ h => h) (Cert.DnProjIdeal.Body.frame (F := Bits) m ρ)

set_option maxRecDepth 16384 in
set_option maxHeartbeats 4000000 in
set_option smartUnfolding false in
/-- The frame of the gated delta rule: its text is the idealised kernel's, so it has the same run. -/
theorem quiescent_Dn : quiescent_Dn := fun m ρ _ =>
  (θ_run Cert.DnIdeal.defs _ _).mono (fun _ h => h) (Cert.DnIdeal.Run.frame (F := Bits) m ρ)

/-- Every claim of the certificate. -/
theorem claim : Cert.Claim := ⟨Cert.Gm.Gen.facts, Cert.GmIdeal.Gen.facts, Cert.GmRefIdeal.Gen.facts,
  Cert.Proj.Gen.facts, Cert.ProjIdeal.Gen.facts, Cert.ProjRefIdeal.Gen.facts,
  Cert.Kv.Gen.facts, Cert.KvIdeal.Gen.facts, Cert.KvRefIdeal.Gen.facts,
  Cert.Out.Gen.facts, Cert.OutIdeal.Gen.facts, Cert.OutRefIdeal.Gen.facts,
  Cert.Ffn.Gen.facts, Cert.FfnIdeal.Gen.facts, Cert.FfnRefIdeal.Gen.facts,
  Cert.FfnMid.Gen.facts, Cert.FfnMidIdeal.Gen.facts, Cert.FfnMidRefIdeal.Gen.facts,
  Cert.DnProj.Gen.facts, Cert.DnProjIdeal.Gen.facts, Cert.DnProjRefIdeal.Gen.facts,
  Cert.Attn.Gen.facts, Cert.AttnIdeal.Gen.facts, Cert.AttnRefIdeal.Gen.facts,
  Cert.AttnDn.Gen.facts, Cert.AttnDnIdeal.Gen.facts, Cert.AttnDnRefIdeal.Gen.facts,
  Cert.Prep.Gen.facts, Cert.PrepIdeal.Gen.facts,
  Cert.Dn.Gen.facts, Cert.DnIdeal.Gen.facts, Cert.Pre_attn_pre.Gen.facts, Cert.Pre_attndn_pre.Gen.facts,
  fun m ρ _ => Cert.Gm.Gen.frame m ρ, fun m ρ _ => Cert.GmIdeal.Gen.frame m ρ, quiescent_GmRefIdeal,
  fun m ρ _ => Cert.Proj.Gen.frame m ρ, fun m ρ _ => Cert.ProjIdeal.Gen.frame m ρ, quiescent_ProjRefIdeal,
  fun m ρ _ => Cert.Kv.Gen.frame m ρ, fun m ρ _ => Cert.KvIdeal.Gen.frame m ρ, quiescent_KvRefIdeal,
  fun m ρ _ => Cert.Out.Gen.frame m ρ, fun m ρ _ => Cert.OutIdeal.Gen.frame m ρ, quiescent_OutRefIdeal,
  fun m ρ _ => Cert.Ffn.Gen.frame m ρ, fun m ρ _ => Cert.FfnIdeal.Gen.frame m ρ, quiescent_FfnRefIdeal,
  fun m ρ _ => Cert.FfnMid.Gen.frame m ρ, fun m ρ _ => Cert.FfnMidIdeal.Gen.frame m ρ, quiescent_FfnMidRefIdeal,
  quiescent_DnProj, fun m ρ _ => Cert.DnProjIdeal.Body.frame m ρ, quiescent_DnProjRefIdeal,
  fun m ρ _ => Cert.Attn.Gen.frame m ρ, fun m ρ _ => Cert.AttnIdeal.Gen.frame m ρ, fun m ρ _ => Cert.AttnIdeal.Gen.frame m ρ,
  quiescent_AttnRefIdeal, fun m ρ _ => quiescent_AttnRefIdeal m ρ trivial,
  fun m ρ _ => Cert.AttnDn.Gen.frame m ρ, fun m ρ _ => Cert.AttnDnIdeal.Gen.frame m ρ, fun m ρ _ => Cert.AttnDnIdeal.Gen.frame m ρ,
  quiescent_AttnDnRefIdeal, fun m ρ _ => quiescent_AttnDnRefIdeal m ρ trivial,
  fun m ρ _ => Cert.Prep.Gen.frame m ρ, fun m ρ _ => Cert.PrepIdeal.Gen.frame m ρ,
  quiescent_Dn, fun m ρ _ => Cert.DnIdeal.Run.frame m ρ,
  (trivial : preserves_Gm_GmIdeal), Cert.GmIdeal.Value.algebraic,
  (trivial : preserves_Proj_ProjIdeal), Cert.ProjIdeal.Value.algebraic,
  (trivial : preserves_Kv_KvIdeal), Cert.KvIdeal.Value.algebraic,
  (trivial : preserves_Out_OutIdeal), Cert.OutIdeal.Value.algebraic,
  (trivial : preserves_Ffn_FfnIdeal), Cert.FfnIdeal.Value.algebraic,
  (trivial : preserves_FfnMid_FfnMidIdeal), Cert.FfnMidIdeal.Value.algebraic,
  (trivial : preserves_DnProj_DnProjIdeal), Cert.DnProjIdeal.Value.algebraic,
  IdealRules.named_const.statement Cert.AttnIdeal.κ "scale" .f32 0x3DB504F3#32 (((Real.sqrt 128)⁻¹ : ℝ) : EReal) rfl, Cert.AttnIdeal.Value.algebraic,
  IdealRules.named_const.statement Cert.AttnDnIdeal.κ "scale" .f32 0x3DB504F3#32 (((Real.sqrt 128)⁻¹ : ℝ) : EReal) rfl, Cert.AttnDnIdeal.Value.algebraic,
  IdealRules.named_const.statement Cert.PrepIdeal.κ "scale" .f32 0x3DB504F3#32 (((Real.sqrt 128)⁻¹ : ℝ) : EReal) rfl,
  (trivial : preserves_Dn_DnIdeal)⟩

end Cert.Proof

end
